-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_DownEven (m : (ℓ : Loc Cert.DownEven.nD Cert.DownEven.τ Cert.DownEven.sig) → Buf (Elt Bits) ℓ) : Prop :=
  True

def Pre_DownEvenIdeal (m : (ℓ : Loc Cert.DownEvenIdeal.nD Cert.DownEvenIdeal.τ Cert.DownEvenIdeal.sig) → Buf (Elt Ideal) ℓ) : Prop :=
  True

def Pre_DownEvenRefIdeal (m : (ℓ : Loc Cert.DownEvenRefIdeal.nD Cert.DownEvenRefIdeal.τ Cert.DownEvenRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4))
      ∧ r.2.sem = fun _ => 0)

def quiescent_DownEven [hDownEven : Cert.DownEven.Facts] : Prop :=
  ∀ (m : (ℓ : Loc Cert.DownEven.nD Cert.DownEven.τ Cert.DownEven.sig) → Buf (Elt Bits) ℓ) (g : Dev Cert.DownEven.nD → PrngReg), Pre_DownEven m →
    θ_run (Cert.DownEven.defs (F := Bits)) (onTc (τ := Cert.DownEven.τ) (Cert.DownEven.main (F := Bits))) ⟨m, fun _ => 0, g⟩ (fun r => (∀ c : Dev Cert.DownEven.nD,
      r.2.mem ((c.tc : Thread Cert.DownEven.nD Cert.DownEven.τ).loc Cert.DownEven.main_arg0) = m ((c.tc : Thread Cert.DownEven.nD Cert.DownEven.τ).loc Cert.DownEven.main_arg0)
      ∧ r.2.mem ((c.tc : Thread Cert.DownEven.nD Cert.DownEven.τ).loc Cert.DownEven.main_arg1) = m ((c.tc : Thread Cert.DownEven.nD Cert.DownEven.τ).loc Cert.DownEven.main_arg1)
      ∧ r.2.mem ((c.tc : Thread Cert.DownEven.nD Cert.DownEven.τ).loc Cert.DownEven.main_arg2) = m ((c.tc : Thread Cert.DownEven.nD Cert.DownEven.τ).loc Cert.DownEven.main_arg2)
      ∧ r.2.mem ((c.tc : Thread Cert.DownEven.nD Cert.DownEven.τ).loc Cert.DownEven.main_arg3) = m ((c.tc : Thread Cert.DownEven.nD Cert.DownEven.τ).loc Cert.DownEven.main_arg3))
      ∧ r.2.sem = fun _ => 0)

def quiescent_DownEvenIdeal [hDownEvenIdeal : Cert.DownEvenIdeal.Facts] : Prop :=
  ∀ (m : (ℓ : Loc Cert.DownEvenIdeal.nD Cert.DownEvenIdeal.τ Cert.DownEvenIdeal.sig) → Buf (Elt Ideal) ℓ) (g : Dev Cert.DownEvenIdeal.nD → PrngReg), Pre_DownEvenIdeal m →
    θ_run (Cert.DownEvenIdeal.defs (F := Ideal)) (onTc (τ := Cert.DownEvenIdeal.τ) (Cert.DownEvenIdeal.main (F := Ideal))) ⟨m, fun _ => 0, g⟩ (fun r => (∀ c : Dev Cert.DownEvenIdeal.nD,
      r.2.mem ((c.tc : Thread Cert.DownEvenIdeal.nD Cert.DownEvenIdeal.τ).loc Cert.DownEvenIdeal.main_arg0) = m ((c.tc : Thread Cert.DownEvenIdeal.nD Cert.DownEvenIdeal.τ).loc Cert.DownEvenIdeal.main_arg0)
      ∧ r.2.mem ((c.tc : Thread Cert.DownEvenIdeal.nD Cert.DownEvenIdeal.τ).loc Cert.DownEvenIdeal.main_arg1) = m ((c.tc : Thread Cert.DownEvenIdeal.nD Cert.DownEvenIdeal.τ).loc Cert.DownEvenIdeal.main_arg1)
      ∧ r.2.mem ((c.tc : Thread Cert.DownEvenIdeal.nD Cert.DownEvenIdeal.τ).loc Cert.DownEvenIdeal.main_arg2) = m ((c.tc : Thread Cert.DownEvenIdeal.nD Cert.DownEvenIdeal.τ).loc Cert.DownEvenIdeal.main_arg2)
      ∧ r.2.mem ((c.tc : Thread Cert.DownEvenIdeal.nD Cert.DownEvenIdeal.τ).loc Cert.DownEvenIdeal.main_arg3) = m ((c.tc : Thread Cert.DownEvenIdeal.nD Cert.DownEvenIdeal.τ).loc Cert.DownEvenIdeal.main_arg3))
      ∧ r.2.sem = fun _ => 0)

def quiescent_DownEvenRefIdeal [hDownEvenRefIdeal : Cert.DownEvenRefIdeal.Facts] : Prop :=
  ∀ (m : (ℓ : Loc Cert.DownEvenRefIdeal.nD Cert.DownEvenRefIdeal.τ Cert.DownEvenRefIdeal.sig) → Buf (Elt Ideal) ℓ) (g : Dev Cert.DownEvenRefIdeal.nD → PrngReg), Pre_DownEvenRefIdeal m →
    θ_run (Cert.DownEvenRefIdeal.defs (F := Ideal)) (onTc (τ := Cert.DownEvenRefIdeal.τ) (Cert.DownEvenRefIdeal.main (F := Ideal))) ⟨m, fun _ => 0, g⟩ (fun r => (∀ c : Dev Cert.DownEvenRefIdeal.nD,
      r.2.mem ((c.tc : Thread Cert.DownEvenRefIdeal.nD Cert.DownEvenRefIdeal.τ).loc Cert.DownEvenRefIdeal.main_arg0) = m ((c.tc : Thread Cert.DownEvenRefIdeal.nD Cert.DownEvenRefIdeal.τ).loc Cert.DownEvenRefIdeal.main_arg0)
      ∧ r.2.mem ((c.tc : Thread Cert.DownEvenRefIdeal.nD Cert.DownEvenRefIdeal.τ).loc Cert.DownEvenRefIdeal.main_arg1) = m ((c.tc : Thread Cert.DownEvenRefIdeal.nD Cert.DownEvenRefIdeal.τ).loc Cert.DownEvenRefIdeal.main_arg1)
      ∧ r.2.mem ((c.tc : Thread Cert.DownEvenRefIdeal.nD Cert.DownEvenRefIdeal.τ).loc Cert.DownEvenRefIdeal.main_arg2) = m ((c.tc : Thread Cert.DownEvenRefIdeal.nD Cert.DownEvenRefIdeal.τ).loc Cert.DownEvenRefIdeal.main_arg2)
      ∧ r.2.mem ((c.tc : Thread Cert.DownEvenRefIdeal.nD Cert.DownEvenRefIdeal.τ).loc Cert.DownEvenRefIdeal.main_arg3) = m ((c.tc : Thread Cert.DownEvenRefIdeal.nD Cert.DownEvenRefIdeal.τ).loc Cert.DownEvenRefIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3)
      ∧ r.2.mem ((c.tc : Thread Cert.InEvenRefIdeal.nD Cert.InEvenRefIdeal.τ).loc Cert.InEvenRefIdeal.main_arg4) = m ((c.tc : Thread Cert.InEvenRefIdeal.nD Cert.InEvenRefIdeal.τ).loc Cert.InEvenRefIdeal.main_arg4))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)) →
    ∃ (v0 : (c : Dev Cert.RetIdeal.nD) → Buf (Elt Ideal) ((c.tc : Thread Cert.RetIdeal.nD Cert.RetIdeal.τ).loc Cert.RetIdeal.main_v57_0)) (v1 : (c : Dev Cert.RetIdeal.nD) → Buf (Elt Ideal) ((c.tc : Thread Cert.RetIdeal.nD Cert.RetIdeal.τ).loc Cert.RetIdeal.main_v57_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v57_0) = v0 c
          ∧ r.2.mem ((c.tc : Thread Cert.RetIdeal.nD Cert.RetIdeal.τ).loc Cert.RetIdeal.main_v57_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v207) = v0 c
          ∧ r.2.mem ((c.tc : Thread Cert.RetRefIdeal.nD Cert.RetRefIdeal.τ).loc Cert.RetRefIdeal.main_v209) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v49) = v0 c
          ∧ r.2.mem ((c.tc : Thread Cert.UpRefIdeal.nD Cert.UpRefIdeal.τ).loc Cert.UpRefIdeal.main_v52) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v17) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)) →
    ∃ (v0 : (c : Dev Cert.OutEvenIdeal.nD) → Buf (Elt Ideal) ((c.tc : Thread Cert.OutEvenIdeal.nD Cert.OutEvenIdeal.τ).loc Cert.OutEvenIdeal.main_v3_0)) (v1 : (c : Dev Cert.OutEvenIdeal.nD) → Buf (Elt Ideal) ((c.tc : Thread Cert.OutEvenIdeal.nD Cert.OutEvenIdeal.τ).loc Cert.OutEvenIdeal.main_v3_1)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v3_0) = v0 c
          ∧ r.2.mem ((c.tc : Thread Cert.OutEvenIdeal.nD Cert.OutEvenIdeal.τ).loc Cert.OutEvenIdeal.main_v3_1) = v1 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v2) = v0 c
          ∧ r.2.mem ((c.tc : Thread Cert.OutEvenRefIdeal.nD Cert.OutEvenRefIdeal.τ).loc Cert.OutEvenRefIdeal.main_v18) = v1 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4))

def preserves_DownEven_DownEvenIdeal : Prop :=
  True

def algebraic_DownEvenIdeal_DownEvenRefIdeal [hDownEvenIdeal : Cert.DownEvenIdeal.Facts] [hDownEvenRefIdeal : Cert.DownEvenRefIdeal.Facts] : Prop :=
  ∀ (m : (ℓ : Loc Cert.DownEvenIdeal.nD Cert.DownEvenIdeal.τ Cert.DownEvenIdeal.sig) → Buf (Elt Ideal) ℓ) (g : Dev Cert.DownEvenIdeal.nD → PrngReg)
    (m' : (ℓ : Loc Cert.DownEvenRefIdeal.nD Cert.DownEvenRefIdeal.τ Cert.DownEvenRefIdeal.sig) → Buf (Elt Ideal) ℓ) (g' : Dev Cert.DownEvenRefIdeal.nD → PrngReg), Pre_DownEvenIdeal m →
    (∀ c : Dev Cert.DownEvenIdeal.nD,
      m' ((c.tc : Thread Cert.DownEvenRefIdeal.nD Cert.DownEvenRefIdeal.τ).loc Cert.DownEvenRefIdeal.main_arg0) = m ((c.tc : Thread Cert.DownEvenIdeal.nD Cert.DownEvenIdeal.τ).loc Cert.DownEvenIdeal.main_arg0)
      ∧ m' ((c.tc : Thread Cert.DownEvenRefIdeal.nD Cert.DownEvenRefIdeal.τ).loc Cert.DownEvenRefIdeal.main_arg1) = m ((c.tc : Thread Cert.DownEvenIdeal.nD Cert.DownEvenIdeal.τ).loc Cert.DownEvenIdeal.main_arg1)
      ∧ m' ((c.tc : Thread Cert.DownEvenRefIdeal.nD Cert.DownEvenRefIdeal.τ).loc Cert.DownEvenRefIdeal.main_arg2) = m ((c.tc : Thread Cert.DownEvenIdeal.nD Cert.DownEvenIdeal.τ).loc Cert.DownEvenIdeal.main_arg2)
      ∧ m' ((c.tc : Thread Cert.DownEvenRefIdeal.nD Cert.DownEvenRefIdeal.τ).loc Cert.DownEvenRefIdeal.main_arg3) = m ((c.tc : Thread Cert.DownEvenIdeal.nD Cert.DownEvenIdeal.τ).loc Cert.DownEvenIdeal.main_arg3)) →
    ∃ (v0 : (c : Dev Cert.DownEvenIdeal.nD) → Buf (Elt Ideal) ((c.tc : Thread Cert.DownEvenIdeal.nD Cert.DownEvenIdeal.τ).loc Cert.DownEvenIdeal.main_v0_0)) (v1 : (c : Dev Cert.DownEvenIdeal.nD) → Buf (Elt Ideal) ((c.tc : Thread Cert.DownEvenIdeal.nD Cert.DownEvenIdeal.τ).loc Cert.DownEvenIdeal.main_v0_1)),
      θ_run (Cert.DownEvenIdeal.defs (F := Ideal)) (onTc (τ := Cert.DownEvenIdeal.τ) (Cert.DownEvenIdeal.main (F := Ideal))) ⟨m, fun _ => 0, g⟩ (fun r => ∀ c : Dev Cert.DownEvenIdeal.nD,
          r.2.mem ((c.tc : Thread Cert.DownEvenIdeal.nD Cert.DownEvenIdeal.τ).loc Cert.DownEvenIdeal.main_v0_0) = v0 c
          ∧ r.2.mem ((c.tc : Thread Cert.DownEvenIdeal.nD Cert.DownEvenIdeal.τ).loc Cert.DownEvenIdeal.main_v0_1) = v1 c
          ∧ r.2.mem ((c.tc : Thread Cert.DownEvenIdeal.nD Cert.DownEvenIdeal.τ).loc Cert.DownEvenIdeal.main_arg0) = m ((c.tc : Thread Cert.DownEvenIdeal.nD Cert.DownEvenIdeal.τ).loc Cert.DownEvenIdeal.main_arg0)
          ∧ r.2.mem ((c.tc : Thread Cert.DownEvenIdeal.nD Cert.DownEvenIdeal.τ).loc Cert.DownEvenIdeal.main_arg1) = m ((c.tc : Thread Cert.DownEvenIdeal.nD Cert.DownEvenIdeal.τ).loc Cert.DownEvenIdeal.main_arg1)
          ∧ r.2.mem ((c.tc : Thread Cert.DownEvenIdeal.nD Cert.DownEvenIdeal.τ).loc Cert.DownEvenIdeal.main_arg2) = m ((c.tc : Thread Cert.DownEvenIdeal.nD Cert.DownEvenIdeal.τ).loc Cert.DownEvenIdeal.main_arg2)
          ∧ r.2.mem ((c.tc : Thread Cert.DownEvenIdeal.nD Cert.DownEvenIdeal.τ).loc Cert.DownEvenIdeal.main_arg3) = m ((c.tc : Thread Cert.DownEvenIdeal.nD Cert.DownEvenIdeal.τ).loc Cert.DownEvenIdeal.main_arg3))
      ∧ θ_run (Cert.DownEvenRefIdeal.defs (F := Ideal)) (onTc (τ := Cert.DownEvenRefIdeal.τ) (Cert.DownEvenRefIdeal.main (F := Ideal))) ⟨m', fun _ => 0, g'⟩ (fun r => ∀ c : Dev Cert.DownEvenRefIdeal.nD,
          r.2.mem ((c.tc : Thread Cert.DownEvenRefIdeal.nD Cert.DownEvenRefIdeal.τ).loc Cert.DownEvenRefIdeal.main_v1) = v0 c
          ∧ r.2.mem ((c.tc : Thread Cert.DownEvenRefIdeal.nD Cert.DownEvenRefIdeal.τ).loc Cert.DownEvenRefIdeal.main_v3) = v1 c
          ∧ r.2.mem ((c.tc : Thread Cert.DownEvenRefIdeal.nD Cert.DownEvenRefIdeal.τ).loc Cert.DownEvenRefIdeal.main_arg0) = m' ((c.tc : Thread Cert.DownEvenRefIdeal.nD Cert.DownEvenRefIdeal.τ).loc Cert.DownEvenRefIdeal.main_arg0)
          ∧ r.2.mem ((c.tc : Thread Cert.DownEvenRefIdeal.nD Cert.DownEvenRefIdeal.τ).loc Cert.DownEvenRefIdeal.main_arg1) = m' ((c.tc : Thread Cert.DownEvenRefIdeal.nD Cert.DownEvenRefIdeal.τ).loc Cert.DownEvenRefIdeal.main_arg1)
          ∧ r.2.mem ((c.tc : Thread Cert.DownEvenRefIdeal.nD Cert.DownEvenRefIdeal.τ).loc Cert.DownEvenRefIdeal.main_arg2) = m' ((c.tc : Thread Cert.DownEvenRefIdeal.nD Cert.DownEvenRefIdeal.τ).loc Cert.DownEvenRefIdeal.main_arg2)
          ∧ r.2.mem ((c.tc : Thread Cert.DownEvenRefIdeal.nD Cert.DownEvenRefIdeal.τ).loc Cert.DownEvenRefIdeal.main_arg3) = m' ((c.tc : Thread Cert.DownEvenRefIdeal.nD Cert.DownEvenRefIdeal.τ).loc Cert.DownEvenRefIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v15)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v15) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v59) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)
      ∧ m' ((c.tc : Thread Cert.InEvenRefIdeal.nD Cert.InEvenRefIdeal.τ).loc Cert.InEvenRefIdeal.main_arg4) = m ((c.tc : Thread Cert.InEvenIdeal.nD Cert.InEvenIdeal.τ).loc Cert.InEvenIdeal.main_arg4)) →
    ∃ (v0 : (c : Dev Cert.InEvenIdeal.nD) → Buf (Elt Ideal) ((c.tc : Thread Cert.InEvenIdeal.nD Cert.InEvenIdeal.τ).loc Cert.InEvenIdeal.main_v21)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v21) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v134) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3)
          ∧ r.2.mem ((c.tc : Thread Cert.InEvenRefIdeal.nD Cert.InEvenRefIdeal.τ).loc Cert.InEvenRefIdeal.main_arg4) = m' ((c.tc : Thread Cert.InEvenRefIdeal.nD Cert.InEvenRefIdeal.τ).loc Cert.InEvenRefIdeal.main_arg4))

def Claim : Prop :=
  ∃ (hRet : Cert.Ret.Facts) (hRetIdeal : Cert.RetIdeal.Facts) (hRetRefIdeal : Cert.RetRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hOut : Cert.Out.Facts) (hOutIdeal : Cert.OutIdeal.Facts) (hOutRefIdeal : Cert.OutRefIdeal.Facts) (hOutEven : Cert.OutEven.Facts) (hOutEvenIdeal : Cert.OutEvenIdeal.Facts) (hOutEvenRefIdeal : Cert.OutEvenRefIdeal.Facts) (hDownEven : Cert.DownEven.Facts) (hDownEvenIdeal : Cert.DownEvenIdeal.Facts) (hDownEvenRefIdeal : Cert.DownEvenRefIdeal.Facts) (hIn : Cert.In.Facts) (hInIdeal : Cert.InIdeal.Facts) (hInRefIdeal : Cert.InRefIdeal.Facts) (hInEven : Cert.InEven.Facts) (hInEvenIdeal : Cert.InEvenIdeal.Facts) (hInEvenRefIdeal : Cert.InEvenRefIdeal.Facts),
    quiescent_Ret (hRet := hRet)
    ∧ quiescent_RetIdeal (hRetIdeal := hRetIdeal)
    ∧ quiescent_RetRefIdeal (hRetRefIdeal := hRetRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Out (hOut := hOut)
    ∧ quiescent_OutIdeal (hOutIdeal := hOutIdeal)
    ∧ quiescent_OutRefIdeal (hOutRefIdeal := hOutRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_DownEven (hDownEven := hDownEven)
    ∧ quiescent_DownEvenIdeal (hDownEvenIdeal := hDownEvenIdeal)
    ∧ quiescent_DownEvenRefIdeal (hDownEvenRefIdeal := hDownEvenRefIdeal)
    ∧ quiescent_In (hIn := hIn)
    ∧ quiescent_InIdeal (hInIdeal := hInIdeal)
    ∧ quiescent_InRefIdeal (hInRefIdeal := hInRefIdeal)
    ∧ quiescent_InEven (hInEven := hInEven)
    ∧ quiescent_InEvenIdeal (hInEvenIdeal := hInEvenIdeal)
    ∧ quiescent_InEvenRefIdeal (hInEvenRefIdeal := hInEvenRefIdeal)
    ∧ preserves_Ret_RetIdeal
    ∧ algebraic_RetIdeal_RetRefIdeal (hRetIdeal := hRetIdeal) (hRetRefIdeal := hRetRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Out_OutIdeal
    ∧ algebraic_OutIdeal_OutRefIdeal (hOutIdeal := hOutIdeal) (hOutRefIdeal := hOutRefIdeal)
    ∧ preserves_OutEven_OutEvenIdeal
    ∧ algebraic_OutEvenIdeal_OutEvenRefIdeal (hOutEvenIdeal := hOutEvenIdeal) (hOutEvenRefIdeal := hOutEvenRefIdeal)
    ∧ preserves_DownEven_DownEvenIdeal
    ∧ algebraic_DownEvenIdeal_DownEvenRefIdeal (hDownEvenIdeal := hDownEvenIdeal) (hDownEvenRefIdeal := hDownEvenRefIdeal)
    ∧ preserves_In_InIdeal
    ∧ algebraic_InIdeal_InRefIdeal (hInIdeal := hInIdeal) (hInRefIdeal := hInRefIdeal)
    ∧ preserves_InEven_InEvenIdeal
    ∧ algebraic_InEvenIdeal_InEvenRefIdeal (hInEvenIdeal := hInEvenIdeal) (hInEvenRefIdeal := hInEvenRefIdeal)
-- ==== Ret.lean ====
abbrev S8192x6144 : Shape := ⟨2, ![8192, 6144]⟩
abbrev S1x1024 : Shape := ⟨2, ![1, 1024]⟩
abbrev S1x2048x2048 : Shape := ⟨3, ![1, 2048, 2048]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S4x128 : Shape := ⟨2, ![4, 128]⟩
abbrev S4x128x1 : Shape := ⟨3, ![4, 128, 1]⟩
abbrev S4x128x256 : Shape := ⟨3, ![4, 128, 256]⟩
abbrev S4x1x256 : Shape := ⟨3, ![4, 1, 256]⟩
abbrev S1024 : Shape := ⟨1, ![1024]⟩
abbrev S8192x1024 : Shape := ⟨2, ![8192, 1024]⟩
abbrev S2048x2048 : Shape := ⟨2, ![2048, 2048]⟩
abbrev S2048x256 : Shape := ⟨2, ![2048, 256]⟩
abbrev S1x128x256 : Shape := ⟨3, ![1, 128, 256]⟩
abbrev S1x1x256 : Shape := ⟨3, ![1, 1, 256]⟩
abbrev S1x128x2048 : Shape := ⟨3, ![1, 128, 2048]⟩
abbrev S128x2048 : Shape := ⟨2, ![128, 2048]⟩
abbrev S1x16x256x256 : Shape := ⟨4, ![1, 16, 256, 256]⟩
abbrev S128x256 : Shape := ⟨2, ![128, 256]⟩
abbrev S256x256 : Shape := ⟨2, ![256, 256]⟩
abbrev S1x1x256x256 : Shape := ⟨4, ![1, 1, 256, 256]⟩
abbrev S1x256 : Shape := ⟨2, ![1, 256]⟩

abbrev nBuf : Space → Nat
  | .hbm => 73
  | .vmem => 26
  | .smem => 0
  | _ => 0

abbrev bufTy : (tb : Table) → Fin (tcTables nBuf tb) → BufTy
  | .hbm, ⟨0, _⟩ => ⟨S8192x6144, .bf16⟩
  | .hbm, ⟨1, _⟩ => ⟨S1x1024, .f32⟩
  | .hbm, ⟨2, _⟩ => ⟨S1x2048x2048, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S128, .i32⟩
  | .hbm, ⟨14, _⟩ => ⟨S128x1, .i32⟩
  | .hbm, ⟨15, _⟩ => ⟨S1x128, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i1⟩
  | .hbm, ⟨22, _⟩ => ⟨S4x1x1, .f32⟩
  | .hbm, ⟨23, _⟩ => ⟨S_, .i32⟩
  | .hbm, ⟨24, _⟩ => ⟨S128x128, .i32⟩
  | .hbm, ⟨25, _⟩ => ⟨S128x128, .i32⟩
  | .hbm, ⟨26, _⟩ => ⟨S128x128, .f32⟩
  | .hbm, ⟨27, _⟩ => ⟨S1x128x128, .f32⟩
  | .hbm, ⟨28, _⟩ => ⟨S4x128x128, .f32⟩
  | .hbm, ⟨29, _⟩ => ⟨S4x128x128, .f32⟩
  | .hbm, ⟨30, _⟩ => ⟨S4x128x128, .f32⟩
  | .hbm, ⟨31, _⟩ => ⟨S4x128x128, .f32⟩
  | .hbm, ⟨32, _⟩ => ⟨S_, .f32⟩
  | .hbm, ⟨33, _⟩ => ⟨S_, .f32⟩
  | .hbm, ⟨34, _⟩ => ⟨S4x128x128, .i1⟩
  | .hbm, ⟨35, _⟩ => ⟨S4x128x128, .f32⟩
  | .hbm, ⟨36, _⟩ => ⟨S4x128x128, .f32⟩
  | .hbm, ⟨37, _⟩ => ⟨S1x4, .f32⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S128, .f32⟩
  | .hbm, ⟨42, _⟩ => ⟨S128x1, .f32⟩
  | .hbm, ⟨43, _⟩ => ⟨S128x4, .f32⟩
  | .hbm, ⟨44, _⟩ => ⟨S128x4, .f32⟩
  | .hbm, ⟨45, _⟩ => ⟨S128x4, .f32⟩
  | .hbm, ⟨46, _⟩ => ⟨S128x4, .f32⟩
  | .hbm, ⟨47, _⟩ => ⟨S1x4, .f32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .f32⟩
  | .hbm, ⟨52, _⟩ => ⟨S128x1, .f32⟩
  | .hbm, ⟨53, _⟩ => ⟨S128x4, .f32⟩
  | .hbm, ⟨54, _⟩ => ⟨S128x4, .f32⟩
  | .hbm, ⟨55, _⟩ => ⟨S128x4, .f32⟩
  | .hbm, ⟨56, _⟩ => ⟨S128x4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4x128, .f32⟩
  | .hbm, ⟨62, _⟩ => ⟨S4x128x1, .f32⟩
  | .hbm, ⟨63, _⟩ => ⟨S4x128x256, .f32⟩
  | .hbm, ⟨64, _⟩ => ⟨S4x128, .f32⟩
  | .hbm, ⟨65, _⟩ => ⟨S4x128x1, .f32⟩
  | .hbm, ⟨66, _⟩ => ⟨S4x128x256, .f32⟩
  | .hbm, ⟨67, _⟩ => ⟨S4x1x1, .f32⟩
  | .hbm, ⟨68, _⟩ => ⟨S4x1x256, .f32⟩
  | .hbm, ⟨69, _⟩ => ⟨S1024, .f32⟩
  | .hbm, ⟨70, _⟩ => ⟨S4x1x256, .f32⟩
  | .hbm, ⟨71, _⟩ => ⟨S8192x1024, .bf16⟩
  | .hbm, ⟨72, _⟩ => ⟨S2048x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S1x128x128, .f32⟩
  | .local _ .vmem, ⟨9, _⟩ => ⟨S1x128x128, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x128x2048, .f32⟩
  | .local _ .vmem, ⟨19, _⟩ => ⟨S1x128x2048, .f32⟩
  | .local _ .vmem, ⟨20, _⟩ => ⟨S2048x256, .bf16⟩
  | .local _ .vmem, ⟨21, _⟩ => ⟨S2048x256, .bf16⟩
  | .local _ .vmem, ⟨22, _⟩ => ⟨S128x2048, .bf16⟩
  | .local _ .vmem, ⟨23, _⟩ => ⟨S128x2048, .bf16⟩
  | .local _ .vmem, ⟨24, _⟩ => ⟨S1x16x256x256, .f32⟩
  | .local _ .vmem, ⟨25, _⟩ => ⟨S1x16x256x256, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57_0 : Ref sig .tc := ⟨.hbm, 71, rfl⟩
abbrev main_v57_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RetRefIdeal.lean ====
abbrev S8192x6144 : Shape := ⟨2, ![8192, 6144]⟩
abbrev S1x1024 : Shape := ⟨2, ![1, 1024]⟩
abbrev S1x2048x2048 : Shape := ⟨3, ![1, 2048, 2048]⟩
abbrev S4x2048x6144 : Shape := ⟨3, ![4, 2048, 6144]⟩
abbrev S4x2048x1024 : Shape := ⟨3, ![4, 2048, 1024]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S4x16x128x4x256 : Shape := ⟨5, ![4, 16, 128, 4, 256]⟩
abbrev S4x16x4x128x128 : Shape := ⟨5, ![4, 16, 4, 128, 128]⟩
abbrev S1x1x4x128x128 : Shape := ⟨5, ![1, 1, 4, 128, 128]⟩
abbrev S4x16x4x256x128 : Shape := ⟨5, ![4, 16, 4, 256, 128]⟩
abbrev S128x4x1 : Shape := ⟨3, ![128, 4, 1]⟩
abbrev S1x1x128x4x1 : Shape := ⟨5, ![1, 1, 128, 4, 1]⟩
abbrev S16x4x4x256x256 : Shape := ⟨5, ![16, 4, 4, 256, 256]⟩
abbrev S4x4x256x256 : Shape := ⟨4, ![4, 4, 256, 256]⟩
abbrev S1x4x1x1 : Shape := ⟨4, ![1, 4, 1, 1]⟩
abbrev S1x4x4x256x256 : Shape := ⟨5, ![1, 4, 4, 256, 256]⟩
abbrev S4x2048x4x256 : Shape := ⟨4, ![4, 2048, 4, 256]⟩
abbrev S4x2048x4 : Shape := ⟨3, ![4, 2048, 4]⟩
abbrev S4x2048x4x1 : Shape := ⟨4, ![4, 2048, 4, 1]⟩
abbrev S1024 : Shape := ⟨1, ![1024]⟩
abbrev S4x256 : Shape := ⟨2, ![4, 256]⟩
abbrev S1x1x4x256 : Shape := ⟨4, ![1, 1, 4, 256]⟩
abbrev S8192x1024 : Shape := ⟨2, ![8192, 1024]⟩
abbrev S2048x2048 : Shape := ⟨2, ![2048, 2048]⟩

abbrev nBuf : Space → Nat
  | .hbm => 228
  | .vmem => 0
  | .smem => 0
  | _ => 0

abbrev hbmTy0_0 (i : Nat) : BufTy := match i % 128 with
  | 0 => ⟨S8192x6144, .bf16⟩
  | 1 => ⟨S1x1024, .f32⟩
  | 2 => ⟨S1x2048x2048, .f32⟩
  | 3 => ⟨S8192x6144, .f32⟩
  | 4 => ⟨S4x2048x6144, .f32⟩
  | 5 => ⟨S4x2048x1024, .f32⟩
  | 6 => ⟨S4x2048x1024, .f32⟩
  | 7 => ⟨S4x2048x1024, .f32⟩
  | 8 => ⟨S4x2048x1024, .f32⟩
  | 9 => ⟨S4, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S4, .f32⟩
  | 17 => ⟨S4, .f32⟩
  | 18 => ⟨S4, .f32⟩
  | 19 => ⟨S128, .i32⟩
  | 20 => ⟨S128x1, .i32⟩
  | 21 => ⟨S1x128, .i32⟩
  | 22 => ⟨S128x128, .i32⟩
  | 23 => ⟨S128x128, .i32⟩
  | 24 => ⟨S128x128, .i32⟩
  | 25 => ⟨S_, .i32⟩
  | 26 => ⟨S128x128, .i32⟩
  | 27 => ⟨S128x128, .i1⟩
  | 28 => ⟨S4x1x1, .f32⟩
  | 29 => ⟨S_, .i32⟩
  | 30 => ⟨S128x128, .i32⟩
  | 31 => ⟨S128x128, .i32⟩
  | 32 => ⟨S128x128, .f32⟩
  | 33 => ⟨S1x128x128, .f32⟩
  | 34 => ⟨S4x128x128, .f32⟩
  | 35 => ⟨S4x128x128, .f32⟩
  | 36 => ⟨S4x128x128, .f32⟩
  | 37 => ⟨S4x128x128, .f32⟩
  | 38 => ⟨S_, .f32⟩
  | 39 => ⟨S_, .f32⟩
  | 40 => ⟨S4x128x128, .i1⟩
  | 41 => ⟨S4x128x128, .f32⟩
  | 42 => ⟨S4x128x128, .f32⟩
  | 43 => ⟨S1x4, .f32⟩
  | 44 => ⟨S_, .i32⟩
  | 45 => ⟨S128, .i32⟩
  | 46 => ⟨S128, .i32⟩
  | 47 => ⟨S128x1, .i32⟩
  | 48 => ⟨S128x1, .f32⟩
  | 49 => ⟨S128x4, .f32⟩
  | 50 => ⟨S128x4, .f32⟩
  | 51 => ⟨S128x4, .f32⟩
  | 52 => ⟨S128x4, .f32⟩
  | 53 => ⟨S1x4, .f32⟩
  | 54 => ⟨S_, .i32⟩
  | 55 => ⟨S128, .i32⟩
  | 56 => ⟨S128, .i32⟩
  | 57 => ⟨S128x1, .i32⟩
  | 58 => ⟨S128x1, .f32⟩
  | 59 => ⟨S128x4, .f32⟩
  | 60 => ⟨S128x4, .f32⟩
  | 61 => ⟨S128x4, .f32⟩
  | 62 => ⟨S128x4, .f32⟩
  | 63 => ⟨S_, .f32⟩
  | 64 => ⟨S4, .f32⟩
  | 65 => ⟨S4, .f32⟩
  | 66 => ⟨S4, .f32⟩
  | 67 => ⟨S4x16x128x4x256, .f32⟩
  | 68 => ⟨S4x16x128x4x256, .f32⟩
  | 69 => ⟨S4x16x128x4x256, .f32⟩
  | 70 => ⟨S4x16x4x128x128, .f32⟩
  | 71 => ⟨S1x1x4x128x128, .f32⟩
  | 72 => ⟨S4x16x4x128x128, .f32⟩
  | 73 => ⟨S4x16x4x128x128, .f32⟩
  | 74 => ⟨S4x16x4x256x128, .f32⟩
  | 75 => ⟨S4x16x128x4x256, .f32⟩
  | 76 => ⟨S128x4x1, .f32⟩
  | 77 => ⟨S1x1x128x4x1, .f32⟩
  | 78 => ⟨S4x16x128x4x256, .f32⟩
  | 79 => ⟨S4x16x128x4x256, .f32⟩
  | 80 => ⟨S16x4x4x256x256, .f32⟩
  | 81 => ⟨S_, .f32⟩
  | 82 => ⟨S4x4x256x256, .f32⟩
  | 83 => ⟨S1x4x1x1, .f32⟩
  | 84 => ⟨S4x4x256x256, .f32⟩
  | 85 => ⟨S4x4x256x256, .f32⟩
  | 86 => ⟨S1x4x4x256x256, .f32⟩
  | 87 => ⟨S4x4x256x256, .f32⟩
  | 88 => ⟨S4x4x256x256, .f32⟩
  | 89 => ⟨S1x4x1x1, .f32⟩
  | 90 => ⟨S4x4x256x256, .f32⟩
  | 91 => ⟨S4x4x256x256, .f32⟩
  | 92 => ⟨S1x4x4x256x256, .f32⟩
  | 93 => ⟨S4x4x256x256, .f32⟩
  | 94 => ⟨S4x4x256x256, .f32⟩
  | 95 => ⟨S1x4x1x1, .f32⟩
  | 96 => ⟨S4x4x256x256, .f32⟩
  | 97 => ⟨S4x4x256x256, .f32⟩
  | 98 => ⟨S1x4x4x256x256, .f32⟩
  | 99 => ⟨S4x4x256x256, .f32⟩
  | 100 => ⟨S4x4x256x256, .f32⟩
  | 101 => ⟨S1x4x1x1, .f32⟩
  | 102 => ⟨S4x4x256x256, .f32⟩
  | 103 => ⟨S4x4x256x256, .f32⟩
  | 104 => ⟨S1x4x4x256x256, .f32⟩
  | 105 => ⟨S4x4x256x256, .f32⟩
  | 106 => ⟨S4x4x256x256, .f32⟩
  | 107 => ⟨S1x4x1x1, .f32⟩
  | 108 => ⟨S4x4x256x256, .f32⟩
  | 109 => ⟨S4x4x256x256, .f32⟩
  | 110 => ⟨S1x4x4x256x256, .f32⟩
  | 111 => ⟨S4x4x256x256, .f32⟩
  | 112 => ⟨S4x4x256x256, .f32⟩
  | 113 => ⟨S1x4x1x1, .f32⟩
  | 114 => ⟨S4x4x256x256, .f32⟩
  | 115 => ⟨S4x4x256x256, .f32⟩
  | 116 => ⟨S1x4x4x256x256, .f32⟩
  | 117 => ⟨S4x4x256x256, .f32⟩
  | 118 => ⟨S4x4x256x256, .f32⟩
  | 119 => ⟨S1x4x1x1, .f32⟩
  | 120 => ⟨S4x4x256x256, .f32⟩
  | 121 => ⟨S4x4x256x256, .f32⟩
  | 122 => ⟨S1x4x4x256x256, .f32⟩
  | 123 => ⟨S4x4x256x256, .f32⟩
  | 124 => ⟨S4x4x256x256, .f32⟩
  | 125 => ⟨S1x4x1x1, .f32⟩
  | 126 => ⟨S4x4x256x256, .f32⟩
  | 127 => ⟨S4x4x256x256, .f32⟩
  | _ => ⟨S8192x6144, .bf16⟩

abbrev hbmTy0_1 (i : Nat) : BufTy := match i % 128 with
  | 0 => ⟨S1x4x4x256x256, .f32⟩
  | 1 => ⟨S4x4x256x256, .f32⟩
  | 2 => ⟨S4x4x256x256, .f32⟩
  | 3 => ⟨S1x4x1x1, .f32⟩
  | 4 => ⟨S4x4x256x256, .f32⟩
  | 5 => ⟨S4x4x256x256, .f32⟩
  | 6 => ⟨S1x4x4x256x256, .f32⟩
  | 7 => ⟨S4x4x256x256, .f32⟩
  | 8 => ⟨S4x4x256x256, .f32⟩
  | 9 => ⟨S1x4x1x1, .f32⟩
  | 10 => ⟨S4x4x256x256, .f32⟩
  | 11 => ⟨S4x4x256x256, .f32⟩
  | 12 => ⟨S1x4x4x256x256, .f32⟩
  | 13 => ⟨S4x4x256x256, .f32⟩
  | 14 => ⟨S4x4x256x256, .f32⟩
  | 15 => ⟨S1x4x1x1, .f32⟩
  | 16 => ⟨S4x4x256x256, .f32⟩
  | 17 => ⟨S4x4x256x256, .f32⟩
  | 18 => ⟨S1x4x4x256x256, .f32⟩
  | 19 => ⟨S4x4x256x256, .f32⟩
  | 20 => ⟨S4x4x256x256, .f32⟩
  | 21 => ⟨S1x4x1x1, .f32⟩
  | 22 => ⟨S4x4x256x256, .f32⟩
  | 23 => ⟨S4x4x256x256, .f32⟩
  | 24 => ⟨S1x4x4x256x256, .f32⟩
  | 25 => ⟨S4x4x256x256, .f32⟩
  | 26 => ⟨S4x4x256x256, .f32⟩
  | 27 => ⟨S1x4x1x1, .f32⟩
  | 28 => ⟨S4x4x256x256, .f32⟩
  | 29 => ⟨S4x4x256x256, .f32⟩
  | 30 => ⟨S1x4x4x256x256, .f32⟩
  | 31 => ⟨S4x4x256x256, .f32⟩
  | 32 => ⟨S4x4x256x256, .f32⟩
  | 33 => ⟨S1x4x1x1, .f32⟩
  | 34 => ⟨S4x4x256x256, .f32⟩
  | 35 => ⟨S4x4x256x256, .f32⟩
  | 36 => ⟨S1x4x4x256x256, .f32⟩
  | 37 => ⟨S4x4x256x256, .f32⟩
  | 38 => ⟨S4x4x256x256, .f32⟩
  | 39 => ⟨S1x4x1x1, .f32⟩
  | 40 => ⟨S4x4x256x256, .f32⟩
  | 41 => ⟨S4x4x256x256, .f32⟩
  | 42 => ⟨S1x4x4x256x256, .f32⟩
  | 43 => ⟨S4x4x256x256, .f32⟩
  | 44 => ⟨S4x4x256x256, .f32⟩
  | 45 => ⟨S1x4x1x1, .f32⟩
  | 46 => ⟨S4x4x256x256, .f32⟩
  | 47 => ⟨S4x4x256x256, .f32⟩
  | 48 => ⟨S1x4x4x256x256, .f32⟩
  | 49 => ⟨S4x4x256x256, .f32⟩
  | 50 => ⟨S4x4x256x256, .f32⟩
  | 51 => ⟨S1x4x4x256x256, .f32⟩
  | 52 => ⟨S1x4x4x256x256, .f32⟩
  | 53 => ⟨S1x4x4x256x256, .f32⟩
  | 54 => ⟨S1x4x4x256x256, .f32⟩
  | 55 => ⟨S1x4x4x256x256, .f32⟩
  | 56 => ⟨S1x4x4x256x256, .f32⟩
  | 57 => ⟨S1x4x4x256x256, .f32⟩
  | 58 => ⟨S1x4x4x256x256, .f32⟩
  | 59 => ⟨S1x4x4x256x256, .f32⟩
  | 60 => ⟨S1x4x4x256x256, .f32⟩
  | 61 => ⟨S1x4x4x256x256, .f32⟩
  | 62 => ⟨S1x4x4x256x256, .f32⟩
  | 63 => ⟨S1x4x4x256x256, .f32⟩
  | 64 => ⟨S1x4x4x256x256, .f32⟩
  | 65 => ⟨S1x4x4x256x256, .f32⟩
  | 66 => ⟨S1x4x4x256x256, .f32⟩
  | 67 => ⟨S16x4x4x256x256, .f32⟩
  | 68 => ⟨S4x16x4x256x128, .f32⟩
  | 69 => ⟨S4x16x128x4x256, .f32⟩
  | 70 => ⟨S128x4x1, .f32⟩
  | 71 => ⟨S1x1x128x4x1, .f32⟩
  | 72 => ⟨S4x16x128x4x256, .f32⟩
  | 73 => ⟨S4x16x128x4x256, .f32⟩
  | 74 => ⟨S4x16x128x4x256, .f32⟩
  | 75 => ⟨S4x2048x4x256, .f32⟩
  | 76 => ⟨S4x2048x4x256, .f32⟩
  | 77 => ⟨S_, .f32⟩
  | 78 => ⟨S4x2048x4, .f32⟩
  | 79 => ⟨S4x2048x4x1, .f32⟩
  | 80 => ⟨S_, .f32⟩
  | 81 => ⟨S4x2048x4x1, .f32⟩
  | 82 => ⟨S4x2048x4x1, .f32⟩
  | 83 => ⟨S_, .f32⟩
  | 84 => ⟨S4x2048x4x1, .f32⟩
  | 85 => ⟨S4x2048x4x1, .f32⟩
  | 86 => ⟨S4x2048x4x1, .f32⟩
  | 87 => ⟨S4x2048x4x256, .f32⟩
  | 88 => ⟨S4x2048x4x256, .f32⟩
  | 89 => ⟨S1024, .f32⟩
  | 90 => ⟨S4x256, .f32⟩
  | 91 => ⟨S1x1x4x256, .f32⟩
  | 92 => ⟨S4x2048x4x256, .f32⟩
  | 93 => ⟨S4x2048x4x256, .f32⟩
  | 94 => ⟨S4x2048x1024, .f32⟩
  | 95 => ⟨S4x2048x1024, .f32⟩
  | 96 => ⟨S8192x1024, .f32⟩
  | 97 => ⟨S8192x1024, .bf16⟩
  | 98 => ⟨S2048x2048, .f32⟩
  | 99 => ⟨S2048x2048, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_6 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_cst_7 : Ref sig .tc := ⟨.hbm, 205, rfl⟩
abbrev main_v190 : Ref sig .tc := ⟨.hbm, 206, rfl⟩
abbrev main_v191 : Ref sig .tc := ⟨.hbm, 207, rfl⟩
abbrev main_cst_8 : Ref sig .tc := ⟨.hbm, 208, rfl⟩
abbrev main_v192 : Ref sig .tc := ⟨.hbm, 209, rfl⟩
abbrev main_v193 : Ref sig .tc := ⟨.hbm, 210, rfl⟩
abbrev main_cst_9 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Up.lean ====
abbrev S8192x2048 : Shape := ⟨2, ![8192, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x1x11264 : Shape := ⟨3, ![2, 1, 11264]⟩
abbrev S8192x5632 : Shape := ⟨2, ![8192, 5632]⟩
abbrev S5632x2048 : Shape := ⟨2, ![5632, 2048]⟩
abbrev S2048x2048 : Shape := ⟨2, ![2048, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x128x2048 : Shape := ⟨3, ![1, 128, 2048]⟩
abbrev S2048x512 : Shape := ⟨2, ![2048, 512]⟩
abbrev S128x2048 : Shape := ⟨2, ![128, 2048]⟩
abbrev S2048x1024 : Shape := ⟨2, ![2048, 1024]⟩
abbrev S2x264x1024 : Shape := ⟨3, ![2, 264, 1024]⟩
abbrev S8x1024 : Shape := ⟨2, ![8, 1024]⟩
abbrev S1x8x1024 : Shape := ⟨3, ![1, 8, 1024]⟩
abbrev S256x2048 : Shape := ⟨2, ![256, 2048]⟩
abbrev S256x1024 : Shape := ⟨2, ![256, 1024]⟩
abbrev S1x256x1024 : Shape := ⟨3, ![1, 256, 1024]⟩
abbrev S1x256x512 : Shape := ⟨3, ![1, 256, 512]⟩
abbrev S256x512 : Shape := ⟨2, ![256, 512]⟩
abbrev S1x512 : Shape := ⟨2, ![1, 512]⟩

abbrev nBuf : Space → Nat
  | .hbm => 8
  | .vmem => 23
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x5632x2048, .f32⟩
  | .hbm, ⟨5, _⟩ => ⟨S2x1x11264, .f32⟩
  | .hbm, ⟨6, _⟩ => ⟨S8192x5632, .bf16⟩
  | .hbm, ⟨7, _⟩ => ⟨S5632x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x128x2048, .f32⟩
  | .local _ .vmem, ⟨15, _⟩ => ⟨S1x128x2048, .f32⟩
  | .local _ .vmem, ⟨16, _⟩ => ⟨S2048x512, .bf16⟩
  | .local _ .vmem, ⟨17, _⟩ => ⟨S2048x512, .bf16⟩
  | .local _ .vmem, ⟨18, _⟩ => ⟨S128x2048, .bf16⟩
  | .local _ .vmem, ⟨19, _⟩ => ⟨S128x2048, .bf16⟩
  | .local _ .vmem, ⟨20, _⟩ => ⟨S2048x1024, .bf16⟩
  | .local _ .vmem, ⟨21, _⟩ => ⟨S2x264x1024, .f32⟩
  | .local _ .vmem, ⟨22, _⟩ => ⟨S8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== UpRefIdeal.lean ====
abbrev S8192x2048 : Shape := ⟨2, ![8192, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S1x2048x11264 : Shape := ⟨3, ![1, 2048, 11264]⟩
abbrev S2048x11264 : Shape := ⟨2, ![2048, 11264]⟩
abbrev S8192x11264 : Shape := ⟨2, ![8192, 11264]⟩
abbrev S4x2048x11264 : Shape := ⟨3, ![4, 2048, 11264]⟩
abbrev S_ : Shape := ⟨0, ![]⟩
abbrev S4x2x11264 : Shape := ⟨3, ![4, 2, 11264]⟩
abbrev S4x2050x11264 : Shape := ⟨3, ![4, 2050, 11264]⟩
abbrev S1x1x11264 : Shape := ⟨3, ![1, 1, 11264]⟩
abbrev S11264 : Shape := ⟨1, ![11264]⟩
abbrev S1x11264 : Shape := ⟨2, ![1, 11264]⟩
abbrev S4x2048x5632 : Shape := ⟨3, ![4, 2048, 5632]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x5632x2048, .f32⟩
  | .hbm, ⟨5, _⟩ => ⟨S8192x2048, .f32⟩
  | .hbm, ⟨6, _⟩ => ⟨S1x2048x11264, .f32⟩
  | .hbm, ⟨7, _⟩ => ⟨S2048x11264, .f32⟩
  | .hbm, ⟨8, _⟩ => ⟨S8192x11264, .f32⟩
  | .hbm, ⟨9, _⟩ => ⟨S4x2048x11264, .f32⟩
  | .hbm, ⟨10, _⟩ => ⟨S_, .f32⟩
  | .hbm, ⟨11, _⟩ => ⟨S4x2x11264, .f32⟩
  | .hbm, ⟨12, _⟩ => ⟨S4x2050x11264, .f32⟩
  | .hbm, ⟨13, _⟩ => ⟨S4x2048x11264, .f32⟩
  | .hbm, ⟨14, _⟩ => ⟨S1x1x11264, .f32⟩
  | .hbm, ⟨15, _⟩ => ⟨S11264, .f32⟩
  | .hbm, ⟨16, _⟩ => ⟨S1x1x11264, .f32⟩
  | .hbm, ⟨17, _⟩ => ⟨S4x2048x11264, .f32⟩
  | .hbm, ⟨18, _⟩ => ⟨S4x2048x11264, .f32⟩
  | .hbm, ⟨19, _⟩ => ⟨S4x2048x11264, .f32⟩
  | .hbm, ⟨20, _⟩ => ⟨S1x1x11264, .f32⟩
  | .hbm, ⟨21, _⟩ => ⟨S11264, .f32⟩
  | .hbm, ⟨22, _⟩ => ⟨S1x1x11264, .f32⟩
  | .hbm, ⟨23, _⟩ => ⟨S4x2048x11264, .f32⟩
  | .hbm, ⟨24, _⟩ => ⟨S4x2048x11264, .f32⟩
  | .hbm, ⟨25, _⟩ => ⟨S4x2048x11264, .f32⟩
  | .hbm, ⟨26, _⟩ => ⟨S4x2048x11264, .f32⟩
  | .hbm, ⟨27, _⟩ => ⟨S1x1x11264, .f32⟩
  | .hbm, ⟨28, _⟩ => ⟨S11264, .f32⟩
  | .hbm, ⟨29, _⟩ => ⟨S1x1x11264, .f32⟩
  | .hbm, ⟨30, _⟩ => ⟨S4x2048x11264, .f32⟩
  | .hbm, ⟨31, _⟩ => ⟨S4x2048x11264, .f32⟩
  | .hbm, ⟨32, _⟩ => ⟨S4x2048x11264, .f32⟩
  | .hbm, ⟨33, _⟩ => ⟨S1x11264, .f32⟩
  | .hbm, ⟨34, _⟩ => ⟨S11264, .f32⟩
  | .hbm, ⟨35, _⟩ => ⟨S1x1x11264, .f32⟩
  | .hbm, ⟨36, _⟩ => ⟨S4x2048x11264, .f32⟩
  | .hbm, ⟨37, _⟩ => ⟨S4x2048x11264, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x5632, .f32⟩
  | .hbm, ⟨42, _⟩ => ⟨S_, .f32⟩
  | .hbm, ⟨43, _⟩ => ⟨S4x2048x5632, .f32⟩
  | .hbm, ⟨44, _⟩ => ⟨S4x2048x5632, .f32⟩
  | .hbm, ⟨45, _⟩ => ⟨S4x2048x5632, .f32⟩
  | .hbm, ⟨46, _⟩ => ⟨S_, .f32⟩
  | .hbm, ⟨47, _⟩ => ⟨S4x2048x5632, .f32⟩
  | .hbm, ⟨48, _⟩ => ⟨S4x2048x5632, .f32⟩
  | .hbm, ⟨49, _⟩ => ⟨S4x2048x5632, .f32⟩
  | .hbm, ⟨50, _⟩ => ⟨S_, .f32⟩
  | .hbm, ⟨51, _⟩ => ⟨S4x2048x5632, .f32⟩
  | .hbm, ⟨52, _⟩ => ⟨S4x2048x5632, .f32⟩
  | .hbm, ⟨53, _⟩ => ⟨S_, .f32⟩
  | .hbm, ⟨54, _⟩ => ⟨S4x2048x5632, .f32⟩
  | .hbm, ⟨55, _⟩ => ⟨S4x2048x5632, .f32⟩
  | .hbm, ⟨56, _⟩ => ⟨S4x2048x5632, .f32⟩
  | .hbm, ⟨57, _⟩ => ⟨S4x2048x5632, .f32⟩
  | .hbm, ⟨58, _⟩ => ⟨S8192x5632, .f32⟩
  | .hbm, ⟨59, _⟩ => ⟨S8192x5632, .bf16⟩
  | .hbm, ⟨60, _⟩ => ⟨S1x5632x2048, .f32⟩
  | .hbm, ⟨61, _⟩ => ⟨S5632x2048, .f32⟩
  | .hbm, ⟨62, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S2x2048 : Shape := ⟨2, ![2, 2048]⟩
abbrev S1x2048 : Shape := ⟨2, ![1, 2048]⟩
abbrev S2048 : Shape := ⟨1, ![2048]⟩
abbrev S512x2048 : Shape := ⟨2, ![512, 2048]⟩
abbrev S2x256x2048 : Shape := ⟨3, ![2, 256, 2048]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2x256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S8192x2048 : Shape := ⟨2, ![8192, 2048]⟩
abbrev S2048x2048 : Shape := ⟨2, ![2048, 2048]⟩
abbrev S2x2048 : Shape := ⟨2, ![2, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutEven.lean ====
abbrev S8192x1024 : Shape := ⟨2, ![8192, 1024]⟩
abbrev S2048x2048 : Shape := ⟨2, ![2048, 2048]⟩
abbrev S8192x2048 : Shape := ⟨2, ![8192, 2048]⟩
abbrev S2x2048 : Shape := ⟨2, ![2, 2048]⟩
abbrev S1x2048 : Shape := ⟨2, ![1, 2048]⟩
abbrev S2048 : Shape := ⟨1, ![2048]⟩
abbrev S512x1024 : Shape := ⟨2, ![512, 1024]⟩
abbrev S512x2048 : Shape := ⟨2, ![512, 2048]⟩
abbrev S2x256x2048 : Shape := ⟨3, ![2, 256, 2048]⟩
abbrev S256x1024 : Shape := ⟨2, ![256, 1024]⟩
abbrev S1024x2048 : Shape := ⟨2, ![1024, 2048]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S2x256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutEvenRefIdeal.lean ====
abbrev S8192x1024 : Shape := ⟨2, ![8192, 1024]⟩
abbrev S2048x2048 : Shape := ⟨2, ![2048, 2048]⟩
abbrev S8192x2048 : Shape := ⟨2, ![8192, 2048]⟩
abbrev S2x2048 : Shape := ⟨2, ![2, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S2x2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== DownEven.lean ====
abbrev S8192x5632 : Shape := ⟨2, ![8192, 5632]⟩
abbrev S5632x2048 : Shape := ⟨2, ![5632, 2048]⟩
abbrev S8192x2048 : Shape := ⟨2, ![8192, 2048]⟩
abbrev S1x2048x6144 : Shape := ⟨3, ![1, 2048, 6144]⟩
abbrev S2048x6144 : Shape := ⟨2, ![2048, 6144]⟩
abbrev S512x5632 : Shape := ⟨2, ![512, 5632]⟩
abbrev S5632x1024 : Shape := ⟨2, ![5632, 1024]⟩
abbrev S512x1024 : Shape := ⟨2, ![512, 1024]⟩
abbrev S1x64x6144 : Shape := ⟨3, ![1, 64, 6144]⟩
abbrev S64x6144 : Shape := ⟨2, ![64, 6144]⟩

abbrev nBuf : Space → Nat
  | .hbm => 6
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048x6144, .f32⟩
  | .hbm, ⟨4, _⟩ => ⟨S8192x2048, .f32⟩
  | .hbm, ⟨5, _⟩ => ⟨S2048x6144, .bf16⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S1x64x6144, .f32⟩
  | .local _ .vmem, ⟨7, _⟩ => ⟨S1x64x6144, .f32⟩
  | .local _ .vmem, ⟨8, _⟩ => ⟨S512x1024, .f32⟩
  | .local _ .vmem, ⟨9, _⟩ => ⟨S512x1024, .f32⟩
  | .local _ .vmem, ⟨10, _⟩ => ⟨S64x6144, .bf16⟩
  | .local _ .vmem, ⟨11, _⟩ => ⟨S64x6144, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownEvenRefIdeal.lean ====
abbrev S8192x5632 : Shape := ⟨2, ![8192, 5632]⟩
abbrev S5632x2048 : Shape := ⟨2, ![5632, 2048]⟩
abbrev S8192x2048 : Shape := ⟨2, ![8192, 2048]⟩
abbrev S1x2048x6144 : Shape := ⟨3, ![1, 2048, 6144]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048x6144, .f32⟩
  | .hbm, ⟨4, _⟩ => ⟨S8192x2048, .f32⟩
  | .hbm, ⟨5, _⟩ => ⟨S8192x2048, .f32⟩
  | .hbm, ⟨6, _⟩ => ⟨S2048x6144, .f32⟩
  | .hbm, ⟨7, _⟩ => ⟨S2048x6144, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== In.lean ====
abbrev S8192x2048 : Shape := ⟨2, ![8192, 2048]⟩
abbrev S2x2048 : Shape := ⟨2, ![2, 2048]⟩
abbrev S2048x6144 : Shape := ⟨2, ![2048, 6144]⟩
abbrev S1x128 : Shape := ⟨2, ![1, 128]⟩
abbrev S1x2048 : Shape := ⟨2, ![1, 2048]⟩
abbrev S2048 : Shape := ⟨1, ![2048]⟩
abbrev S128 : Shape := ⟨1, ![128]⟩
abbrev S_ : Shape := ⟨0, ![]⟩
abbrev S16x128 : Shape := ⟨2, ![16, 128]⟩
abbrev S4096 : Shape := ⟨1, ![4096]⟩
abbrev S1x4096 : Shape := ⟨2, ![1, 4096]⟩
abbrev S8192x6144 : Shape := ⟨2, ![8192, 6144]⟩
abbrev S1024x2048 : Shape := ⟨2, ![1024, 2048]⟩
abbrev S2048x2048 : Shape := ⟨2, ![2048, 2048]⟩
abbrev S2x256x2048 : Shape := ⟨3, ![2, 256, 2048]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S256x128 : Shape := ⟨2, ![256, 128]⟩

abbrev nBuf : Space → Nat
  | .hbm => 22
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x6144, .bf16⟩
  | .hbm, ⟨3, _⟩ => ⟨S1x128, .f32⟩
  | .hbm, ⟨4, _⟩ => ⟨S1x128, .f32⟩
  | .hbm, ⟨5, _⟩ => ⟨S1x2048, .f32⟩
  | .hbm, ⟨6, _⟩ => ⟨S2048, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S16x128, .f32⟩
  | .hbm, ⟨14, _⟩ => ⟨S2048, .f32⟩
  | .hbm, ⟨15, _⟩ => ⟨S1x128, .f32⟩
  | .hbm, ⟨16, _⟩ => ⟨S16x128, .f32⟩
  | .hbm, ⟨17, _⟩ => ⟨S2048, .f32⟩
  | .hbm, ⟨18, _⟩ => ⟨S4096, .f32⟩
  | .hbm, ⟨19, _⟩ => ⟨S1x4096, .f32⟩
  | .hbm, ⟨20, _⟩ => ⟨S1x2048, .f32⟩
  | .hbm, ⟨21, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S2x256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InRefIdeal.lean ====
abbrev S8192x2048 : Shape := ⟨2, ![8192, 2048]⟩
abbrev S2x2048 : Shape := ⟨2, ![2, 2048]⟩
abbrev S2048x6144 : Shape := ⟨2, ![2048, 6144]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S8192x6144 : Shape := ⟨2, ![8192, 6144]⟩
abbrev S8192x3x16x128 : Shape := ⟨4, ![8192, 3, 16, 128]⟩
abbrev S8192x1x16x128 : Shape := ⟨4, ![8192, 1, 16, 128]⟩
abbrev S8192x16x128 : Shape := ⟨3, ![8192, 16, 128]⟩
abbrev S8192x16 : Shape := ⟨2, ![8192, 16]⟩
abbrev S8192x16x1 : Shape := ⟨3, ![8192, 16, 1]⟩
abbrev S128 : Shape := ⟨1, ![128]⟩
abbrev S1x1x128 : Shape := ⟨3, ![1, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x6144, .bf16⟩
  | .hbm, ⟨3, _⟩ => ⟨S1x128, .f32⟩
  | .hbm, ⟨4, _⟩ => ⟨S1x128, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | .hbm, ⟨24, _⟩ => ⟨S8192x6144, .f32⟩
  | .hbm, ⟨25, _⟩ => ⟨S8192x3x16x128, .f32⟩
  | .hbm, ⟨26, _⟩ => ⟨S8192x1x16x128, .f32⟩
  | .hbm, ⟨27, _⟩ => ⟨S8192x16x128, .f32⟩
  | .hbm, ⟨28, _⟩ => ⟨S8192x1x16x128, .f32⟩
  | .hbm, ⟨29, _⟩ => ⟨S8192x16x128, .f32⟩
  | .hbm, ⟨30, _⟩ => ⟨S8192x1x16x128, .f32⟩
  | .hbm, ⟨31, _⟩ => ⟨S8192x16x128, .f32⟩
  | .hbm, ⟨32, _⟩ => ⟨S8192x16x128, .f32⟩
  | .hbm, ⟨33, _⟩ => ⟨S_, .f32⟩
  | .hbm, ⟨34, _⟩ => ⟨S8192x16, .f32⟩
  | .hbm, ⟨35, _⟩ => ⟨S8192x16x1, .f32⟩
  | .hbm, ⟨36, _⟩ => ⟨S_, .f32⟩
  | .hbm, ⟨37, _⟩ => ⟨S8192x16x1, .f32⟩
  | .hbm, ⟨38, _⟩ => ⟨S8192x16x1, .f32⟩
  | .hbm, ⟨39, _⟩ => ⟨S_, .f32⟩
  | .hbm, ⟨40, _⟩ => ⟨S8192x16x1, .f32⟩
  | .hbm, ⟨41, _⟩ => ⟨S8192x16x1, .f32⟩
  | .hbm, ⟨42, _⟩ => ⟨S8192x16x1, .f32⟩
  | .hbm, ⟨43, _⟩ => ⟨S8192x16x128, .f32⟩
  | .hbm, ⟨44, _⟩ => ⟨S8192x16x128, .f32⟩
  | .hbm, ⟨45, _⟩ => ⟨S128, .f32⟩
  | .hbm, ⟨46, _⟩ => ⟨S1x1x128, .f32⟩
  | .hbm, ⟨47, _⟩ => ⟨S8192x16x128, .f32⟩
  | .hbm, ⟨48, _⟩ => ⟨S8192x16x128, .f32⟩
  | .hbm, ⟨49, _⟩ => ⟨S_, .f32⟩
  | .hbm, ⟨50, _⟩ => ⟨S8192x16x128, .f32⟩
  | .hbm, ⟨51, _⟩ => ⟨S8192x16x128, .f32⟩
  | .hbm, ⟨52, _⟩ => ⟨S8192x16x128, .f32⟩
  | .hbm, ⟨53, _⟩ => ⟨S_, .f32⟩
  | .hbm, ⟨54, _⟩ => ⟨S8192x16, .f32⟩
  | .hbm, ⟨55, _⟩ => ⟨S8192x16x1, .f32⟩
  | .hbm, ⟨56, _⟩ => ⟨S_, .f32⟩
  | .hbm, ⟨57, _⟩ => ⟨S8192x16x1, .f32⟩
  | .hbm, ⟨58, _⟩ => ⟨S8192x16x1, .f32⟩
  | .hbm, ⟨59, _⟩ => ⟨S_, .f32⟩
  | .hbm, ⟨60, _⟩ => ⟨S8192x16x1, .f32⟩
  | .hbm, ⟨61, _⟩ => ⟨S8192x16x1, .f32⟩
  | .hbm, ⟨62, _⟩ => ⟨S8192x16x1, .f32⟩
  | .hbm, ⟨63, _⟩ => ⟨S8192x16x128, .f32⟩
  | .hbm, ⟨64, _⟩ => ⟨S8192x16x128, .f32⟩
  | .hbm, ⟨65, _⟩ => ⟨S128, .f32⟩
  | .hbm, ⟨66, _⟩ => ⟨S1x1x128, .f32⟩
  | .hbm, ⟨67, _⟩ => ⟨S8192x16x128, .f32⟩
  | .hbm, ⟨68, _⟩ => ⟨S8192x16x128, .f32⟩
  | .hbm, ⟨69, _⟩ => ⟨S8192x1x16x128, .f32⟩
  | .hbm, ⟨70, _⟩ => ⟨S8192x1x16x128, .f32⟩
  | .hbm, ⟨71, _⟩ => ⟨S8192x1x16x128, .f32⟩
  | .hbm, ⟨72, _⟩ => ⟨S8192x3x16x128, .f32⟩
  | .hbm, ⟨73, _⟩ => ⟨S8192x6144, .f32⟩
  | .hbm, ⟨74, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== InEven.lean ====
abbrev S8192x2048 : Shape := ⟨2, ![8192, 2048]⟩
abbrev S2x2048 : Shape := ⟨2, ![2, 2048]⟩
abbrev S1x2048x6144 : Shape := ⟨3, ![1, 2048, 6144]⟩
abbrev S1x4x1024 : Shape := ⟨3, ![1, 4, 1024]⟩
abbrev S1x1024 : Shape := ⟨2, ![1, 1024]⟩
abbrev S2048 : Shape := ⟨1, ![2048]⟩
abbrev S128 : Shape := ⟨1, ![128]⟩
abbrev S_ : Shape := ⟨0, ![]⟩
abbrev S2048x1 : Shape := ⟨2, ![2048, 1]⟩
abbrev S1x128 : Shape := ⟨2, ![1, 128]⟩
abbrev S2048x128 : Shape := ⟨2, ![2048, 128]⟩
abbrev S1x2048 : Shape := ⟨2, ![1, 2048]⟩
abbrev S4x1024 : Shape := ⟨2, ![4, 1024]⟩
abbrev S1024 : Shape := ⟨1, ![1024]⟩
abbrev S8192x6144 : Shape := ⟨2, ![8192, 6144]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩
abbrev S2x256x1024 : Shape := ⟨3, ![2, 256, 1024]⟩
abbrev S8x1024 : Shape := ⟨2, ![8, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S1x256x1024 : Shape := ⟨3, ![1, 256, 1024]⟩
abbrev S256x128 : Shape := ⟨2, ![256, 128]⟩
abbrev S264x1024 : Shape := ⟨2, ![264, 1024]⟩

abbrev nBuf : Space → Nat
  | .hbm => 29
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048x6144, .f32⟩
  | .hbm, ⟨3, _⟩ => ⟨S1x4x1024, .f32⟩
  | .hbm, ⟨4, _⟩ => ⟨S1x1024, .f32⟩
  | .hbm, ⟨5, _⟩ => ⟨S2048, .i32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S2048, .f32⟩
  | .hbm, ⟨15, _⟩ => ⟨S2048x1, .f32⟩
  | .hbm, ⟨16, _⟩ => ⟨S1x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S1x2048, .f32⟩
  | .hbm, ⟨23, _⟩ => ⟨S2048, .f32⟩
  | .hbm, ⟨24, _⟩ => ⟨S4x1024, .f32⟩
  | .hbm, ⟨25, _⟩ => ⟨S1024, .f32⟩
  | .hbm, ⟨26, _⟩ => ⟨S1x1024, .f32⟩
  | .hbm, ⟨27, _⟩ => ⟨S1x2048, .f32⟩
  | .hbm, ⟨28, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S4x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x2048, .bf16⟩
  | .local _ .vmem, ⟨14, _⟩ => ⟨S2048x1024, .bf16⟩
  | .local _ .vmem, ⟨15, _⟩ => ⟨S2x256x1024, .f32⟩
  | .local _ .vmem, ⟨16, _⟩ => ⟨S8x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InEvenRefIdeal.lean ====
abbrev S8192x2048 : Shape := ⟨2, ![8192, 2048]⟩
abbrev S2x2048 : Shape := ⟨2, ![2, 2048]⟩
abbrev S1x2048x6144 : Shape := ⟨3, ![1, 2048, 6144]⟩
abbrev S1x4x1024 : Shape := ⟨3, ![1, 4, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S2048x6144 : Shape := ⟨2, ![2048, 6144]⟩
abbrev S8192x6144 : Shape := ⟨2, ![8192, 6144]⟩
abbrev S4x2048x6x1024 : Shape := ⟨4, ![4, 2048, 6, 1024]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S4x2048x1x1024 : Shape := ⟨4, ![4, 2048, 1, 1024]⟩
abbrev S4x2048x1024 : Shape := ⟨3, ![4, 2048, 1024]⟩
abbrev S4x2048x4x256 : Shape := ⟨4, ![4, 2048, 4, 256]⟩
abbrev S4x2048x4x128 : Shape := ⟨4, ![4, 2048, 4, 128]⟩
abbrev S4x3x1024 : Shape := ⟨3, ![4, 3, 1024]⟩
abbrev S4x2051x1024 : Shape := ⟨3, ![4, 2051, 1024]⟩
abbrev S1x1x1024 : Shape := ⟨3, ![1, 1, 1024]⟩
abbrev S1024 : Shape := ⟨1, ![1024]⟩

abbrev nBuf : Space → Nat
  | .hbm => 159
  | .vmem => 0
  | .smem => 0
  | _ => 0

abbrev hbmTy0_0 (i : Nat) : BufTy := match i % 128 with
  | 0 => ⟨S8192x2048, .f32⟩
  | 1 => ⟨S2x2048, .f32⟩
  | 2 => ⟨S1x2048x6144, .f32⟩
  | 3 => ⟨S1x4x1024, .f32⟩
  | 4 => ⟨S1x1024, .f32⟩
  | 5 => ⟨S8192x2048, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x2048, .f32⟩
  | 17 => ⟨S8192x2048, .f32⟩
  | 18 => ⟨S1x2048, .f32⟩
  | 19 => ⟨S2048, .f32⟩
  | 20 => ⟨S1x2048, .f32⟩
  | 21 => ⟨S8192x2048, .f32⟩
  | 22 => ⟨S8192x2048, .f32⟩
  | 23 => ⟨S2048x6144, .f32⟩
  | 24 => ⟨S8192x6144, .f32⟩
  | 25 => ⟨S4x2048x6x1024, .f32⟩
  | 26 => ⟨S128, .f32⟩
  | 27 => ⟨S128, .f32⟩
  | 28 => ⟨S_, .f32⟩
  | 29 => ⟨S128, .f32⟩
  | 30 => ⟨S128, .f32⟩
  | 31 => ⟨S_, .f32⟩
  | 32 => ⟨S128, .f32⟩
  | 33 => ⟨S128, .f32⟩
  | 34 => ⟨S2048, .i32⟩
  | 35 => ⟨S2048, .f32⟩
  | 36 => ⟨S2048x1, .f32⟩
  | 37 => ⟨S1x128, .f32⟩
  | 38 => ⟨S2048x128, .f32⟩
  | 39 => ⟨S2048x128, .f32⟩
  | 40 => ⟨S2048x128, .f32⟩
  | 41 => ⟨S2048x128, .f32⟩
  | 42 => ⟨S1x2048x1x128, .f32⟩
  | 43 => ⟨S2048x128, .f32⟩
  | 44 => ⟨S1x2048x1x128, .f32⟩
  | 45 => ⟨S4x2048x1x1024, .f32⟩
  | 46 => ⟨S4x2048x1024, .f32⟩
  | 47 => ⟨S4x2048x4x256, .f32⟩
  | 48 => ⟨S4x2048x4x128, .f32⟩
  | 49 => ⟨S4x2048x4x128, .f32⟩
  | 50 => ⟨S4x2048x4x128, .f32⟩
  | 51 => ⟨S4x2048x4x128, .f32⟩
  | 52 => ⟨S4x2048x4x128, .f32⟩
  | 53 => ⟨S4x2048x4x128, .f32⟩
  | 54 => ⟨S4x2048x4x128, .f32⟩
  | 55 => ⟨S4x2048x4x128, .f32⟩
  | 56 => ⟨S4x2048x4x128, .f32⟩
  | 57 => ⟨S4x2048x4x128, .f32⟩
  | 58 => ⟨S4x2048x4x128, .f32⟩
  | 59 => ⟨S4x2048x4x128, .f32⟩
  | 60 => ⟨S4x2048x4x256, .f32⟩
  | 61 => ⟨S4x2048x1024, .f32⟩
  | 62 => ⟨S4x2048x1x1024, .f32⟩
  | 63 => ⟨S4x2048x1024, .f32⟩
  | 64 => ⟨S4x2048x4x256, .f32⟩
  | 65 => ⟨S4x2048x4x128, .f32⟩
  | 66 => ⟨S4x2048x4x128, .f32⟩
  | 67 => ⟨S4x2048x4x128, .f32⟩
  | 68 => ⟨S4x2048x4x128, .f32⟩
  | 69 => ⟨S4x2048x4x128, .f32⟩
  | 70 => ⟨S4x2048x4x128, .f32⟩
  | 71 => ⟨S4x2048x4x128, .f32⟩
  | 72 => ⟨S4x2048x4x128, .f32⟩
  | 73 => ⟨S4x2048x4x128, .f32⟩
  | 74 => ⟨S4x2048x4x128, .f32⟩
  | 75 => ⟨S4x2048x4x128, .f32⟩
  | 76 => ⟨S4x2048x4x128, .f32⟩
  | 77 => ⟨S4x2048x4x256, .f32⟩
  | 78 => ⟨S4x2048x1024, .f32⟩
  | 79 => ⟨S_, .f32⟩
  | 80 => ⟨S4x2048x1024, .f32⟩
  | 81 => ⟨S4x2048x1024, .f32⟩
  | 82 => ⟨S4x2048x1x1024, .f32⟩
  | 83 => ⟨S4x2048x1024, .f32⟩
  | 84 => ⟨S4x2048x1x1024, .f32⟩
  | 85 => ⟨S4x2048x1024, .f32⟩
  | 86 => ⟨S4x2048x1024, .f32⟩
  | 87 => ⟨S4x2048x1024, .f32⟩
  | 88 => ⟨S_, .f32⟩
  | 89 => ⟨S4x2048x1024, .f32⟩
  | 90 => ⟨S4x2048x1024, .f32⟩
  | 91 => ⟨S_, .f32⟩
  | 92 => ⟨S4x2048x1024, .f32⟩
  | 93 => ⟨S4x2048x1024, .f32⟩
  | 94 => ⟨S4x2048x1024, .f32⟩
  | 95 => ⟨S_, .f32⟩
  | 96 => ⟨S4x3x1024, .f32⟩
  | 97 => ⟨S4x2048x1x1024, .f32⟩
  | 98 => ⟨S4x2048x1024, .f32⟩
  | 99 => ⟨S4x2051x1024, .f32⟩
  | 100 => ⟨S4x2048x1024, .f32⟩
  | 101 => ⟨S1x1x1024, .f32⟩
  | 102 => ⟨S1024, .f32⟩
  | 103 => ⟨S1x1x1024, .f32⟩
  | 104 => ⟨S4x2048x1024, .f32⟩
  | 105 => ⟨S4x2048x1024, .f32⟩
  | 106 => ⟨S4x2048x1024, .f32⟩
  | 107 => ⟨S1x1x1024, .f32⟩
  | 108 => ⟨S1024, .f32⟩
  | 109 => ⟨S1x1x1024, .f32⟩
  | 110 => ⟨S4x2048x1024, .f32⟩
  | 111 => ⟨S4x2048x1024, .f32⟩
  | 112 => ⟨S4x2048x1024, .f32⟩
  | 113 => ⟨S4x2048x1024, .f32⟩
  | 114 => ⟨S1x1x1024, .f32⟩
  | 115 => ⟨S1024, .f32⟩
  | 116 => ⟨S1x1x1024, .f32⟩
  | 117 => ⟨S4x2048x1024, .f32⟩
  | 118 => ⟨S4x2048x1024, .f32⟩
  | 119 => ⟨S4x2048x1024, .f32⟩
  | 120 => ⟨S4x2048x1024, .f32⟩
  | 121 => ⟨S1x1x1024, .f32⟩
  | 122 => ⟨S1024, .f32⟩
  | 123 => ⟨S1x1x1024, .f32⟩
  | 124 => ⟨S4x2048x1024, .f32⟩
  | 125 => ⟨S4x2048x1024, .f32⟩
  | 126 => ⟨S4x2048x1024, .f32⟩
  | 127 => ⟨S1024, .f32⟩
  | _ => ⟨S8192x2048, .f32⟩

abbrev hbmTy0_1 (i : Nat) : BufTy := match i % 128 with
  | 0 => ⟨S1x1x1024, .f32⟩
  | 1 => ⟨S4x2048x1024, .f32⟩
  | 2 => ⟨S4x2048x1024, .f32⟩
  | 3 => ⟨S4x2048x1x1024, .f32⟩
  | 4 => ⟨S4x2048x1024, .f32⟩
  | 5 => ⟨S4x2048x1024, .f32⟩
  | 6 => ⟨S4x2048x1024, .f32⟩
  | 7 => ⟨S_, .f32⟩
  | 8 => ⟨S4x2048x1024, .f32⟩
  | 9 => ⟨S4x2048x1024, .f32⟩
  | 10 => ⟨S4x2048x1024, .f32⟩
  | 11 => ⟨S_, .f32⟩
  | 12 => ⟨S4x2048x1024, .f32⟩
  | 13 => ⟨S4x2048x1024, .f32⟩
  | 14 => ⟨S4x2048x1024, .f32⟩
  | 15 => ⟨S_, .f32⟩
  | 16 => ⟨S4x2048x1024, .f32⟩
  | 17 => ⟨S4x2048x1024, .f32⟩
  | 18 => ⟨S_, .f32⟩
  | 19 => ⟨S4x2048x1024, .f32⟩
  | 20 => ⟨S4x2048x1024, .f32⟩
  | 21 => ⟨S4x2048x1024, .f32⟩
  | 22 => ⟨S4x2048x1x1024, .f32⟩
  | 23 => ⟨S4x2048x1x1024, .f32⟩
  | 24 => ⟨S4x2048x1x1024, .f32⟩
  | 25 => ⟨S4x2048x1x1024, .f32⟩
  | 26 => ⟨S4x2048x1x1024, .f32⟩
  | 27 => ⟨S4x2048x1x1024, .f32⟩
  | 28 => ⟨S4x2048x6x1024, .f32⟩
  | 29 => ⟨S8192x6144, .f32⟩
  | 30 => ⟨S8192x6144, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_4 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v75 : Ref sig .tc := ⟨.hbm, 94, rfl⟩
abbrev main_cst_5 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_6 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_7 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_cst_8 : Ref sig .tc := ⟨.hbm, 143, rfl⟩
abbrev main_v121 : Ref sig .tc := ⟨.hbm, 144, rfl⟩
abbrev main_v122 : Ref sig .tc := ⟨.hbm, 145, rfl⟩
abbrev main_cst_9 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩

abbrev nD : Nat := 1
abbrev τ : Topo := Topo.v7x

variable {F : FTy → Type} [FloatOps F]
-- ==== Proof.Ret.Chunk.lean ====
/- What one grid point of the retention leaves in its block of tokens: each chunk of 128 rows is one and the
   same function of the chunk's rows and of the state of the chunks before it. -/
module

public import proofs.«01_k».proof.Proof.Gen.RetIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.RetIdeal.Value

open Cert.RetIdeal Cert.RetIdeal.Gen

variable {F : FTy → Type} [FloatOps F]
variable (m : (ℓ : Loc nD τ sig) → Buf (Elt F) ℓ)

/-- Chunk `n`'s rows lie in the block. -/
theorem inb_rows (n : ℕ) : ∀ a, (![128 * (n % 16), 0] : Fin 2 → ℕ) a + (![128, 256] : Fin 2 → ℕ) a ≤ S2048x256.size a := by
  have := Nat.mod_lt n (show 0 < 16 by decide)
  intro a
  match a with
  | 0 => show 128 * (n % 16) + 128 ≤ 2048; omega
  | 1 => show 0 + 256 ≤ 256; omega

/-- Chunk `n`'s 128 rows of a block of 2048 tokens. -/
def rowsC (X : Vec F S2048x256 .bf16) (n : ℕ) : Vec F S128x256 .bf16 :=
  View.ld X (Rect.unit ![128 * (n % 16), 0] ![128, 256] (inb_rows n))

/-- The key-value product of one chunk. -/
def kvC (k : Vec F S128x256 .bf16) (z : Vec F S1x128x256 .f32) (v : Vec F S128x256 .bf16) : FVec F S1x1x256x256 .f32 :=
  k0_pay3 k z v

/-- The state before chunk `n`. -/
def stC (g : Vec F S1x1x256 .f32) (kv : ℕ → FVec F S1x1x256x256 .f32) : ℕ → FVec F S256x256 .f32
  | 0 => broadcast S256x256 (Scalar.ofBits .f32 0x00000000#32)
  | n + 1 => addf (mulf (broadcastTo S256x256 (shapeCast S1x256 g shapeCasts_S1x1x256_S1x256) broadcasts_S1x256_S256x256)
      (stC g kv n)) (shapeCast S256x256 (kv n) shapeCasts_S1x1x256x256_S256x256)

/-- One chunk's output from its rows, the tables and the state before it. -/
def outC (q k v gate : Vec F S128x256 .bf16) (dec : Vec F S1x128x128 .f32) (xi : Vec F S1x128x256 .f32)
    (rn : Vec F S1x1x256 .f32) (st : FVec F S256x256 .f32) : FVec F S128x256 .bf16 :=
  k0_pay66 q v k dec (shapeCast S1x1x256x256 (truncf .bf16 st bitsLt_bf16_f32) shapeCasts_S256x256_S1x1x256x256) xi rn gate

/-- Chunk `n`'s output as a function of the blocks. -/
def chunkC (q k v gate : Vec F S2048x256 .bf16) (dec : Vec F S1x128x128 .f32) (z xi : Vec F S1x128x256 .f32)
    (g rn : Vec F S1x1x256 .f32) (n : ℕ) : FVec F S128x256 .bf16 :=
  outC (rowsC q n) (rowsC k n) (rowsC v n) (rowsC gate n) dec xi rn
    (stC g (fun j => kvC (rowsC k j) z (rowsC v j)) n)

set_option maxHeartbeats 2000000 in
/-- Row `128 n + x` of the block the grid point leaves is row `x` of chunk `n`'s output. -/
theorem out_eq (c : Dev nD) (t : Fin cfg0.N) (y : S2048x256.Idx) (n : Fin 16) (x : S128x256.Idx)
    (hy0 : (y 0 : ℕ) = 128 * n + x 0) (hy1 : (y 1 : ℕ) = x 1) :
    (outsAt0 m c t).1 y = chunkC (iblk m c 0 t) (iblk m c 1 t) (iblk m c 2 t) (iblk m c 3 t) (iblk m c 4 t)
      (iblk m c 5 t) (iblk m c 6 t) (iblk m c 7 t) (iblk m c 8 t) n x := by
  unfold outsAt0
  frame_open
  simp (disch := decide) only [↓ View.readCov_skip, ↓ View.readCov_cons_toLoadRect, ↓ View.readCov_fill]
  frame_out
  have hx0 : (x 0 : ℕ) < 128 := (x 0).isLt
  canon_tiles w h
  case piece0 =>
    obtain rfl : n = 15 := by ext; show (n : ℕ) = 15; omega
    obtain rfl : x = w := by funext a; match a with | 0 => ext; omega | 1 => ext; omega
    rfl
  case piece1 =>
    obtain rfl : n = 14 := by ext; show (n : ℕ) = 14; omega
    obtain rfl : x = w := by funext a; match a with | 0 => ext; omega | 1 => ext; omega
    rfl
  case piece2 =>
    obtain rfl : n = 13 := by ext; show (n : ℕ) = 13; omega
    obtain rfl : x = w := by funext a; match a with | 0 => ext; omega | 1 => ext; omega
    rfl
  case piece3 =>
    obtain rfl : n = 12 := by ext; show (n : ℕ) = 12; omega
    obtain rfl : x = w := by funext a; match a with | 0 => ext; omega | 1 => ext; omega
    rfl
  case piece4 =>
    obtain rfl : n = 11 := by ext; show (n : ℕ) = 11; omega
    obtain rfl : x = w := by funext a; match a with | 0 => ext; omega | 1 => ext; omega
    rfl
  case piece5 =>
    obtain rfl : n = 10 := by ext; show (n : ℕ) = 10; omega
    obtain rfl : x = w := by funext a; match a with | 0 => ext; omega | 1 => ext; omega
    rfl
  case piece6 =>
    obtain rfl : n = 9 := by ext; show (n : ℕ) = 9; omega
    obtain rfl : x = w := by funext a; match a with | 0 => ext; omega | 1 => ext; omega
    rfl
  case piece7 =>
    obtain rfl : n = 8 := by ext; show (n : ℕ) = 8; omega
    obtain rfl : x = w := by funext a; match a with | 0 => ext; omega | 1 => ext; omega
    rfl
  case piece8 =>
    obtain rfl : n = 7 := by ext; show (n : ℕ) = 7; omega
    obtain rfl : x = w := by funext a; match a with | 0 => ext; omega | 1 => ext; omega
    rfl
  case piece9 =>
    obtain rfl : n = 6 := by ext; show (n : ℕ) = 6; omega
    obtain rfl : x = w := by funext a; match a with | 0 => ext; omega | 1 => ext; omega
    rfl
  case piece10 =>
    obtain rfl : n = 5 := by ext; show (n : ℕ) = 5; omega
    obtain rfl : x = w := by funext a; match a with | 0 => ext; omega | 1 => ext; omega
    rfl
  case piece11 =>
    obtain rfl : n = 4 := by ext; show (n : ℕ) = 4; omega
    obtain rfl : x = w := by funext a; match a with | 0 => ext; omega | 1 => ext; omega
    rfl
  case piece12 =>
    obtain rfl : n = 3 := by ext; show (n : ℕ) = 3; omega
    obtain rfl : x = w := by funext a; match a with | 0 => ext; omega | 1 => ext; omega
    rfl
  case piece13 =>
    obtain rfl : n = 2 := by ext; show (n : ℕ) = 2; omega
    obtain rfl : x = w := by funext a; match a with | 0 => ext; omega | 1 => ext; omega
    rfl
  case piece14 =>
    obtain rfl : n = 1 := by ext; show (n : ℕ) = 1; omega
    obtain rfl : x = w := by funext a; match a with | 0 => ext; omega | 1 => ext; omega
    rfl
  case piece15 =>
    obtain rfl : n = 0 := by ext; show (n : ℕ) = 0; omega
    obtain rfl : x = w := by funext a; match a with | 0 => ext; omega | 1 => ext; omega
    rfl
end Cert.RetIdeal.Value

end
-- ==== Proof.Ret.Spec.lean ====
/- The numbers the retention computes for one sequence and one head, over the extended reals: the chunk's
   key-value product, the state carried from chunk to chunk, and the sum before the normalisation. -/
module

public import Idealize.ShloMosaic.Lib.Pipeline.ValueKit

@[expose] public section

noncomputable section

namespace Cert.RetSpec

open Idealize.ShloMosaic

/-- The key-value product of chunk `n`: keys weighted by `z`, summed over the chunk's tokens. -/
def kvS (k v : ℕ → Fin 128 → Fin 256 → EReal) (z : Fin 128 → Fin 256 → EReal) (n : ℕ) (d e : Fin 256) : EReal :=
  ∑ j : Fin 128, k n j d * z j d * v n j e

/-- The state before chunk `n`: nothing at first, then decayed by `g` and added to. -/
def stS (g : Fin 256 → EReal) (kv : ℕ → Fin 256 → Fin 256 → EReal) : ℕ → Fin 256 → Fin 256 → EReal
  | 0, _, _ => 0
  | n + 1, d, e => g e * stS g kv n d e + kv n d e

/-- A token's sum before the normalisation: the part of its own chunk and the part of the state. -/
def preS (q k v : ℕ → Fin 128 → Fin 256 → EReal) (dec : Fin 128 → Fin 128 → EReal) (z xi : Fin 128 → Fin 256 → EReal)
    (g : Fin 256 → EReal) (n : ℕ) (i : Fin 128) (e : Fin 256) : EReal :=
  (∑ j : Fin 128, (∑ d : Fin 256, q n i d * k n j d) * dec i j * v n j e)
    + (∑ d : Fin 256, q n i d * stS g (kvS k v z) n d e) * xi i e

/-- The token's output: the sum divided by its root mean square, times the norm's weight, times the gate. -/
def outS (pre : Fin 128 → Fin 256 → EReal) (rn : Fin 256 → EReal) (gt : Fin 128 → Fin 256 → EReal) (i : Fin 128)
    (e : Fin 256) : EReal :=
  pre i e * Ideal.rsqrt (Ideal.div (∑ x : Fin 256, pre i x * pre i x) (Ideal.ofBits FTy.f32 1132462080#32)
    + Ideal.ofBits FTy.f32 897988541#32) * rn e * gt i e

end Cert.RetSpec

end
-- ==== Proof.Ret.Kern.lean ====
/- One chunk's output of the retention kernel, read at an index over the extended reals. -/
module

public import proofs.«01_k».proof.Proof.Ret.Chunk
public import proofs.«01_k».proof.Proof.Ret.Spec

@[expose] public section

set_option maxRecDepth 16384

noncomputable section

open Idealize.ShloMosaic Idealize.ShloMosaic.TcCoe Idealize.SL.Sem

namespace Cert.RetIdeal.Value

open Cert.RetIdeal Cert.RetIdeal.Gen Cert.RetSpec

/-- A chunk's key-value product at an index. -/
theorem kvC_at (k v : ℕ → Vec Ideal S128x256 .bf16) (z : Vec Ideal S1x128x256 .f32) (n : ℕ) (d e : Fin 256) :
    kvC (k n) z (v n) (ix4 0 0 d e)
      = kvS (fun n j d => k n (ix2 j d)) (fun n j d => v n (ix2 j d)) (fun j d => z (ix3 0 j d)) n d e := by
  unfold kvS
  pointwise [kvC, k0_pay3]

/-- The state at an index. -/
theorem stC_at (g : Vec Ideal S1x1x256 .f32) (kv : ℕ → FVec Ideal S1x1x256x256 .f32) (d e : Fin 256) : ∀ n : ℕ,
    stC g kv n (ix2 d e) = stS (fun e => g (ix3 0 0 e)) (fun n d e => kv n (ix4 0 0 d e)) n d e
  | 0 => by
    unfold stS stC
    pointwise
  | n + 1 => by
    unfold stS stC
    rw [← stC_at g kv d e n]
    pointwise

/-- One chunk's output at an index. -/
theorem chunkC_at (q k v gate : Vec Ideal S2048x256 .bf16) (dec : Vec Ideal S1x128x128 .f32)
    (z xi : Vec Ideal S1x128x256 .f32) (g rn : Vec Ideal S1x1x256 .f32) (n : ℕ) (i : Fin 128) (e : Fin 256) :
    chunkC q k v gate dec z xi g rn n (ix2 i e)
      = outS (preS (fun n j d => rowsC q n (ix2 j d)) (fun n j d => rowsC k n (ix2 j d))
            (fun n j d => rowsC v n (ix2 j d)) (fun i j => dec (ix3 0 i j)) (fun j d => z (ix3 0 j d))
            (fun j d => xi (ix3 0 j d)) (fun e => g (ix3 0 0 e)) n)
          (fun e => rn (ix3 0 0 e)) (fun i e => rowsC gate n (ix2 i e)) i e := by
  have hst : ∀ d e : Fin 256, stC g (fun j => kvC (rowsC k j) z (rowsC v j)) n (ix2 d e)
      = stS (fun e => g (ix3 0 0 e)) (kvS (fun n j d => rowsC k n (ix2 j d)) (fun n j d => rowsC v n (ix2 j d))
          (fun j d => z (ix3 0 j d))) n d e := fun d e => by
    rw [stC_at]
    congr 1
    funext n d e
    exact kvC_at (rowsC k) (rowsC v) z n d e
  unfold outS preS chunkC
  generalize stC g (fun j => kvC (rowsC k j) z (rowsC v j)) n = st at hst
  pointwise [outC, k0_pay66]
  simp only [hst]

end Cert.RetIdeal.Value

end
-- ==== Proof.Ret.Ref.lean ====
/- The reference's named terms of the retention, read at an index. -/
module

public import proofs.«01_k».proof.Proof.Gen.RetRefIdeal.Run
public import proofs.«01_k».proof.Proof.Ret.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RetRefIdeal.Value

open Cert.RetRefIdeal Cert.RetRefIdeal.Gen Cert.RetSpec

variable (V0 : Valuation τ sig (Elt Ideal))

/-- The queries of sequence `b`, head `h`, by chunk, token and lane. -/
def qR (b h : Fin 4) (n : ℕ) (i : Fin 128) (d : Fin 256) : EReal := res_main_v53 V0 (ix5 b (Fin.ofNat 16 n) i h d)

/-- The keys. -/
def kR (b h : Fin 4) (n : ℕ) (i : Fin 128) (d : Fin 256) : EReal := res_main_v54 V0 (ix5 b (Fin.ofNat 16 n) i h d)

/-- The values. -/
def vR (b h : Fin 4) (n : ℕ) (i : Fin 128) (d : Fin 256) : EReal := res_main_v55 V0 (ix5 b (Fin.ofNat 16 n) i h d)

/-- The logarithm of head `h`'s decay. -/
def lgR (h : Fin 4) : EReal := res_main_v13 V0 (ix1 h)

/-- The decay over a chunk, for head `h`. -/
def gcR (h : Fin 4) : EReal := res_main_v52 V0 (ix1 h)

/-- The distance of two tokens of a chunk. -/
def diR (i j : Fin 128) : BitVec 32 := res_main_v19 V0 (ix2 i j)

/-- A token's number in its chunk. -/
def ioR (i : Fin 128) : BitVec 32 := res_main_v14 V0 (ix1 i)

/-- The decay between two tokens of a chunk, for head `h`. -/
def decR (h : Fin 4) (i j : Fin 128) : EReal :=
  Scalar.select (IntOp.cmpi CmpIPredicate.sge (diR V0 i j) 0#32)
    (Ideal.exp (lgR V0 h * FloatOps.sitofp (F := Ideal) FTy.f32 (IntOp.maxsi (diR V0 i j) 0#32)))
    (id (constant (F := Ideal) S_ FTy.f32 0#32) ix0)

/-- The key's weight in the chunk's product. -/
def zR (h : Fin 4) (j : Fin 128) (_ : Fin 256) : EReal :=
  Ideal.exp (lgR V0 h * FloatOps.sitofp (F := Ideal) FTy.f32 (IntOp.subi (127#32) (ioR V0 j)))

/-- The state's weight in a token's sum. -/
def xR (h : Fin 4) (i : Fin 128) (_ : Fin 256) : EReal :=
  Ideal.exp (lgR V0 h * FloatOps.sitofp (F := Ideal) FTy.f32 (IntOp.addi (ioR V0 i) 1#32))

/-- The state's decay over a chunk. -/
def gR (h : Fin 4) (_ : Fin 256) : EReal := gcR V0 h

/-- The reference's value 66 read at one place. -/
theorem v66_at (n : ℕ) (b h : Fin 4) (d e : Fin 256) :
    res_main_v66 V0 (ix5 (Fin.ofNat 16 n) b h d e) = kvS (kR V0 b h) (vR V0 b h) (zR V0 h) n d e := by
  unfold kvS kR vR zR lgR ioR
  pointwise [res_main_v66]

/-- The reference's value 67 read at one place. -/
theorem v67_at (b h : Fin 4) (d e : Fin 256) :
    res_main_v67 V0 (ix4 b h d e) = stS (gR V0 h) (kvS (kR V0 b h) (vR V0 b h) (zR V0 h)) 0 d e := by
  unfold stS
  pointwise [res_main_v67]

/-- The reference's value 73 read at one place. -/
theorem v73_at (b h : Fin 4) (d e : Fin 256) :
    res_main_v73 V0 (ix4 b h d e) = stS (gR V0 h) (kvS (kR V0 b h) (vR V0 b h) (zR V0 h)) 1 d e := by
  unfold stS gR gcR
  refine Eq.trans ?_ (congrArg₂ (fun x y : EReal => gcR V0 h * x + y) (v67_at V0 b h d e) (v66_at V0 (0) b h d e))
  pointwise [res_main_v73]
  rfl

/-- The reference's value 79 read at one place. -/
theorem v79_at (b h : Fin 4) (d e : Fin 256) :
    res_main_v79 V0 (ix4 b h d e) = stS (gR V0 h) (kvS (kR V0 b h) (vR V0 b h) (zR V0 h)) 2 d e := by
  unfold stS gR gcR
  refine Eq.trans ?_ (congrArg₂ (fun x y : EReal => gcR V0 h * x + y) (v73_at V0 b h d e) (v66_at V0 (1) b h d e))
  pointwise [res_main_v79]
  rfl

/-- The reference's value 85 read at one place. -/
theorem v85_at (b h : Fin 4) (d e : Fin 256) :
    res_main_v85 V0 (ix4 b h d e) = stS (gR V0 h) (kvS (kR V0 b h) (vR V0 b h) (zR V0 h)) 3 d e := by
  unfold stS gR gcR
  refine Eq.trans ?_ (congrArg₂ (fun x y : EReal => gcR V0 h * x + y) (v79_at V0 b h d e) (v66_at V0 (2) b h d e))
  pointwise [res_main_v85]
  rfl

/-- The reference's value 91 read at one place. -/
theorem v91_at (b h : Fin 4) (d e : Fin 256) :
    res_main_v91 V0 (ix4 b h d e) = stS (gR V0 h) (kvS (kR V0 b h) (vR V0 b h) (zR V0 h)) 4 d e := by
  unfold stS gR gcR
  refine Eq.trans ?_ (congrArg₂ (fun x y : EReal => gcR V0 h * x + y) (v85_at V0 b h d e) (v66_at V0 (3) b h d e))
  pointwise [res_main_v91]
  rfl

/-- The reference's value 97 read at one place. -/
theorem v97_at (b h : Fin 4) (d e : Fin 256) :
    res_main_v97 V0 (ix4 b h d e) = stS (gR V0 h) (kvS (kR V0 b h) (vR V0 b h) (zR V0 h)) 5 d e := by
  unfold stS gR gcR
  refine Eq.trans ?_ (congrArg₂ (fun x y : EReal => gcR V0 h * x + y) (v91_at V0 b h d e) (v66_at V0 (4) b h d e))
  pointwise [res_main_v97]
  rfl

/-- The reference's value 103 read at one place. -/
theorem v103_at (b h : Fin 4) (d e : Fin 256) :
    res_main_v103 V0 (ix4 b h d e) = stS (gR V0 h) (kvS (kR V0 b h) (vR V0 b h) (zR V0 h)) 6 d e := by
  unfold stS gR gcR
  refine Eq.trans ?_ (congrArg₂ (fun x y : EReal => gcR V0 h * x + y) (v97_at V0 b h d e) (v66_at V0 (5) b h d e))
  pointwise [res_main_v103]
  rfl

/-- The reference's value 109 read at one place. -/
theorem v109_at (b h : Fin 4) (d e : Fin 256) :
    res_main_v109 V0 (ix4 b h d e) = stS (gR V0 h) (kvS (kR V0 b h) (vR V0 b h) (zR V0 h)) 7 d e := by
  unfold stS gR gcR
  refine Eq.trans ?_ (congrArg₂ (fun x y : EReal => gcR V0 h * x + y) (v103_at V0 b h d e) (v66_at V0 (6) b h d e))
  pointwise [res_main_v109]
  rfl

/-- The reference's value 115 read at one place. -/
theorem v115_at (b h : Fin 4) (d e : Fin 256) :
    res_main_v115 V0 (ix4 b h d e) = stS (gR V0 h) (kvS (kR V0 b h) (vR V0 b h) (zR V0 h)) 8 d e := by
  unfold stS gR gcR
  refine Eq.trans ?_ (congrArg₂ (fun x y : EReal => gcR V0 h * x + y) (v109_at V0 b h d e) (v66_at V0 (7) b h d e))
  pointwise [res_main_v115]
  rfl

/-- The reference's value 121 read at one place. -/
theorem v121_at (b h : Fin 4) (d e : Fin 256) :
    res_main_v121 V0 (ix4 b h d e) = stS (gR V0 h) (kvS (kR V0 b h) (vR V0 b h) (zR V0 h)) 9 d e := by
  unfold stS gR gcR
  refine Eq.trans ?_ (congrArg₂ (fun x y : EReal => gcR V0 h * x + y) (v115_at V0 b h d e) (v66_at V0 (8) b h d e))
  pointwise [res_main_v121]
  rfl

/-- The reference's value 127 read at one place. -/
theorem v127_at (b h : Fin 4) (d e : Fin 256) :
    res_main_v127 V0 (ix4 b h d e) = stS (gR V0 h) (kvS (kR V0 b h) (vR V0 b h) (zR V0 h)) 10 d e := by
  unfold stS gR gcR
  refine Eq.trans ?_ (congrArg₂ (fun x y : EReal => gcR V0 h * x + y) (v121_at V0 b h d e) (v66_at V0 (9) b h d e))
  pointwise [res_main_v127]
  rfl

/-- The reference's value 133 read at one place. -/
theorem v133_at (b h : Fin 4) (d e : Fin 256) :
    res_main_v133 V0 (ix4 b h d e) = stS (gR V0 h) (kvS (kR V0 b h) (vR V0 b h) (zR V0 h)) 11 d e := by
  unfold stS gR gcR
  refine Eq.trans ?_ (congrArg₂ (fun x y : EReal => gcR V0 h * x + y) (v127_at V0 b h d e) (v66_at V0 (10) b h d e))
  pointwise [res_main_v133]
  rfl

/-- The reference's value 139 read at one place. -/
theorem v139_at (b h : Fin 4) (d e : Fin 256) :
    res_main_v139 V0 (ix4 b h d e) = stS (gR V0 h) (kvS (kR V0 b h) (vR V0 b h) (zR V0 h)) 12 d e := by
  unfold stS gR gcR
  refine Eq.trans ?_ (congrArg₂ (fun x y : EReal => gcR V0 h * x + y) (v133_at V0 b h d e) (v66_at V0 (11) b h d e))
  pointwise [res_main_v139]
  rfl

/-- The reference's value 145 read at one place. -/
theorem v145_at (b h : Fin 4) (d e : Fin 256) :
    res_main_v145 V0 (ix4 b h d e) = stS (gR V0 h) (kvS (kR V0 b h) (vR V0 b h) (zR V0 h)) 13 d e := by
  unfold stS gR gcR
  refine Eq.trans ?_ (congrArg₂ (fun x y : EReal => gcR V0 h * x + y) (v139_at V0 b h d e) (v66_at V0 (12) b h d e))
  pointwise [res_main_v145]
  rfl

/-- The reference's value 151 read at one place. -/
theorem v151_at (b h : Fin 4) (d e : Fin 256) :
    res_main_v151 V0 (ix4 b h d e) = stS (gR V0 h) (kvS (kR V0 b h) (vR V0 b h) (zR V0 h)) 14 d e := by
  unfold stS gR gcR
  refine Eq.trans ?_ (congrArg₂ (fun x y : EReal => gcR V0 h * x + y) (v145_at V0 b h d e) (v66_at V0 (13) b h d e))
  pointwise [res_main_v151]
  rfl

/-- The reference's value 157 read at one place. -/
theorem v157_at (b h : Fin 4) (d e : Fin 256) :
    res_main_v157 V0 (ix4 b h d e) = stS (gR V0 h) (kvS (kR V0 b h) (vR V0 b h) (zR V0 h)) 15 d e := by
  unfold stS gR gcR
  refine Eq.trans ?_ (congrArg₂ (fun x y : EReal => gcR V0 h * x + y) (v151_at V0 b h d e) (v66_at V0 (14) b h d e))
  pointwise [res_main_v157]
  rfl

/-- A token's sum before the normalisation. -/
theorem v188_at (n : Fin 16) (b h : Fin 4) (i : Fin 128) (e : Fin 256) (s : Fin 2048) (hs : (s : ℕ) = n * 128 + i) :
    res_main_v188 V0 (ix4 b s h e)
      = preS (qR V0 b h) (kR V0 b h) (vR V0 b h) (decR V0 h) (zR V0 h) (xR V0 h) (gR V0 h) n i e := by
  have e1 : (s : ℕ) / 128 = n := by omega
  have e2 : (s : ℕ) % 128 = i := by omega
  have e3 : Fin.ofNat 16 (n : ℕ) = n := by ext; exact Nat.mod_eq_of_lt n.isLt
  pointwise [res_main_v188, res_main_v186]
  simp only [e1, e2, Fin.eta]
  unfold preS
  refine congrArg₂ (fun x y : EReal => x + y) (Finset.sum_congr rfl fun j _ => ?_)
    (congrArg₂ (fun x y : EReal => x * y) (Finset.sum_congr rfl fun d _ => ?_) rfl)
  · simp only [qR, kR, vR, decR, lgR, diR, e3]
    exact mul_comm _ _
  · rw [show qR V0 b h n i d = res_main_v53 V0 (ix5 b n i h d) by rw [qR, e3]]
    rw [mul_comm]
    refine congrArg (fun x : EReal => (fun y : EReal => y * x) (res_main_v53 V0 (ix5 b n i h d))) ?_
    by_cases hk0 : (n : ℕ) < 1
    · rw [dif_pos hk0, show (n : ℕ) = 0 by omega]; exact v67_at V0 b h d e
    rw [dif_neg hk0]
    by_cases hk1 : (n : ℕ) - 1 < 1
    · rw [dif_pos hk1, show (n : ℕ) = 1 by omega]; exact v73_at V0 b h d e
    rw [dif_neg hk1]
    by_cases hk2 : (n : ℕ) - 1 - 1 < 1
    · rw [dif_pos hk2, show (n : ℕ) = 2 by omega]; exact v79_at V0 b h d e
    rw [dif_neg hk2]
    by_cases hk3 : (n : ℕ) - 1 - 1 - 1 < 1
    · rw [dif_pos hk3, show (n : ℕ) = 3 by omega]; exact v85_at V0 b h d e
    rw [dif_neg hk3]
    by_cases hk4 : (n : ℕ) - 1 - 1 - 1 - 1 < 1
    · rw [dif_pos hk4, show (n : ℕ) = 4 by omega]; exact v91_at V0 b h d e
    rw [dif_neg hk4]
    by_cases hk5 : (n : ℕ) - 1 - 1 - 1 - 1 - 1 < 1
    · rw [dif_pos hk5, show (n : ℕ) = 5 by omega]; exact v97_at V0 b h d e
    rw [dif_neg hk5]
    by_cases hk6 : (n : ℕ) - 1 - 1 - 1 - 1 - 1 - 1 < 1
    · rw [dif_pos hk6, show (n : ℕ) = 6 by omega]; exact v103_at V0 b h d e
    rw [dif_neg hk6]
    by_cases hk7 : (n : ℕ) - 1 - 1 - 1 - 1 - 1 - 1 - 1 < 1
    · rw [dif_pos hk7, show (n : ℕ) = 7 by omega]; exact v109_at V0 b h d e
    rw [dif_neg hk7]
    by_cases hk8 : (n : ℕ) - 1 - 1 - 1 - 1 - 1 - 1 - 1 - 1 < 1
    · rw [dif_pos hk8, show (n : ℕ) = 8 by omega]; exact v115_at V0 b h d e
    rw [dif_neg hk8]
    by_cases hk9 : (n : ℕ) - 1 - 1 - 1 - 1 - 1 - 1 - 1 - 1 - 1 < 1
    · rw [dif_pos hk9, show (n : ℕ) = 9 by omega]; exact v121_at V0 b h d e
    rw [dif_neg hk9]
    by_cases hk10 : (n : ℕ) - 1 - 1 - 1 - 1 - 1 - 1 - 1 - 1 - 1 - 1 < 1
    · rw [dif_pos hk10, show (n : ℕ) = 10 by omega]; exact v127_at V0 b h d e
    rw [dif_neg hk10]
    by_cases hk11 : (n : ℕ) - 1 - 1 - 1 - 1 - 1 - 1 - 1 - 1 - 1 - 1 - 1 < 1
    · rw [dif_pos hk11, show (n : ℕ) = 11 by omega]; exact v133_at V0 b h d e
    rw [dif_neg hk11]
    by_cases hk12 : (n : ℕ) - 1 - 1 - 1 - 1 - 1 - 1 - 1 - 1 - 1 - 1 - 1 - 1 < 1
    · rw [dif_pos hk12, show (n : ℕ) = 12 by omega]; exact v139_at V0 b h d e
    rw [dif_neg hk12]
    by_cases hk13 : (n : ℕ) - 1 - 1 - 1 - 1 - 1 - 1 - 1 - 1 - 1 - 1 - 1 - 1 - 1 < 1
    · rw [dif_pos hk13, show (n : ℕ) = 13 by omega]; exact v145_at V0 b h d e
    rw [dif_neg hk13]
    by_cases hk14 : (n : ℕ) - 1 - 1 - 1 - 1 - 1 - 1 - 1 - 1 - 1 - 1 - 1 - 1 - 1 - 1 < 1
    · rw [dif_pos hk14, show (n : ℕ) = 14 by omega]; exact v151_at V0 b h d e
    rw [dif_neg hk14]
    rw [show (n : ℕ) = 15 by omega]; exact v157_at V0 b h d e

/-- The norm's weight for head `h`. -/
def rnR (h : Fin 4) (e : Fin 256) : EReal := shapeCast S4x256 (shapeCast S1024 (V0 (Proc.devRef .tc main_arg1)) shapeCasts_S1x1024_S1024) shapeCasts_S1024_S4x256 (ix2 h e)

/-- The gate of sequence `b`, head `h`, chunk `n`. -/
def gtR (b h : Fin 4) (n : Fin 16) (i : Fin 128) (e : Fin 256) : EReal :=
  shapeCast S4x16x128x4x256 (extractStridedSlice S4x2048x1024 ![0, 0, 3072] (res_main_v1 V0) slices_S4x2048x6144_S4x2048x1024_0_0_3072) shapeCasts_S4x2048x1024_S4x16x128x4x256 (ix5 b n i h e)

/-- The reference's first result at an index. -/
theorem v207_at (n : Fin 16) (b h : Fin 4) (i : Fin 128) (e : Fin 256) (r : Fin 8192) (cc : Fin 1024)
    (hr : (r : ℕ) = b * 2048 + n * 128 + i) (hc : (cc : ℕ) = h * 256 + e) :
    val4 V0 (Proc.devRef .tc main_v207) (ix2 r cc)
      = outS (preS (qR V0 b h) (kR V0 b h) (vR V0 b h) (decR V0 h) (zR V0 h) (xR V0 h) (gR V0 h) n) (rnR V0 h)
          (gtR V0 b h n) i e := by
  rw [val4_main_v207]
  unfold outS rnR gtR
  have hce : (h : ℕ) * 256 + e < 1024 := by clear hr hc; omega
  obtain rfl : cc = ⟨h * 256 + e, hce⟩ := Fin.ext hc
  have e1 : (r : ℕ) / 2048 = b := by omega
  have e2 : (r : ℕ) % 2048 = n * 128 + i := by omega
  have e3 : ((h : ℕ) * 256 + e) / 256 = h := by omega
  have e4 : ((h : ℕ) * 256 + e) % 256 = e := by omega
  have hp : ∀ (e : Fin 256) (hs : (n : ℕ) * 128 + i < 2048), res_main_v188 V0 (ix4 b ⟨n * 128 + i, hs⟩ h e)
      = preS (qR V0 b h) (kR V0 b h) (vR V0 b h) (decR V0 h) (zR V0 h) (xR V0 h) (gR V0 h) n i e :=
    fun e hs => v188_at V0 n b h i e ⟨n * 128 + i, hs⟩ rfl
  pointwise
  simp only [e1, e2, e3, e4, Fin.eta, hp]

end Cert.RetRefIdeal.Value

end
-- ==== Proof.Ret.Final.lean ====
/- The retention's result array is the reference's. -/
module

public import proofs.«01_k».proof.Proof.Ret.Kern
public import proofs.«01_k».proof.Proof.Ret.Ref
public import Idealize.ShloMosaic.Lib.Claim

@[expose] public section

set_option maxRecDepth 16384

noncomputable section

open Idealize.ShloMosaic Idealize.ShloMosaic.TcCoe Idealize.SL.Sem

namespace Cert.RetIdeal.Value

open Cert.RetIdeal Cert.RetIdeal.Gen Cert.RetSpec
open Cert.RetRefIdeal.Value (qR kR vR decR zR xR gR rnR gtR v207_at)

variable (m : (ℓ : Loc nD τ sig) → Buf (Elt Ideal) ℓ)
variable (V0 : Valuation Cert.RetRefIdeal.τ Cert.RetRefIdeal.sig (Elt Ideal))

/-- Where each window's block lies at a grid point. -/
theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![t.val / 4, 12 + t.val % 4]
    ∧ win0_4.index t = ![t.val % 4, 0, 0] ∧ win0_5.index t = ![t.val % 4, 0, 0] ∧ win0_6.index t = ![t.val % 4, 0, 0]
    ∧ win0_7.index t = ![t.val % 4, 0, 0] ∧ win0_8.index t = ![t.val % 4, 0, 0]
    ∧ win0_10.index t = ![t.val / 4, t.val % 4] :=
  (by decide +kernel : ∀ t : Fin grid0.N, _)

variable {m V0}

/-- The block's `q` rows are the reference's. -/
theorem q_at (c : Dev nD) (h0 : V0 (Proc.devRef .tc Cert.RetRefIdeal.main_arg0) = m ((c : Thread nD τ).loc main_arg0))
    (t : Fin cfg0.N) (b h : Fin 4) (hb : (b : ℕ) = t.val / 4) (hh : (h : ℕ) = t.val % 4) (n : ℕ) (j : Fin 128) (d : Fin 256) :
    rowsC (iblk m c 0 t) n (ix2 j d) = qR V0 b h n j d := by
  unfold qR
  pointwise [rowsC, Cert.RetRefIdeal.Value.res_main_v53, Cert.RetRefIdeal.Value.res_main_v1]
  rw [h0]
  have hn : ((Fin.ofNat 16 n : Fin 16) : ℕ) = n % 16 := rfl
  blk_ext [iblk, V_main_arg0, idx t]

/-- The block's `k` rows are the reference's. -/
theorem k_at (c : Dev nD) (h0 : V0 (Proc.devRef .tc Cert.RetRefIdeal.main_arg0) = m ((c : Thread nD τ).loc main_arg0))
    (t : Fin cfg0.N) (b h : Fin 4) (hb : (b : ℕ) = t.val / 4) (hh : (h : ℕ) = t.val % 4) (n : ℕ) (j : Fin 128) (d : Fin 256) :
    rowsC (iblk m c 1 t) n (ix2 j d) = kR V0 b h n j d := by
  unfold kR
  pointwise [rowsC, Cert.RetRefIdeal.Value.res_main_v54, Cert.RetRefIdeal.Value.res_main_v1]
  rw [h0]
  have hn : ((Fin.ofNat 16 n : Fin 16) : ℕ) = n % 16 := rfl
  blk_ext [iblk, V_main_arg0, idx t]

/-- The block's `v` rows are the reference's. -/
theorem v_at (c : Dev nD) (h0 : V0 (Proc.devRef .tc Cert.RetRefIdeal.main_arg0) = m ((c : Thread nD τ).loc main_arg0))
    (t : Fin cfg0.N) (b h : Fin 4) (hb : (b : ℕ) = t.val / 4) (hh : (h : ℕ) = t.val % 4) (n : ℕ) (j : Fin 128) (d : Fin 256) :
    rowsC (iblk m c 2 t) n (ix2 j d) = vR V0 b h n j d := by
  unfold vR
  pointwise [rowsC, Cert.RetRefIdeal.Value.res_main_v55, Cert.RetRefIdeal.Value.res_main_v1]
  rw [h0]
  have hn : ((Fin.ofNat 16 n : Fin 16) : ℕ) = n % 16 := rfl
  blk_ext [iblk, V_main_arg0, idx t]

/-- The block's gate rows are the reference's. -/
theorem g_at (c : Dev nD) (h0 : V0 (Proc.devRef .tc Cert.RetRefIdeal.main_arg0) = m ((c : Thread nD τ).loc main_arg0))
    (t : Fin cfg0.N) (b h : Fin 4) (hb : (b : ℕ) = t.val / 4) (hh : (h : ℕ) = t.val % 4) (n : Fin 16) (j : Fin 128) (d : Fin 256) :
    rowsC (iblk m c 3 t) n (ix2 j d) = gtR V0 b h n j d := by
  unfold gtR
  pointwise [rowsC, Cert.RetRefIdeal.Value.res_main_v1]
  rw [h0]
  have hn : (n : ℕ) % 16 = n := Nat.mod_eq_of_lt n.isLt
  blk_ext [iblk, V_main_arg0, idx t]

/-- The decay table the kernel is given is the reference's. -/
theorem V25_at (c : Dev nD) (h : Fin 4) (i j : Fin 128) : V m c main_v25 (ix3 h i j) = decR V0 h i j := by
  unfold V
  simp only [List.flatten_cons, List.flatten_nil, List.append_nil, List.cons_append, List.nil_append, hostOps0,
    hostOps0_1, hostOps0_2]
  entry_read
  try simp -implicitDefEqProofs only [StableHlo.TRef.toBuf, StableHlo.TRef.ofBuf, cast_cast, cast_eq]
  have hz : (id (constant (F := Ideal) Cert.RetRefIdeal.S_ FTy.f32 0#32) ix0 : EReal) = 0 := Ideal.ofBits_zero_f32
  unfold decR Cert.RetRefIdeal.Value.lgR Cert.RetRefIdeal.Value.diR
  pointwise [Cert.RetRefIdeal.Value.res_main_v13, Cert.RetRefIdeal.Value.res_main_v14, Cert.RetRefIdeal.Value.res_main_v19]
  exact congrArg _ hz.symm

/-- The keys' weights. -/
theorem V49_at (c : Dev nD) (h : Fin 4) (j : Fin 128) (d : Fin 256) : V m c main_v49 (ix3 h j d) = zR V0 h j d := by
  unfold V
  simp only [List.flatten_cons, List.flatten_nil, List.append_nil, List.cons_append, List.nil_append, hostOps0,
    hostOps0_1, hostOps0_2]
  entry_read
  try simp -implicitDefEqProofs only [StableHlo.TRef.toBuf, StableHlo.TRef.ofBuf, cast_cast, cast_eq]
  unfold zR Cert.RetRefIdeal.Value.lgR Cert.RetRefIdeal.Value.ioR
  pointwise [Cert.RetRefIdeal.Value.res_main_v13, Cert.RetRefIdeal.Value.res_main_v14]

/-- The state's weights. -/
theorem V52_at (c : Dev nD) (h : Fin 4) (j : Fin 128) (d : Fin 256) : V m c main_v52 (ix3 h j d) = xR V0 h j d := by
  unfold V
  simp only [List.flatten_cons, List.flatten_nil, List.append_nil, List.cons_append, List.nil_append, hostOps0,
    hostOps0_1, hostOps0_2]
  entry_read
  try simp -implicitDefEqProofs only [StableHlo.TRef.toBuf, StableHlo.TRef.ofBuf, cast_cast, cast_eq]
  unfold xR Cert.RetRefIdeal.Value.lgR Cert.RetRefIdeal.Value.ioR
  pointwise [Cert.RetRefIdeal.Value.res_main_v13, Cert.RetRefIdeal.Value.res_main_v14]

/-- The state's decay over a chunk. -/
theorem V54_at (c : Dev nD) (h : Fin 4) (d : Fin 256) : V m c main_v54 (ix3 h 0 d) = gR V0 h d := by
  unfold V
  simp only [List.flatten_cons, List.flatten_nil, List.append_nil, List.cons_append, List.nil_append, hostOps0,
    hostOps0_1, hostOps0_2]
  entry_read
  try simp -implicitDefEqProofs only [StableHlo.TRef.toBuf, StableHlo.TRef.ofBuf, cast_cast, cast_eq]
  unfold gR Cert.RetRefIdeal.Value.gcR
  pointwise [Cert.RetRefIdeal.Value.res_main_v13, Cert.RetRefIdeal.Value.res_main_v52]

/-- The norm's weight. -/
theorem V56_at (c : Dev nD) (h1 : V0 (Proc.devRef .tc Cert.RetRefIdeal.main_arg1) = m ((c : Thread nD τ).loc main_arg1))
    (h : Fin 4) (d : Fin 256) : V m c main_v56 (ix3 h 0 d) = rnR V0 h d := by
  unfold V
  simp only [List.flatten_cons, List.flatten_nil, List.append_nil, List.cons_append, List.nil_append, hostOps0,
    hostOps0_1, hostOps0_2]
  entry_read
  try simp -implicitDefEqProofs only [StableHlo.TRef.toBuf, StableHlo.TRef.ofBuf, cast_cast, cast_eq]
  unfold rnR
  rw [h1]
  pointwise

/-- A chunk's output over blocks that hold the reference's rows and tables is the reference's first result. -/
theorem block_at (q k v gate : Vec Ideal S2048x256 .bf16) (dec : Vec Ideal S1x128x128 .f32)
    (z xi : Vec Ideal S1x128x256 .f32) (g rn : Vec Ideal S1x1x256 .f32) (n : Fin 16) (b h : Fin 4) (i : Fin 128)
    (e : Fin 256) (hq : ∀ n j d, rowsC q n (ix2 j d) = qR V0 b h n j d)
    (hk : ∀ n j d, rowsC k n (ix2 j d) = kR V0 b h n j d) (hv : ∀ n j d, rowsC v n (ix2 j d) = vR V0 b h n j d)
    (hgt : ∀ j d, rowsC gate n (ix2 j d) = gtR V0 b h n j d) (hdec : ∀ i j, dec (ix3 0 i j) = decR V0 h i j)
    (hz : ∀ i j, z (ix3 0 i j) = zR V0 h i j) (hx : ∀ i j, xi (ix3 0 i j) = xR V0 h i j)
    (hg : ∀ j, g (ix3 0 0 j) = gR V0 h j) (hrn : ∀ j, rn (ix3 0 0 j) = rnR V0 h j)
    (r : Fin 8192) (cc : Fin 1024) (hr : (r : ℕ) = b * 2048 + n * 128 + i) (hc : (cc : ℕ) = h * 256 + e) :
    chunkC q k v gate dec z xi g rn n (ix2 i e)
      = Cert.RetRefIdeal.Value.val4 V0 (Proc.devRef .tc Cert.RetRefIdeal.main_v207) (ix2 r cc) := by
  refine (chunkC_at q k v gate dec z xi g rn n i e).trans (Eq.trans ?_ (v207_at V0 n b h i e r cc hr hc).symm)
  simp only [hq, hk, hv, hgt, hdec, hz, hx, hg, hrn]

set_option maxHeartbeats 1600000 in
/-- The first result of the kernel is the reference's. -/
theorem final10 (c : Dev nD) (h0 : V0 (Proc.devRef .tc Cert.RetRefIdeal.main_arg0) = m ((c : Thread nD τ).loc main_arg0))
    (h1 : V0 (Proc.devRef .tc Cert.RetRefIdeal.main_arg1) = m ((c : Thread nD τ).loc main_arg1)) :
    (dats m 0 c).arrAt 10 (cfgs 0).N = Cert.RetRefIdeal.Value.val4 V0 (Proc.devRef .tc Cert.RetRefIdeal.main_v207) := by
  refine (dats m 0 c).arrAt_eq_of_covers 10 _ (by decide +kernel) fun t hf y => ?_
  blk_simp
  rw [after0_10]
  have ht : t.val < 16 := lt_of_lt_of_eq t.isLt N_0
  have hy0 : (y 0 : ℕ) < 2048 := (y 0).isLt
  have hy1 : (y 1 : ℕ) < 256 := (y 1).isLt
  obtain ⟨n, hn⟩ : ∃ n : Fin 16, (n : ℕ) = y 0 / 128 := ⟨⟨y 0 / 128, by omega⟩, rfl⟩
  obtain ⟨i, hi⟩ : ∃ i : Fin 128, (i : ℕ) = y 0 % 128 := ⟨⟨y 0 % 128, by omega⟩, rfl⟩
  obtain ⟨e, he⟩ : ∃ e : Fin 256, (e : ℕ) = y 1 := ⟨⟨y 1, hy1⟩, rfl⟩
  obtain ⟨b, hb⟩ : ∃ b : Fin 4, (b : ℕ) = t.val / 4 := ⟨⟨t.val / 4, by omega⟩, rfl⟩
  obtain ⟨h, hh⟩ : ∃ h : Fin 4, (h : ℕ) = t.val % 4 := ⟨⟨t.val % 4, by omega⟩, rfl⟩
  refine (out_eq m c t y n (ix2 i e) (by show (y 0 : ℕ) = 128 * n + i; omega) (by show (y 1 : ℕ) = e; omega)).trans ?_
  refine (block_at (iblk m c 0 t) (iblk m c 1 t) (iblk m c 2 t) (iblk m c 3 t) (iblk m c 4 t) (iblk m c 5 t)
    (iblk m c 6 t) (iblk m c 7 t) (iblk m c 8 t) n b h i e (q_at c h0 t b h hb hh) (k_at c h0 t b h hb hh)
    (v_at c h0 t b h hb hh) (g_at c h0 t b h hb hh n) (fun i j => Eq.trans ?_ (V25_at (m := m) c h i j))
    (fun i j => Eq.trans ?_ (V49_at (m := m) c h i j)) (fun i j => Eq.trans ?_ (V52_at (m := m) c h i j))
    (fun j => Eq.trans ?_ (V54_at (m := m) c h j)) (fun j => Eq.trans ?_ (V56_at (m := m) c h1 h j))
    ⟨b * 2048 + n * 128 + i, by omega⟩ ⟨h * 256 + e, by omega⟩ rfl rfl).trans ?_
  all_goals blk_ext [iblk, idx t]

/-- Where the weight's blocks lie. -/
theorem idxw : ∀ t : Fin cfg0.N, win0_9.index t = ![0, t.val, 0] ∧ win0_11.index t = ![t.val, 0] :=
  (by decide +kernel : ∀ t : Fin grid0.N, _)

/-- The second result of the kernel, the weight's cast, is the reference's. -/
theorem final11 (c : Dev nD) (h2 : V0 (Proc.devRef .tc Cert.RetRefIdeal.main_arg2) = m ((c : Thread nD τ).loc main_arg2)) :
    (dats m 0 c).arrAt 11 (cfgs 0).N = Cert.RetRefIdeal.Value.val4 V0 (Proc.devRef .tc Cert.RetRefIdeal.main_v209) := by
  refine (dats m 0 c).arrAt_eq_of_covers 11 _ (by decide +kernel) fun t hf y => ?_
  blk_simp
  rw [after0_11, Cert.RetRefIdeal.Value.val4_main_v209, h2]
  unfold outsAt0
  frame_out
  pointwise [k0_pay2]
  blk_point [iblk, V_main_arg2, idxw t]

end Cert.RetIdeal.Value

end
-- ==== Proof.Ret.Claims.lean ====
/- The retention's claims. -/
module

public import proofs.«01_k».proof.Defs
public import proofs.«01_k».proof.Proof.Gen.Ret.Frame
public import proofs.«01_k».proof.Proof.Gen.RetIdeal.Frame
public import proofs.«01_k».proof.Proof.Ret.Final
public import Idealize.ShloMosaic.Lib.Quiescent

@[expose] public section

noncomputable section

open Idealize.ShloMosaic Idealize.SL.Sem

namespace Cert.Proof.RetClaims

/-- The kernel's program as written: it ends, with its arguments kept and every counter at zero. -/
theorem frame_p : Cert.quiescent_Ret (hRet := Cert.Ret.Gen.facts) := fun m ρ _ => Cert.Ret.Gen.frame m ρ

/-- The same of the kernel over the extended reals. -/
theorem frame_pi : Cert.quiescent_RetIdeal (hRetIdeal := Cert.RetIdeal.Gen.facts) := fun m ρ _ => Cert.RetIdeal.Gen.frame m ρ

/-- The same of the reference: it declares no semaphore. -/
theorem frame_ri : Cert.quiescent_RetRefIdeal (hRetRefIdeal := Cert.RetRefIdeal.Gen.facts) := fun m ρ _ =>
  (θ_run Cert.RetRefIdeal.defs _ _).mono (fun r h => ⟨fun c => (h c).2.2,
      Idealize.ShloMosaic.sem_eq_zero_of_no_sems (by decide) r.2⟩)
    (Cert.RetRefIdeal.Value.run (F := Ideal) m ρ)

/-- Kernel and reference end with equal results over the extended reals. -/
theorem algebraic : Cert.algebraic_RetIdeal_RetRefIdeal (hRetIdeal := Cert.RetIdeal.Gen.facts)
    (hRetRefIdeal := Cert.RetRefIdeal.Gen.facts) := by
  intro m ρ m' ρ' _ hag
  have e10 : ∀ c : Dev Cert.RetIdeal.nD, _ := fun c =>
    Cert.RetIdeal.Value.final10 (m := m) (V0 := StableHlo.launchContents m' c) c (hag c).1 (hag c).2.1
  have e11 : ∀ c : Dev Cert.RetIdeal.nD, _ := fun c =>
    Cert.RetIdeal.Value.final11 (m := m) (V0 := StableHlo.launchContents m' c) c (hag c).2.2
  refine ⟨fun c => (Cert.RetIdeal.Gen.dats m 0 c).arrAt 10 Cert.RetIdeal.cfg0.N,
    fun c => (Cert.RetIdeal.Gen.dats m 0 c).arrAt 11 Cert.RetIdeal.cfg0.N,
    Cert.RetIdeal.Value.run_blocks (F := Ideal) m ρ, ?_⟩
  refine (θ_run Cert.RetRefIdeal.defs _ _).mono (fun _ h c => ⟨(h c).1.trans ?_, (h c).2.1.trans ?_, (h c).2.2⟩)
    (Cert.RetRefIdeal.Value.run (F := Ideal) m' ρ')
  · rw [← Cert.RetRefIdeal.Value.val4_main_v207]
    exact (e10 c).symm
  · rw [← Cert.RetRefIdeal.Value.val4_main_v209]
    exact (e11 c).symm

end Cert.Proof.RetClaims

end
-- ==== Proof.Down.Final.lean ====
/- The last product's result array is the reference's. -/
module

public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DownIdeal.Value

open Cert.DownIdeal Cert.DownIdeal.Gen

/-- The reference's result: the residual and the product. -/
abbrev refDown (a : Vec Ideal S8192x5632 .bf16) (w : Vec Ideal S5632x2048 .bf16) (x : Vec Ideal S8192x2048 .f32) :
    FVec Ideal S8192x2048 .f32 :=
  addf x (Host.dotGeneral (φ₁ := .bf16) (φ₂ := .bf16) Cert.DownRefIdeal.dot_S8192x5632_S5632x2048_S8192x2048_1_0_0_1_n_n none a w)

variable (m : (ℓ : Loc nD τ sig) → Buf (Elt Ideal) ℓ)

/-- Where each window's block lies at a grid point: the columns' tile is the outer coordinate. -/
theorem idx : ∀ t : Fin cfg0.N, win0_0.index t = ![t.val % 16, 0] ∧ win0_1.index t = ![0, t.val / 16]
    ∧ win0_2.index t = ![t.val % 16, t.val / 16] ∧ win0_3.index t = ![t.val % 16, t.val / 16] :=
  (by decide +kernel : ∀ t : Fin grid0.N, _)

/-- The result array is the residual and the product. -/
theorem final3 (c : Dev nD) : (dats m 0 c).arrAt 3 (cfgs 0).N = refDown (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, refDown]
  blk_point [iblk, V_main_arg0, V_main_arg1, V_main_arg2, idx t]

end Cert.DownIdeal.Value

end
-- ==== Proof.Down.Claims.lean ====
/- The last product's claims. -/
module

public import proofs.«01_k».proof.Defs
public import proofs.«01_k».proof.Proof.Gen.Down.Frame
public import proofs.«01_k».proof.Proof.Gen.DownIdeal.Frame
public import proofs.«01_k».proof.Proof.Down.Final
public import Idealize.ShloMosaic.Lib.Quiescent

@[expose] public section

noncomputable section

open Idealize.ShloMosaic Idealize.SL.Sem

namespace Cert.Proof.DownClaims

/-- The kernel's program as written: it ends, with its arguments kept and every counter at zero. -/
theorem frame_p : Cert.quiescent_Down (hDown := Cert.Down.Gen.facts) := fun m ρ _ => Cert.Down.Gen.frame m ρ

/-- The same of the kernel over the extended reals. -/
theorem frame_pi : Cert.quiescent_DownIdeal (hDownIdeal := Cert.DownIdeal.Gen.facts) := fun m ρ _ =>
  Cert.DownIdeal.Gen.frame m ρ

/-- The same of the reference: it declares no semaphore. -/
theorem frame_ri : Cert.quiescent_DownRefIdeal (hDownRefIdeal := Cert.DownRefIdeal.Gen.facts) := fun m ρ _ =>
  (θ_run Cert.DownRefIdeal.defs _ _).mono (fun r h => ⟨fun c => (h c).2,
      Idealize.ShloMosaic.sem_eq_zero_of_no_sems (by decide) r.2⟩)
    (Cert.DownRefIdeal.Value.run (F := Ideal) m ρ)

/-- Kernel and reference end with equal results over the extended reals. -/
theorem algebraic : Cert.algebraic_DownIdeal_DownRefIdeal (hDownIdeal := Cert.DownIdeal.Gen.facts)
    (hDownRefIdeal := Cert.DownRefIdeal.Gen.facts) := by
  intro m ρ m' ρ' _ hag
  refine ⟨fun c => (Cert.DownIdeal.Gen.dats m 0 c).arrAt 3 Cert.DownIdeal.cfg0.N,
    Cert.DownIdeal.Value.run_blocks (F := Ideal) m ρ, ?_⟩
  refine (θ_run Cert.DownRefIdeal.defs _ _).mono (fun _ h c => ⟨(h c).1.trans ?_, (h c).2⟩)
    (Cert.DownRefIdeal.Value.run (F := Ideal) m' ρ')
  rw [(hag c).1, (hag c).2.1, (hag c).2.2]
  exact (Cert.DownIdeal.Value.final3 m c).symm

end Cert.Proof.DownClaims

end
-- ==== Proof.Up.Setup.lean ====
/- The feed-forward network: what the two runs of its first call share. -/
module

public import proofs.«01_k».proof.Proof.Gen.UpIdeal.Launch
public import proofs.«01_k».proof.Proof.Gen.UpIdeal.Skeleton
public import proofs.«01_k».proof.Proof.Gen.UpIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_UpIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 4).trans (((dats 0 c).arrAt_in 4 rfl _).trans ((hA c 4).trans (V_main_arg2 m c))),
      ((h c).2 main_arg3 (Pipeline.mem_restRefs_of main_arg3 (by decide) (by decide))).trans (V_main_arg3 m c),
      ((h c).1 7).trans (((dats 0 c).arrAt_in 7 rfl _).trans ((hA c 7).trans (V_main_arg4 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 44 := Nat.lt_of_lt_of_eq t.isLt N_0
    have e0 : (grid0.coords t 0).val = t.val / 4 % 11 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- One staging buffer of output window 8, through which its contents are stated (`View.read_writes_of_cover`: the
    choice does not matter). -/
abbrev VO0_8 : View sig .tc .vmem S2048x512 .bf16 := (Memref.whole cc0_stg8_0 : Memref sig .tc .vmem S2048x512 .bf16).view
/-- One staging buffer of output window 9, through which its contents are stated (`View.read_writes_of_cover`: the
    choice does not matter). -/
abbrev VO0_9 : View sig .tc .vmem S128x2048 .bf16 := (Memref.whole cc0_stg9_0 : Memref sig .tc .vmem S128x2048 .bf16).view
/-- Each window's current staging memref at point `t`, spelled as the pipeline passes it (`bodyAt0`), and its wholeness. -/
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x2048 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2048x1024 .bf16 := Memref.whole cc0_scratch0
abbrev scM0_1 : Memref sig .tc .vmem S2x264x1024 .f32 := Memref.whole cc0_scratch1
abbrev scM0_2 : Memref sig .tc .vmem S8x1024 .f32 := Memref.whole cc0_scratch2
/-- The scratch `arg12` the kernel carries between points, as a view: what it holds is stated through it. -/
abbrev VS0_0 : View sig .tc .vmem S2048x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.UpIdeal.Hand

end
-- ==== Proof.Up.Carry.lean ====
/- The carry is never read: at every point a sequence starts, so the row above it is zero. -/
module

public import proofs.«01_k».proof.Proof.Up.Setup

@[expose] public section

-- membership in a rectangle of production extents (`View.cover_of_tiled`): the elaborator's structural look
-- recurses once per coordinate of the long axes
set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The row above the first row block: zero, whatever the carry holds. -/
def pay6c : FVec F S1x8x1024 .f32 := fun _ => Scalar.ofBits .f32 0x00000000#32

/-- The condition under which a sequence starts holds at all four rows. -/
theorem starts : ∀ k : Fin 4, Scalar.cmpi .eq (Scalar.select (Scalar.andi (Scalar.xori (Scalar.cmpi .slt (Scalar.remsi (BitVec.ofNat 32 k.val) (Scalar.select (Scalar.cmpi .eq 1#32 0#32) 1#32 1#32)) 0#32) (Scalar.cmpi .slt (Scalar.select (Scalar.cmpi .eq 1#32 0#32) 1#32 1#32) 0#32)) (Scalar.cmpi .ne (Scalar.remsi (BitVec.ofNat 32 k.val) (Scalar.select (Scalar.cmpi .eq 1#32 0#32) 1#32 1#32)) 0#32)) (Scalar.addi (Scalar.remsi (BitVec.ofNat 32 k.val) (Scalar.select (Scalar.cmpi .eq 1#32 0#32) 1#32 1#32)) (Scalar.select (Scalar.cmpi .eq 1#32 0#32) 1#32 1#32)) (Scalar.remsi (BitVec.ofNat 32 k.val) (Scalar.select (Scalar.cmpi .eq 1#32 0#32) 1#32 1#32))) 0#32 = 1#1 := by decide

/-- What is stored above the first row block does not depend on the carry. -/
theorem pay6_eq (i : grid0.Coords) (v : Vec F S8x1024 .f32) : k0_pay6 i v = pay6c := by
  have h := starts (i 1)
  unfold k0_pay6 pay6c
  dsimp only
  rw [h]
  rfl

/-- The body's first part with that row written as the constant it is. -/
noncomputable def part1_skel (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) :
    Prog (TpuEff nD τ sig (Elt F) Λ₀ .tc) (FVec F S256x1024 .f32) := do
  let arg1 : BitVec 32 := BitVec.ofNat 32 (i 1).val
  let v0 : Vec F S1x128x2048 .f32 ← Prog.lift (.load arg9 (Rect.unit (s := S1x128x2048) ![0, 0, 0] S1x128x2048.size inb_S1x128x2048_S1x128x2048_0_0_0).toLoadRect (View.loadsAt_vmem h_S1x128x2048))
  let v3 : Vec F S128x2048 .bf16 ← Prog.lift (.load arg11 (Rect.unit (s := S128x2048) ![0, 0] S128x2048.size inb_S128x2048_S128x2048_0_0).toLoadRect (View.loadsAt_vmem h_S128x2048))
  Prog.lift (.store arg11 (Rect.unit (s := S128x2048) ![0, 0] S128x2048.size inb_S128x2048_S128x2048_0_0) (k0_pay3 v0) Finset.univ (View.stores_vmem h_S128x2048 (harg11.storeExact_slice rfl _ packedbf16_S128x2048_S128x2048_0_0) (fun _ => rfl)) (.inl rfl))
  let v4 : BitVec 1 := Scalar.cmpi .eq arg1 0#32
  let v5 : BitVec 32 := Scalar.extui v4
  let v6 : BitVec 1 := Scalar.cmpi .ne v5 0#32
  if k0_h1 : v6 = 1#1 then do
    let v629 : Vec F S1x2048x512 .f32 ← Prog.lift (.load arg3 (Rect.unit (s := S1x2048x512) ![0, 0, 0] S1x2048x512.size inb_S1x2048x512_S1x2048x512_0_0_0).toLoadRect (View.loadsAt_vmem h_S1x2048x512))
    let v632 : Vec F S2048x512 .bf16 ← Prog.lift (.load arg12 (Rect.unit (s := S2048x1024) ![0, 0] S2048x512.size inb_S2048x1024_S2048x512_0_0).toLoadRect (View.loadsAt_vmem h_S2048x512))
    Prog.lift (.store arg12 (Rect.unit (s := S2048x1024) ![0, 0] S2048x512.size inb_S2048x1024_S2048x512_0_0) (k0_pay4 v629) Finset.univ (View.stores_vmem h_S2048x512 (harg12.storeExact_slice rfl _ packedbf16_S2048x1024_S2048x512_0_0) (fun _ => rfl)) (.inl rfl))
    let v635 : Vec F S1x2048x512 .f32 ← Prog.lift (.load arg4 (Rect.unit (s := S1x2048x512) ![0, 0, 0] S1x2048x512.size inb_S1x2048x512_S1x2048x512_0_0_0).toLoadRect (View.loadsAt_vmem h_S1x2048x512))
    let v638 : Vec F S2048x512 .bf16 ← Prog.lift (.load arg12 (Rect.unit (s := S2048x1024) ![0, 512] S2048x512.size inb_S2048x1024_S2048x512_0_512).toLoadRect (View.loadsAt_vmem h_S2048x512))
    Prog.lift (.store arg12 (Rect.unit (s := S2048x1024) ![0, 512] S2048x512.size inb_S2048x1024_S2048x512_0_512) (k0_pay5 v635) Finset.univ (View.stores_vmem h_S2048x512 (harg12.storeExact_slice rfl _ packedbf16_S2048x1024_S2048x512_0_512) (fun _ => rfl)) (.inl rfl))
    pure ⟨⟩
  else do
    pure ⟨⟩
  let v18 : Vec F S8x1024 .f32 ← Prog.lift (.load arg14 (Rect.unit (s := S8x1024) ![0, 0] S8x1024.size inb_S8x1024_S8x1024_0_0).toLoadRect (View.loadsAt_vmem h_S8x1024))
  let v21 : Vec F S1x8x1024 .f32 ← Prog.lift (.load arg13 (Rect.unit (s := S2x264x1024) ![0, 0, 0] S1x8x1024.size inb_S2x264x1024_S1x8x1024_0_0_0).toLoadRect (View.loadsAt_vmem h_S1x8x1024))
  Prog.lift (.store arg13 (Rect.unit (s := S2x264x1024) ![0, 0, 0] S1x8x1024.size inb_S2x264x1024_S1x8x1024_0_0_0) (pay6c (F := F)) Finset.univ (View.stores_vmem_bits_univ h_S1x8x1024 rfl) (.inl rfl))
  let v24 : Vec F S256x2048 .bf16 ← Prog.lift (.load arg2 (Rect.unit (s := S2048x2048) ![0, 0] S256x2048.size inb_S2048x2048_S256x2048_0_0).toLoadRect (View.loadsAt_vmem h_S256x2048))
  let v25 : Vec F S2048x1024 .bf16 ← Prog.lift (.load arg12 (Rect.unit (s := S2048x1024) ![0, 0] S2048x1024.size inb_S2048x1024_S2048x1024_0_0).toLoadRect (View.loadsAt_vmem h_S2048x1024))
  pure (k0_pay7 v24 v25)

/-- The printed first part is that one. -/
theorem part1_eq : k0_part1 (F := F) = part1_skel (F := F) := by
  refine k0_part1_eq_skeleton.trans ?_
  unfold k0_part1_skel part1_skel
  simp only [pay6_eq]

end Cert.UpIdeal.Hand

end
-- ==== Proof.Up.RunA.lean ====
/- The body at the first row of a column: the weight columns are cast into the scratch. -/
module

public import proofs.«01_k».proof.Proof.Up.Carry

@[expose] public section

-- membership in a rectangle of production extents (`View.cover_of_tiled`): the elaborator's structural look
-- recurses once per coordinate of the long axes
set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1080000 in
/-- What the body's stores leave in each output's staging memref, as pieces (last first) IN CASE A (`scf.if` 0 taken: points 0, 4, … 40: 11 of 44), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) :
    Σ' (L8 : List (View.Piece (Elt F) S2048x512 .bf16)), Σ' (L9 : List (View.Piece (Elt F) S128x2048 .bf16)), Σ' (LS0 : List (View.Piece (Elt F) S2048x1024 .bf16)), Σ' (LT1 : List (View.Piece (Elt F) S2x264x1024 .f32)), { LT2 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_ffn_up_eq_skeleton]; unfold cc0_ffn_up_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, part1_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]; · iexists _; iexact HS1
    iexists _; iexact HS2

end Cert.UpIdeal.Hand

end
-- ==== Proof.Up.RunB.lean ====
/- The body at a later row of a column: the weight columns are found in the scratch. -/
module

public import proofs.«01_k».proof.Proof.Up.RunA

@[expose] public section

-- membership in a rectangle of production extents (`View.cover_of_tiled`): the elaborator's structural look
-- recurses once per coordinate of the long axes
set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1048000 in
/-- What the body's stores leave in each output's staging memref, as pieces (last first) IN CASE B (`scf.if` 0 not taken: points 1, 2, … 43: 33 of 44), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : ¬cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) (xs0 : Vec F S2048x1024 .bf16) :
    Σ' (L8 : List (View.Piece (Elt F) S2048x512 .bf16)), Σ' (L9 : List (View.Piece (Elt F) S128x2048 .bf16)), Σ' (LS0 : List (View.Piece (Elt F) S2048x1024 .bf16)), Σ' (LT1 : List (View.Piece (Elt F) S2x264x1024 .f32)), { LT2 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14) K } := by
  refine ⟨?_, ?_, [], ?_, ?_, fun E K => ?run⟩
  case run =>
    simp only [cc0_ffn_up_eq_skeleton]; unfold cc0_ffn_up_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, part1_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _; isplitr; · ipureintro; exact harg12.read_unread _
      iexact HS0
    isplitl [HS1]; · iexists _; iexact HS1
    iexists _; iexact HS2

end Cert.UpIdeal.Hand

end
-- ==== Proof.Up.Frame.lean ====
/- The run of the feed-forward network's first call: what its outputs and its scratch hold after each point. -/
module

public import proofs.«01_k».proof.Proof.Up.RunB
public import Idealize.ShloMosaic.Lib.Claim

@[expose] public section

-- membership in a rectangle of production extents (`View.cover_of_tiled`): the elaborator's structural look
-- recurses once per coordinate of the long axes
set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (8 stores of `S256x512`, checked by the kernel's evaluation: Lib/Ring.lean `Piece.tiledL`, linear in the pieces, through a loop's `@[irreducible]` trip theorem too), so they cover it. -/
theorem cover0_A_8 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) (y : S2048x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 S256x512.size (by sl_kernel_rfl) y

/-- What case A leaves in output 8's staging buffer: its pieces read back over junk. -/
def out0_A_8 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) : Vec F S2048x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1)

/-- Case A's pieces for output 9 tile its block (1 store of `S128x2048`, checked by the kernel's evaluation: Lib/Ring.lean `Piece.tiledL`, linear in the pieces, through a loop's `@[irreducible]` trip theorem too), so they cover it. -/
theorem cover0_A_9 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 S128x2048.size (by sl_kernel_rfl) y

/-- What case A leaves in output 9's staging buffer: its pieces read back over junk. -/
def out0_A_9 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) : Vec F S128x2048 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1)

/-- Case A's pieces for scratch `arg12`, which the kernel carries between points, cover it: 2 pieces of `S2048x512` tiling it (Lib/Ring.lean `Piece.tiledL`). -/
theorem scover0_A_0 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) (y : S2048x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 S2048x512.size (by sl_kernel_rfl) y

/-- What case A leaves in scratch `arg12`: its pieces read back over junk. -/
def sout0_A_0 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) : Vec F S2048x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1)

/-- Case B's pieces for output 8 tile its block (8 stores of `S256x512`, checked by the kernel's evaluation: Lib/Ring.lean `Piece.tiledL`, linear in the pieces, through a loop's `@[irreducible]` trip theorem too), so they cover it. -/
theorem cover0_B_8 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : ¬cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) (xs0 : Vec F S2048x1024 .bf16) (y : S2048x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).1 S256x512.size (by sl_kernel_rfl) y

/-- What case B leaves in output 8's staging buffer: its pieces read back over junk. -/
def out0_B_8 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : ¬cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) (xs0 : Vec F S2048x1024 .bf16) : Vec F S2048x512 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).1)

/-- Case B's pieces for output 9 tile its block (1 store of `S128x2048`, checked by the kernel's evaluation: Lib/Ring.lean `Piece.tiledL`, linear in the pieces, through a loop's `@[irreducible]` trip theorem too), so they cover it. -/
theorem cover0_B_9 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : ¬cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) (xs0 : Vec F S2048x1024 .bf16) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.1 S128x2048.size (by sl_kernel_rfl) y

/-- What case B leaves in output 9's staging buffer: its pieces read back over junk. -/
def out0_B_9 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : ¬cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) (xs0 : Vec F S2048x1024 .bf16) : Vec F S128x2048 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.1)

/-- Case B stores nothing into scratch `arg12`: it holds what the point before left. -/
def sout0_B_0 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128x2048 .f32) (harg9 : arg9.IsWhole) (arg10 : Memref sig .tc .vmem S2048x512 .bf16) (harg10 : arg10.IsWhole) (arg11 : Memref sig .tc .vmem S128x2048 .bf16) (harg11 : arg11.IsWhole) (arg12 : Memref sig .tc .vmem S2048x1024 .bf16) (harg12 : arg12.IsWhole) (arg13 : Memref sig .tc .vmem S2x264x1024 .f32) (harg13 : arg13.IsWhole) (arg14 : Memref sig .tc .vmem S8x1024 .f32) (harg14 : arg14.IsWhole) (hc0 : ¬cond0_0 i)
    (x0 : Vec F S2048x2048 .bf16) (x1 : Vec F S1x2048x512 .f32) (x2 : Vec F S1x2048x512 .f32) (x3 : Vec F S1x3x512 .f32) (x4 : Vec F S1x3x512 .f32) (x5 : Vec F S1x1x512 .f32) (x6 : Vec F S1x1x512 .f32) (x7 : Vec F S1x128x2048 .f32) (xs0 : Vec F S2048x1024 .bf16) : Vec F S2048x1024 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x512 .bf16 × Vec F S128x2048 .bf16 × Vec F S2048x1024 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)

/-- `outsAt0` at a point of case A: that case's contents. -/
theorem outsAt0_A (c : Dev nD) (t : Fin cfg0.N) (h0 : t.val % 4 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 44 := lt_of_lt_of_eq t.isLt (show cfg0.N = 44 from N_0)
  by_cases h0 : t.val % 4 = 0
  · by_cases hz : t.val = 0
    · rw [PhiS_castSucc m c t, PhiS_zero m c _ _ hz, PhiA0_eq]
      rw [outsAt0_A m c t h0]
      unfold out0_A_8 out0_A_9 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, H7, ⟨%e8, H8⟩, ⟨%e9, H9⟩, ⟨%es0, HS0⟩, ⟨%fT1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 out0_A_9 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexists _; iexact HS0
      isplitl [HS1]; · iexact HS1
      isplitl [HS2]; · iexact HS2
      iintro ⟨H0, H1, H2, H3, H4, H5, H6, H7, ⟨%e8, H8⟩, ⟨%e9, H9⟩, ⟨%es0, HS0⟩, ⟨%fT1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _)
  · by_cases hz : t.val = 0
    · exfalso; have hN : t.val < 44 := lt_of_lt_of_eq t.isLt (show cfg0.N = 44 from N_0); omega
    · rw [PhiS_castSucc m c t, PhiS_pos m c _ _ hz]
      rw [outsAt0_B m c t h0]
      unfold out0_B_8 out0_B_9 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, H7, ⟨%e8, H8⟩, ⟨%e9, H9⟩, HS0, ⟨%fT1, HS1⟩, ⟨%fT2, HS2⟩⟩
      isplitl [HS0 HS1 HS2 Hg]
      · isplitl [HS0 HS1 HS2]
        · isplitl [HS0]
          · iexact HS0
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 44 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_UpIdeal`'s statement (Defs.lean) at any `F` — Proof.lean cites it at `Bits`:
    `theorem Cert.Proof.claim : Cert.Claim := ⟨Cert.UpIdeal.Gen.facts, fun m ρ _ => Cert.UpIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.UpIdeal.Hand

end
-- ==== Proof.Up.Value.lean ====
/- The run of the feed-forward network's first call with its result arrays named. -/
module

public import proofs.«01_k».proof.Proof.Up.Frame
public import Idealize.ShloMosaic.Lib.Pipeline.ValueKit
public import Idealize.ShloMosaic.Lib.Pipeline.ReadBack
public import Idealize.ShloMosaic.Lib.Pipeline.Value

@[expose] public section

noncomputable section

namespace Cert.UpIdeal.Value

open Cert.UpIdeal Cert.UpIdeal.Gen Cert.UpIdeal.Hand Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v1_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v1_1) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 7 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 7).trans (((dats m 0 c).arrAt_in 7 rfl _).trans ((A_eq m c 7).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 8 cfg0.N
      ∧ r.2.mem ((c : Thread nD τ).loc main_v1_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post8 m r h c,
      post9 m r h c,
      kept_main_arg0 m r h c,
      kept_main_arg1 m r h c,
      kept_main_arg2 m r h c,
      kept_main_arg3 m r h c,
      kept_main_arg4 m r h c⟩)
    (run_main m ρ)

end Cert.UpIdeal.Value

end
-- ==== Proof.Up.Block.lean ====
/- What one grid point of the feed-forward network's first call leaves: each group of 256 rows of its block is one
   and the same function of the group's rows, of the 8 rows of the product before it and of the weights, and the
   two halves of the weight's tile stay in place until the tile changes. -/
module

public import proofs.«01_k».proof.Proof.Up.Value
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.UpIdeal.Value

open Cert.UpIdeal Cert.UpIdeal.Gen Cert.UpIdeal.Hand

variable {F : FTy → Type} [FloatOps F]
variable (m : (ℓ : Loc nD τ sig) → Buf (Elt F) ℓ)

/-- The `n` rows from row `o` and `k` columns from column `q` of a buffer of 264 rows whose first 8 rows hold
    `h` and whose next 256 hold `b`. -/
def slab (b : FVec F S1x256x1024 .f32) (h : FVec F S1x8x1024 .f32) (o q n k : ℕ) (hn : o + n ≤ 264)
    (hk : q + k ≤ 1024) : Vec F ⟨3, ![1, n, k]⟩ .f32 := fun x =>
  have h2 : q + (x 2 : ℕ) < 1024 := Nat.lt_of_lt_of_le (Nat.add_lt_add_left (x 2).isLt q) hk
  have h1 : o + (x 1 : ℕ) < 264 := Nat.lt_of_lt_of_le (Nat.add_lt_add_left (x 1).isLt o) hn
  if hx : o + (x 1 : ℕ) < 8 then h (ix3 0 ⟨o + (x 1 : ℕ), hx⟩ ⟨q + (x 2 : ℕ), h2⟩)
  else b (ix3 0 ⟨o + (x 1 : ℕ) - 8, by omega⟩ ⟨q + (x 2 : ℕ), h2⟩)

/-- An index at position `x` of the newest piece's rectangle reads that piece at `x`. -/
theorem canon_unit_mem {S : Shape} {e : EltTy} {off size : Fin S.rank → ℕ} (inb : ∀ a, off a + size a ≤ S.size a)
    (w : (Rect.unit off size inb).shape.Idx → Elt F e) (L : List (View.Piece (Elt F) S e)) (y : S.Idx)
    (x : (Rect.unit off size inb).shape.Idx) (hx : ∀ a, (y a).val = off a + (x a).val) :
    View.canon (⟨Rect.unit off size inb, w⟩ :: L) y = w x := by
  have hy : (Rect.unit off size inb).emb x = y := funext fun a => Fin.ext (by
    show off a + 1 * (x a).val = (y a).val
    rw [hx a, Nat.one_mul])
  rw [← hy]
  exact View.canon_cons_emb _ w L x

/-- An index outside the newest piece's rectangle reads the pieces before it. -/
theorem canon_unit_not_mem {S : Shape} {e : EltTy} {off size : Fin S.rank → ℕ} (inb : ∀ a, off a + size a ≤ S.size a)
    (w : (Rect.unit off size inb).shape.Idx → Elt F e) (L : List (View.Piece (Elt F) S e)) (y : S.Idx)
    (a : Fin S.rank) (ha : (y a).val < off a ∨ off a + size a ≤ (y a).val) :
    View.canon (⟨Rect.unit off size inb, w⟩ :: L) y = View.canon L y := by
  refine View.canon_cons_of_not_mem _ L ?_
  rw [Rect.mem_set_unit]
  intro hall
  have := hall a
  omega

/-- A load of one slot of the two-slot buffer whose last stores are the slot's 256 body rows and its 8 halo rows. -/
theorem readCov_slab {sg : RefSig} {κ : Kind} {sp : Space} (v : View sg κ sp S2x264x1024 .f32) (s o q n k : ℕ)
    (i1 : ∀ a, (![s, 8, 0] : Fin 3 → ℕ) a + (![1, 256, 1024] : Fin 3 → ℕ) a ≤ S2x264x1024.size a)
    (i2 : ∀ a, (![s, 0, 0] : Fin 3 → ℕ) a + (![1, 8, 1024] : Fin 3 → ℕ) a ≤ S2x264x1024.size a)
    (i3 : ∀ a, (![s, o, q] : Fin 3 → ℕ) a + (![1, n, k] : Fin 3 → ℕ) a ≤ S2x264x1024.size a)
    (b : FVec F S1x256x1024 .f32) (h : FVec F S1x8x1024 .f32) (L : List (View.Piece (Elt F) S2x264x1024 .f32)) :
    v.readCov (⟨Rect.unit (s := S2x264x1024) ![s, 8, 0] ![1, 256, 1024] i1, b⟩ :: ⟨Rect.unit (s := S2x264x1024) ![s, 0, 0] ![1, 8, 1024] i2, h⟩ :: L)
      (Rect.unit (s := S2x264x1024) ![s, o, q] ![1, n, k] i3).toLoadRect = slab b h o q n k (i3 1) (i3 2) := by
  funext x
  rw [View.readCov_eq_canon']
  have h2 : (x 2 : ℕ) < k := (x 2).isLt
  have h1 : (x 1 : ℕ) < n := (x 1).isLt
  have h0 : (x 0 : ℕ) < 1 := (x 0).isLt
  have g1 : o + n ≤ 264 := i3 1
  have g2 : q + k ≤ 1024 := i3 2
  unfold slab
  by_cases hx : o + (x 1 : ℕ) < 8
  · rw [dif_pos hx]
    refine (canon_unit_not_mem (S := S2x264x1024) (e := .f32) (off := ![s, 8, 0]) (size := ![1, 256, 1024]) i1 b _ _ 1 (Or.inl ?_)).trans
      (canon_unit_mem (S := S2x264x1024) (e := .f32) (off := ![s, 0, 0]) (size := ![1, 8, 1024]) i2 h L _
        (ix3 (0 : Fin 1) (⟨o + (x 1 : ℕ), hx⟩ : Fin 8) (⟨q + (x 2 : ℕ), by omega⟩ : Fin 1024)) ?_)
    · show o + 1 * (x 1 : ℕ) < 8
      omega
    · intro a
      match a with
      | 0 => show s + 1 * (x 0 : ℕ) = s + 0; omega
      | 1 => show o + 1 * (x 1 : ℕ) = 0 + (o + (x 1 : ℕ)); omega
      | 2 => show q + 1 * (x 2 : ℕ) = 0 + (q + (x 2 : ℕ)); omega
  · rw [dif_neg hx]
    refine canon_unit_mem (S := S2x264x1024) (e := .f32) (off := ![s, 8, 0]) (size := ![1, 256, 1024]) i1 b _ _
      (ix3 (0 : Fin 1) (⟨o + (x 1 : ℕ) - 8, by omega⟩ : Fin 256) (⟨q + (x 2 : ℕ), by omega⟩ : Fin 1024)) ?_
    · intro a
      match a with
      | 0 => show s + 1 * (x 0 : ℕ) = s + 0; omega
      | 1 => show o + 1 * (x 1 : ℕ) = 8 + (o + (x 1 : ℕ) - 8); omega
      | 2 => show q + 1 * (x 2 : ℕ) = 0 + (q + (x 2 : ℕ)); omega

/-- Two column halves side by side. -/
def wbU (a b : FVec F S2048x512 .bf16) : Vec F S2048x1024 .bf16 := fun y =>
  if hy : (y 1 : ℕ) < 512 then a (ix2 (y 0) ⟨(y 1 : ℕ), hy⟩)
  else b (ix2 (y 0) ⟨(y 1 : ℕ) - 512, by have := (y 1).isLt; have : (y 1 : ℕ) < 1024 := this; omega⟩)

/-- Storing the two column halves leaves them side by side. -/
theorem canon_wb (i1 : ∀ a, (![0, 512] : Fin 2 → ℕ) a + (![2048, 512] : Fin 2 → ℕ) a ≤ S2048x1024.size a)
    (i2 : ∀ a, (![0, 0] : Fin 2 → ℕ) a + (![2048, 512] : Fin 2 → ℕ) a ≤ S2048x1024.size a)
    (a b : FVec F S2048x512 .bf16) (y : S2048x1024.Idx) :
    View.canon (Val := Elt F) [⟨Rect.unit (s := S2048x1024) ![0, 512] ![2048, 512] i1, b⟩,
      ⟨Rect.unit (s := S2048x1024) ![0, 0] ![2048, 512] i2, a⟩] y = wbU a b y := by
  have h0 : (y 0 : ℕ) < 2048 := (y 0).isLt
  have h1 : (y 1 : ℕ) < 1024 := (y 1).isLt
  unfold wbU
  by_cases hy : (y 1 : ℕ) < 512
  · rw [dif_pos hy]
    refine (canon_unit_not_mem (S := S2048x1024) (e := .bf16) (off := ![0, 512]) (size := ![2048, 512]) i1 b _ _ 1 (Or.inl hy)).trans
      (canon_unit_mem (S := S2048x1024) (e := .bf16) (off := ![0, 0]) (size := ![2048, 512]) i2 a _ _
        (ix2 (⟨(y 0 : ℕ), h0⟩ : Fin 2048) (⟨(y 1 : ℕ), hy⟩ : Fin 512)) ?_)
    intro k
    match k with
    | 0 => show (y 0 : ℕ) = 0 + (y 0 : ℕ); omega
    | 1 => show (y 1 : ℕ) = 0 + (y 1 : ℕ); omega
  · rw [dif_neg hy]
    refine canon_unit_mem (S := S2048x1024) (e := .bf16) (off := ![0, 512]) (size := ![2048, 512]) i1 b _ _
      (ix2 (⟨(y 0 : ℕ), h0⟩ : Fin 2048) (⟨(y 1 : ℕ) - 512, by omega⟩ : Fin 512)) ?_
    intro k
    match k with
    | 0 => show (y 0 : ℕ) = 0 + (y 0 : ℕ); omega
    | 1 => show (y 1 : ℕ) = 512 + ((y 1 : ℕ) - 512); omega

/-- Loading the whole buffer after storing the two column halves reads them side by side. -/
theorem readCov_wb {sg : RefSig} {κ : Kind} {sp : Space} (v : View sg κ sp S2048x1024 .bf16)
    (i1 : ∀ a, (![0, 512] : Fin 2 → ℕ) a + (![2048, 512] : Fin 2 → ℕ) a ≤ S2048x1024.size a)
    (i2 : ∀ a, (![0, 0] : Fin 2 → ℕ) a + (![2048, 512] : Fin 2 → ℕ) a ≤ S2048x1024.size a)
    (i3 : ∀ a, (![0, 0] : Fin 2 → ℕ) a + (![2048, 1024] : Fin 2 → ℕ) a ≤ S2048x1024.size a)
    (a b : FVec F S2048x512 .bf16) :
    v.readCov [⟨Rect.unit (s := S2048x1024) ![0, 512] ![2048, 512] i1, b⟩,
      ⟨Rect.unit (s := S2048x1024) ![0, 0] ![2048, 512] i2, a⟩]
      (Rect.unit (s := S2048x1024) ![0, 0] ![2048, 1024] i3).toLoadRect = wbU a b := by
  funext x
  rw [View.readCov_eq_canon']
  refine (canon_wb i1 i2 a b _).trans (congrArg (wbU a b) ?_)
  funext k
  apply Fin.ext
  match k with
  | 0 => show 0 + 1 * (x 0 : ℕ) = x 0; omega
  | 1 => show 0 + 1 * (x 1 : ℕ) = x 1; omega

/-- The row group's rows lie in the block. -/
theorem inb_rows (r : ℕ) : ∀ a, (![256 * (r % 8), 0] : Fin 2 → ℕ) a + (![256, 2048] : Fin 2 → ℕ) a ≤ S2048x2048.size a := by
  have := Nat.mod_lt r (show 0 < 8 by decide)
  intro a
  match a with
  | 0 => show 256 * (r % 8) + 256 ≤ 2048; omega
  | 1 => show 0 + 2048 ≤ 2048; omega

/-- Row group `r`'s 256 rows of a block of 2048 tokens. -/
def rowsU (X : Vec F S2048x2048 .bf16) (r : ℕ) : Vec F S256x2048 .bf16 :=
  View.ld X (Rect.unit (s := S2048x2048) ![256 * (r % 8), 0] ![256, 2048] (inb_rows r))

/-- Row group `r` of the product, before the convolution. -/
def bodyU (X : Vec F S2048x2048 .bf16) (wb : Vec F S2048x1024 .bf16) (r : ℕ) : FVec F S1x256x1024 .f32 :=
  k0_pay26 (rowsU X r) wb

/-- The 8 rows before a row group: zeros before the first, else the group before's last 8. -/
def haloU (body : ℕ → FVec F S1x256x1024 .f32) : ℕ → FVec F S1x8x1024 .f32
  | 0 => pay6c
  | r + 1 => k0_pay25 (slab (body r) (haloU body r) 256 0 8 1024 (by decide) (by decide))

/-- A tap's row lies in the weights' block. -/
theorem inb_tap (k : ℕ) : ∀ a, (![0, k % 3, 0] : Fin 3 → ℕ) a + (![1, 1, 512] : Fin 3 → ℕ) a ≤ S1x3x512.size a := by
  have := Nat.mod_lt k (show 0 < 3 by decide)
  intro a
  match a with
  | 0 => show 0 + 1 ≤ 1; omega
  | 1 => show k % 3 + 1 ≤ 3; omega
  | 2 => show 0 + 512 ≤ 512; omega

/-- One tap's row of the convolution's weights. -/
def cwRow (cw : Vec F S1x3x512 .f32) (k : ℕ) : Vec F S1x1x512 .f32 :=
  View.ld cw (Rect.unit (s := S1x3x512) ![0, k % 3, 0] ![1, 1, 512] (inb_tap k))

/-- One row group's result from the product's rows: convolution, bias, gate. -/
def convU (b : FVec F S1x256x1024 .f32) (h : FVec F S1x8x1024 .f32) (cg cv : Vec F S1x3x512 .f32)
    (bg bv : Vec F S1x1x512 .f32) : FVec F S256x512 .bf16 :=
  k0_pay28
    (k0_pay27 (slab b h 8 0 256 512 (by decide) (by decide)) (cwRow cg 2) bg
      (slab b h 7 0 256 512 (by decide) (by decide)) (cwRow cg 1)
      (slab b h 6 0 256 512 (by decide) (by decide)) (cwRow cg 0))
    (slab b h 8 512 256 512 (by decide) (by decide)) (cwRow cv 2) bv
    (slab b h 7 512 256 512 (by decide) (by decide)) (cwRow cv 1)
    (slab b h 6 512 256 512 (by decide) (by decide)) (cwRow cv 0)

/-- Row group `r`'s result as a function of the blocks. -/
def tileU (X : Vec F S2048x2048 .bf16) (wb : Vec F S2048x1024 .bf16) (cg cv : Vec F S1x3x512 .f32)
    (bg bv : Vec F S1x1x512 .f32) (r : ℕ) : FVec F S256x512 .bf16 :=
  convU (bodyU X wb r) (haloU (bodyU X wb) r) cg cv bg bv

set_option maxHeartbeats 4000000 in
/-- At a point that keeps the weight's tile, row `256 r + x` of the block is row `x` of group `r`'s result. -/
theorem outB (c : Dev nD) (t : Fin cfg0.N) (h : ¬ t.val % 4 = 0) (y : S2048x512.Idx) (r : Fin 8) (x : S256x512.Idx)
    (hy0 : (y 0 : ℕ) = 256 * r + x 0) (hy1 : (y 1 : ℕ) = x 1) :
    (outsAt0 m c t.val t.isLt).1 y = tileU (iblk m c 0 t) (outsAt0 m c (t.val - 1) (by have := t.isLt; omega)).2.2 (iblk m c 3 t) (iblk m c 4 t)
      (iblk m c 5 t) (iblk m c 6 t) r x := by
  rw [outsAt0_B m c t h]
  frame_open
  simp (disch := decide) only [↓ View.readCov_skip, ↓ readCov_slab, ↓ readCov_wb, ↓ View.readCov_cons_toLoadRect, ↓ View.readCov_fill]
  frame_out
  simp only [read_unread_whole]
  have hx0 : (x 0 : ℕ) < 256 := (x 0).isLt
  canon_tiles w h
  case piece0 =>
    obtain rfl : r = 7 := by ext; show (r : ℕ) = 7; omega
    obtain rfl : x = w := by funext a; match a with | 0 => ext; omega | 1 => ext; omega
    rfl
  case piece1 =>
    obtain rfl : r = 6 := by ext; show (r : ℕ) = 6; omega
    obtain rfl : x = w := by funext a; match a with | 0 => ext; omega | 1 => ext; omega
    rfl
  case piece2 =>
    obtain rfl : r = 5 := by ext; show (r : ℕ) = 5; omega
    obtain rfl : x = w := by funext a; match a with | 0 => ext; omega | 1 => ext; omega
    rfl
  case piece3 =>
    obtain rfl : r = 4 := by ext; show (r : ℕ) = 4; omega
    obtain rfl : x = w := by funext a; match a with | 0 => ext; omega | 1 => ext; omega
    rfl
  case piece4 =>
    obtain rfl : r = 3 := by ext; show (r : ℕ) = 3; omega
    obtain rfl : x = w := by funext a; match a with | 0 => ext; omega | 1 => ext; omega
    rfl
  case piece5 =>
    obtain rfl : r = 2 := by ext; show (r : ℕ) = 2; omega
    obtain rfl : x = w := by funext a; match a with | 0 => ext; omega | 1 => ext; omega
    rfl
  case piece6 =>
    obtain rfl : r = 1 := by ext; show (r : ℕ) = 1; omega
    obtain rfl : x = w := by funext a; match a with | 0 => ext; omega | 1 => ext; omega
    rfl
  case piece7 =>
    obtain rfl : r = 0 := by ext; show (r : ℕ) = 0; omega
    obtain rfl : x = w := by funext a; match a with | 0 => ext; omega | 1 => ext; omega
    rfl

set_option maxHeartbeats 4000000 in
/-- At a point that takes a new tile of the weight, row `256 r + x` of the block is row `x` of group `r`'s result. -/
theorem outA (c : Dev nD) (t : Fin cfg0.N) (h : t.val % 4 = 0) (y : S2048x512.Idx) (r : Fin 8) (x : S256x512.Idx)
    (hy0 : (y 0 : ℕ) = 256 * r + x 0) (hy1 : (y 1 : ℕ) = x 1) :
    (outsAt0 m c t.val t.isLt).1 y = tileU (iblk m c 0 t) (wbU (k0_pay4 (iblk m c 1 t)) (k0_pay5 (iblk m c 2 t))) (iblk m c 3 t) (iblk m c 4 t)
      (iblk m c 5 t) (iblk m c 6 t) r x := by
  rw [outsAt0_A m c t h]
  frame_open
  simp (disch := decide) only [↓ View.readCov_skip, ↓ readCov_slab, ↓ readCov_wb, ↓ View.readCov_cons_toLoadRect, ↓ View.readCov_fill]
  frame_out
  have hx0 : (x 0 : ℕ) < 256 := (x 0).isLt
  canon_tiles w h
  case piece0 =>
    obtain rfl : r = 7 := by ext; show (r : ℕ) = 7; omega
    obtain rfl : x = w := by funext a; match a with | 0 => ext; omega | 1 => ext; omega
    rfl
  case piece1 =>
    obtain rfl : r = 6 := by ext; show (r : ℕ) = 6; omega
    obtain rfl : x = w := by funext a; match a with | 0 => ext; omega | 1 => ext; omega
    rfl
  case piece2 =>
    obtain rfl : r = 5 := by ext; show (r : ℕ) = 5; omega
    obtain rfl : x = w := by funext a; match a with | 0 => ext; omega | 1 => ext; omega
    rfl
  case piece3 =>
    obtain rfl : r = 4 := by ext; show (r : ℕ) = 4; omega
    obtain rfl : x = w := by funext a; match a with | 0 => ext; omega | 1 => ext; omega
    rfl
  case piece4 =>
    obtain rfl : r = 3 := by ext; show (r : ℕ) = 3; omega
    obtain rfl : x = w := by funext a; match a with | 0 => ext; omega | 1 => ext; omega
    rfl
  case piece5 =>
    obtain rfl : r = 2 := by ext; show (r : ℕ) = 2; omega
    obtain rfl : x = w := by funext a; match a with | 0 => ext; omega | 1 => ext; omega
    rfl
  case piece6 =>
    obtain rfl : r = 1 := by ext; show (r : ℕ) = 1; omega
    obtain rfl : x = w := by funext a; match a with | 0 => ext; omega | 1 => ext; omega
    rfl
  case piece7 =>
    obtain rfl : r = 0 := by ext; show (r : ℕ) = 0; omega
    obtain rfl : x = w := by funext a; match a with | 0 => ext; omega | 1 => ext; omega
    rfl

set_option maxHeartbeats 2000000 in
/-- A point that takes a new tile of the weight leaves its two halves side by side. -/
theorem wbA (c : Dev nD) (t : Fin cfg0.N) (h : t.val % 4 = 0) :
    (outsAt0 m c t.val t.isLt).2.2 = wbU (k0_pay4 (iblk m c 1 t)) (k0_pay5 (iblk m c 2 t)) := by
  rw [outsAt0_A m c t h]
  funext y
  frame_open
  frame_out
  exact canon_wb _ _ _ _ y

set_option maxHeartbeats 2000000 in
/-- A point that keeps the weight's tile leaves it as it was. -/
theorem wbB (c : Dev nD) (t : Fin cfg0.N) (h : ¬ t.val % 4 = 0) :
    (outsAt0 m c t.val t.isLt).2.2 = (outsAt0 m c (t.val - 1) (by have := t.isLt; omega)).2.2 := by
  rw [outsAt0_B m c t h]
  rfl

set_option maxHeartbeats 2000000 in
/-- Every point leaves the cast of its block of the second weight. -/
theorem side (c : Dev nD) (t : Fin cfg0.N) : (outsAt0 m c t.val t.isLt).2.1 = k0_pay3 (iblk m c 7 t) := by
  by_cases h : t.val % 4 = 0
  · rw [outsAt0_A m c t h]
    frame_open
    frame_out
  · rw [outsAt0_B m c t h]
    frame_open
    frame_out

/-- Row `256 r + x` of the block a point leaves is row `x` of group `r`'s result over the tile the point leaves. -/
theorem out_eq (c : Dev nD) (t : Fin cfg0.N) (y : S2048x512.Idx) (r : Fin 8) (x : S256x512.Idx)
    (hy0 : (y 0 : ℕ) = 256 * r + x 0) (hy1 : (y 1 : ℕ) = x 1) :
    (outsAt0 m c t.val t.isLt).1 y = tileU (iblk m c 0 t) (outsAt0 m c t.val t.isLt).2.2 (iblk m c 3 t) (iblk m c 4 t)
      (iblk m c 5 t) (iblk m c 6 t) r x := by
  by_cases h : t.val % 4 = 0
  · rw [wbA m c t h]
    exact outA m c t h y r x hy0 hy1
  · rw [wbB m c t h]
    exact outB m c t h y r x hy0 hy1

end Cert.UpIdeal.Value

end
-- ==== Proof.Up.Spec.lean ====
/- The feed-forward network's convolution and gate over the extended reals, of a sequence's products. -/
module

public import Idealize.ShloMosaic.PureOps
public import Idealize.ShloMosaic.Lib.Pointwise

@[expose] public section

noncomputable section

open Idealize.ShloMosaic

namespace Cert.UpSpec

/-- The product `d` positions before position `s` of a sequence: nothing before its start. -/
def tapS (p : ℕ → EReal) (s d : ℕ) : EReal := if s < d then 0 else p (s - d)

/-- The convolution of a sequence's products, with its bias. -/
def convS (p : ℕ → EReal) (c0 c1 c2 b : EReal) (s : ℕ) : EReal :=
  tapS p s 2 * c0 + tapS p s 1 * c1 + tapS p s 0 * c2 + b

/-- The convolution at a position reads the products up to it. -/
theorem convS_congr (p p' : ℕ → EReal) (c0 c1 c2 b : EReal) (s : ℕ) (h : ∀ n, n ≤ s → p n = p' n) :
    convS p c0 c1 c2 b s = convS p' c0 c1 c2 b s := by
  unfold convS tapS
  rw [h (s - 2) (Nat.sub_le _ _), h (s - 1) (Nat.sub_le _ _), h (s - 0) (Nat.sub_le _ _)]

/-- The smooth gate by the hyperbolic tangent. -/
def geluS (g : EReal) : EReal :=
  g * (Ideal.ofBits FTy.f32 1056964608#32 * (Ideal.ofBits FTy.f32 1065353216#32
    + Ideal.tanh (Ideal.ofBits FTy.f32 1061962282#32 * (g + Ideal.ofBits FTy.f32 1027024659#32 * (g * g * g)))))

end Cert.UpSpec

end
-- ==== Proof.Up.Kern.lean ====
/- One row group's result of the feed-forward network's first call, read at an index over the extended reals. -/
module

public import proofs.«01_k».proof.Proof.Up.Block
public import proofs.«01_k».proof.Proof.Up.Spec

@[expose] public section

set_option maxRecDepth 16384

noncomputable section

open Idealize.ShloMosaic Idealize.ShloMosaic.TcCoe Idealize.SL.Sem

namespace Cert.UpIdeal.Value

open Cert.UpIdeal Cert.UpIdeal.Gen Cert.UpIdeal.Hand Cert.UpSpec

variable (X : Vec Ideal S2048x2048 .bf16) (wb : Vec Ideal S2048x1024 .bf16)

/-- The products of one column along the block's rows. -/
def seqK (e : Fin 1024) (n : ℕ) : EReal :=
  ∑ k : Fin 2048, (X (ix2 (Fin.ofNat 2048 n) k) * wb (ix2 k e) : EReal)

/-- A row group's product at an index. -/
theorem bodyU_at (r : ℕ) (hr : r < 8) (i : Fin 256) (e : Fin 1024) :
    bodyU X wb r (ix3 0 i e) = seqK X wb e (256 * r + i) := by
  have hi : (i : ℕ) < 256 := i.isLt
  unfold seqK
  pointwise [bodyU, k0_pay26, rowsU]
  refine Finset.sum_congr rfl fun k _ => ?_
  congr 3
  apply Fin.ext
  show 256 * (r % 8) + (i : ℕ) = (256 * r + i) % 2048
  omega

/-- The halo before a row group: the product's 8 rows before it, zeros before the first. -/
theorem haloU_at (r : ℕ) (hr : r < 8) (i : Fin 8) (e : Fin 1024) :
    haloU (bodyU X wb) r (ix3 0 i e) = if r = 0 then 0 else seqK X wb e (256 * r + i - 8) := by
  match r with
  | 0 =>
    rw [if_pos rfl]
    pointwise [haloU, pay6c]
  | r + 1 =>
    have hi : (i : ℕ) < 8 := i.isLt
    rw [if_neg (by omega)]
    unfold haloU
    have hs := bodyU_at X wb r (by omega) ⟨256 + (i : ℕ) - 8, by omega⟩ e
    generalize bodyU X wb r = B at hs
    generalize haloU (bodyU X wb) r = H
    pointwise [k0_pay25, slab]
    rw [dif_neg (by omega)]
    refine hs.trans (congrArg (seqK X wb e) ?_)
    show 256 * r + (256 + (i : ℕ) - 8) = 256 * (r + 1) + i - 8
    omega

/-- A tap of the convolution: the product the given number of positions before, zeros before the sequence. -/
theorem slab_at (r : ℕ) (hr : r < 8) (o q d : ℕ) (hd : o + d = 8) (ho : o + 256 ≤ 264) (hq : q + 512 ≤ 1024) (i : Fin 256)
    (e : Fin 512) : slab (bodyU X wb r) (haloU (bodyU X wb) r) o q 256 512 ho hq (ix3 0 i e)
      = tapS (seqK X wb ⟨q + e, by omega⟩) (256 * r + i) d := by
  have hi : (i : ℕ) < 256 := i.isLt
  unfold slab tapS
  by_cases h : o + (i : ℕ) < 8
  · refine (dif_pos h).trans ((haloU_at X wb r hr _ _).trans ?_)
    by_cases h0 : r = 0
    · rw [if_pos h0, if_pos (by omega)]
    · rw [if_neg h0, if_neg (by omega)]
      refine congrArg (seqK X wb _) ?_
      show 256 * r + (o + (i : ℕ)) - 8 = 256 * r + i - d
      omega
  · refine (dif_neg h).trans ((bodyU_at X wb r hr _ _).trans ?_)
    rw [if_neg (by omega)]
    refine congrArg (seqK X wb _) ?_
    show 256 * r + (o + (i : ℕ) - 8) = 256 * r + i - d
    omega

variable (cg cv : Vec Ideal S1x3x512 .f32) (bg bv : Vec Ideal S1x1x512 .f32)

/-- A row group's result at an index. -/
theorem tileU_at (r : ℕ) (hr : r < 8) (i : Fin 256) (e : Fin 512) :
    tileU X wb cg cv bg bv r (ix2 i e)
      = geluS (convS (seqK X wb ⟨0 + e, by omega⟩) (cg (ix3 0 0 e)) (cg (ix3 0 1 e)) (cg (ix3 0 2 e)) (bg (ix3 0 0 e)) (256 * r + i))
        * convS (seqK X wb ⟨512 + e, by omega⟩) (cv (ix3 0 0 e)) (cv (ix3 0 1 e)) (cv (ix3 0 2 e)) (bv (ix3 0 0 e)) (256 * r + i) := by
  have g0 := slab_at X wb r hr 8 0 0 (by decide) (by decide) (by decide) i e
  have g1 := slab_at X wb r hr 7 0 1 (by decide) (by decide) (by decide) i e
  have g2 := slab_at X wb r hr 6 0 2 (by decide) (by decide) (by decide) i e
  have v0 := slab_at X wb r hr 8 512 0 (by decide) (by decide) (by decide) i e
  have v1 := slab_at X wb r hr 7 512 1 (by decide) (by decide) (by decide) i e
  have v2 := slab_at X wb r hr 6 512 2 (by decide) (by decide) (by decide) i e
  unfold convS geluS tileU convU
  rw [← g0, ← g1, ← g2, ← v0, ← v1, ← v2]
  clear g0 g1 g2 v0 v1 v2
  generalize bodyU X wb r = B
  generalize haloU (bodyU X wb) r = H
  pointwise [k0_pay28, k0_pay27, cwRow]
  generalize slab B H 8 0 256 512 _ _ (ix3 0 i e) = g8
  generalize slab B H 7 0 256 512 _ _ (ix3 0 i e) = g7
  generalize slab B H 6 0 256 512 _ _ (ix3 0 i e) = g6
  generalize slab B H 8 512 256 512 _ _ (ix3 0 i e) = v8
  generalize slab B H 7 512 256 512 _ _ (ix3 0 i e) = v7
  generalize slab B H 6 512 256 512 _ _ (ix3 0 i e) = v6
  generalize cg (ix3 0 0 e) = a0
  generalize cg (ix3 0 1 e) = a1
  generalize cg (ix3 0 2 e) = a2
  generalize cv (ix3 0 0 e) = b0
  generalize cv (ix3 0 1 e) = b1
  generalize cv (ix3 0 2 e) = b2
  generalize bg (ix3 0 0 e) = a3
  generalize bv (ix3 0 0 e) = b3
  have hg : g8 * a2 + a3 + g7 * a1 + g6 * a0 = g6 * a0 + g7 * a1 + g8 * a2 + a3 := by ac_rfl
  have hv : v8 * b2 + b3 + v7 * b1 + v6 * b0 = v6 * b0 + v7 * b1 + v8 * b2 + b3 := by ac_rfl
  rw [hg, hv]
  generalize g6 * a0 + g7 * a1 + g8 * a2 + a3 = g
  refine congrArg (· * _) ?_
  generalize (1 : EReal) + _ = z
  ac_rfl

end Cert.UpIdeal.Value

end
-- ==== Proof.Up.Ref.lean ====
/- The reference of the feed-forward network's first call, read at an index over the extended reals. -/
module

public import proofs.«01_k».proof.Proof.Gen.UpRefIdeal.Run
public import proofs.«01_k».proof.Proof.Up.Spec
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.UpRefIdeal.Value

open Cert.UpRefIdeal Cert.UpRefIdeal.Gen Cert.UpSpec

/-- The product. -/
def prodR (a : Vec Ideal S8192x2048 .bf16) (w : Vec Ideal S2x2048x11264 .f32) : FVec Ideal S8192x11264 .f32 :=
  Host.dotGeneral (φ₁ := .f32) (φ₂ := .f32) dot_S8192x2048_S2048x11264_S8192x11264_1_0_0_1_n_n none (extf .f32 a bitsLt_bf16_f32)
    (shapeCast _ (extractStridedSlice S1x2048x11264 ![1, 0, 0] w slices_S2x2048x11264_S1x2048x11264_1_0_0)
      shapeCasts_S1x2048x11264_S2048x11264)

/-- Each sequence's product after two rows of zeros. -/
def padR (p : FVec Ideal S8192x11264 .f32) : FVec Ideal S4x2050x11264 .f32 :=
  concatenate S4x2050x11264 1 [⟨S4x2x11264, (broadcastInDim S4x2x11264 ![] bcast_S_S4x2x11264
    (constant S_ .f32 0x00000000#32))⟩, ⟨S4x2048x11264, (shapeCast _ p shapeCasts_S8192x11264_S4x2048x11264)⟩]
    concatenates_S4x2x11264_S4x2048x11264_S4x2050x11264_d1

/-- The convolution with its bias. -/
def convR (p : FVec Ideal S4x2050x11264 .f32) (cw : Vec Ideal S2x3x11264 .f32) (cb : Vec Ideal S2x11264 .f32) :
    FVec Ideal S4x2048x11264 .f32 :=
  addf (addf (addf
    (mulf (extractStridedSlice S4x2048x11264 ![0, 0, 0] p slices_S4x2050x11264_S4x2048x11264_0_0_0)
      (broadcastInDim S4x2048x11264 ![0, 1, 2] bcast_S1x1x11264_S4x2048x11264_0_1_2 (broadcastInDim S1x1x11264 ![2]
        bcast_S11264_S1x1x11264_2 (shapeCast _ (extractStridedSlice S1x1x11264 ![1, 0, 0] cw
          slices_S2x3x11264_S1x1x11264_1_0_0) shapeCasts_S1x1x11264_S11264))))
    (mulf (extractStridedSlice S4x2048x11264 ![0, 1, 0] p slices_S4x2050x11264_S4x2048x11264_0_1_0)
      (broadcastInDim S4x2048x11264 ![0, 1, 2] bcast_S1x1x11264_S4x2048x11264_0_1_2 (broadcastInDim S1x1x11264 ![2]
        bcast_S11264_S1x1x11264_2 (shapeCast _ (extractStridedSlice S1x1x11264 ![1, 1, 0] cw
          slices_S2x3x11264_S1x1x11264_1_1_0) shapeCasts_S1x1x11264_S11264)))))
    (mulf (extractStridedSlice S4x2048x11264 ![0, 2, 0] p slices_S4x2050x11264_S4x2048x11264_0_2_0)
      (broadcastInDim S4x2048x11264 ![0, 1, 2] bcast_S1x1x11264_S4x2048x11264_0_1_2 (broadcastInDim S1x1x11264 ![2]
        bcast_S11264_S1x1x11264_2 (shapeCast _ (extractStridedSlice S1x1x11264 ![1, 2, 0] cw
          slices_S2x3x11264_S1x1x11264_1_2_0) shapeCasts_S1x1x11264_S11264)))))
    (broadcastInDim S4x2048x11264 ![0, 1, 2] bcast_S1x1x11264_S4x2048x11264_0_1_2 (broadcastInDim S1x1x11264 ![2]
      bcast_S11264_S1x1x11264_2 (shapeCast _ (extractStridedSlice S1x11264 ![1, 0] cb slices_S2x11264_S1x11264_1_0)
        shapeCasts_S1x11264_S11264)))

/-- The gate. -/
def gateR (g : FVec Ideal S4x2048x5632 .f32) : FVec Ideal S4x2048x5632 .f32 :=
  mulf g (mulf (broadcastInDim S4x2048x5632 ![] bcast_S_S4x2048x5632 (constant S_ .f32 0x3F000000#32))
    (addf (broadcastInDim S4x2048x5632 ![] bcast_S_S4x2048x5632 (constant S_ .f32 0x3F800000#32))
      (Host.tanh (mulf (broadcastInDim S4x2048x5632 ![] bcast_S_S4x2048x5632 (constant S_ .f32 0x3F4C422A#32))
        (addf g (mulf (broadcastInDim S4x2048x5632 ![] bcast_S_S4x2048x5632 (constant S_ .f32 0x3D372713#32))
          (mulf (mulf g g) g)))))))

/-- The first result from the convolution. -/
def actR (u : FVec Ideal S4x2048x11264 .f32) : FVec Ideal S8192x5632 .bf16 :=
  truncf .bf16 (shapeCast _ (mulf
    (gateR (extractStridedSlice S4x2048x5632 ![0, 0, 0] u slices_S4x2048x11264_S4x2048x5632_0_0_0))
    (extractStridedSlice S4x2048x5632 ![0, 0, 5632] u slices_S4x2048x11264_S4x2048x5632_0_0_5632))
    shapeCasts_S4x2048x5632_S8192x5632) bitsLt_bf16_f32

/-- The second result: the cast of the second weight. -/
abbrev sideR (w : Vec Ideal S2x5632x2048 .f32) : FVec Ideal S5632x2048 .bf16 :=
  truncf .bf16 (shapeCast _ (extractStridedSlice S1x5632x2048 ![1, 0, 0] w slices_S2x5632x2048_S1x5632x2048_1_0_0)
    shapeCasts_S1x5632x2048_S5632x2048) bitsLt_bf16_f32

variable (m : (ℓ : Loc nD τ sig) → Buf (Elt Ideal) ℓ)

/-- The reference's first result is the gated convolution of the product. -/
theorem res_eq (c : Dev nD) : res_main_v49 m c = actR (convR (padR (prodR (m ((c.tc : Thread nD τ).loc main_arg0))
    (m ((c.tc : Thread nD τ).loc main_arg1)))) (m ((c.tc : Thread nD τ).loc main_arg2))
    (m ((c.tc : Thread nD τ).loc main_arg3))) := by
  unfold res_main_v49
  rfl

/-- The products of one column along a sequence. -/
def seqR (a : Vec Ideal S8192x2048 .bf16) (w : Vec Ideal S2x2048x11264 .f32) (b : Fin 4) (e : Fin 11264) (n : ℕ) : EReal :=
  ∑ k : Fin 2048, (a (ix2 (Fin.ofNat 8192 (b * 2048 + n)) k) * w (ix3 1 k e) : EReal)

variable (a : Vec Ideal S8192x2048 .bf16) (w : Vec Ideal S2x2048x11264 .f32) (cw : Vec Ideal S2x3x11264 .f32)
  (cb : Vec Ideal S2x11264 .f32)

/-- The padded product at an index. -/
theorem padR_at (b : Fin 4) (n : Fin 2050) (e : Fin 11264) :
    padR (prodR a w) (ix3 b n e) = if (n : ℕ) < 2 then 0 else seqR a w b e (n - 2) := by
  unfold seqR
  pointwise [padR, prodR]
  have hb : (b : ℕ) < 4 := b.isLt
  have hn : (n : ℕ) < 2050 := n.isLt
  by_cases h : (n : ℕ) < 2
  · rw [dif_pos h, if_pos h]
  · rw [dif_neg h, if_neg h]
    pointwise
    refine Finset.sum_congr rfl fun k _ => ?_
    congr 3
    apply Fin.ext
    show (b : ℕ) * 2048 + (n - 2) = (b * 2048 + (n - 2)) % 8192
    omega

/-- The convolution at an index. -/
theorem convR_at (b : Fin 4) (s : Fin 2048) (e : Fin 11264) :
    convR (padR (prodR a w)) cw cb (ix3 b s e)
      = convS (seqR a w b e) (cw (ix3 1 0 e)) (cw (ix3 1 1 e)) (cw (ix3 1 2 e)) (cb (ix2 1 e)) s := by
  have h := padR_at a w b
  generalize padR (prodR a w) = p at h
  unfold convS tapS
  pointwise [convR]
  simp only [h]
  have e1 : (1 + (s : ℕ) < 2) ↔ (s : ℕ) < 1 := by omega
  have e2 : 1 + (s : ℕ) - 2 = s - 1 := by omega
  have e3 : (2 + (s : ℕ) < 2) ↔ (s : ℕ) < 0 := by omega
  have e4 : 2 + (s : ℕ) - 2 = s := by omega
  simp only [e1, e2, e3, e4]

/-- The gate at an index. -/
theorem gateR_at (g : FVec Ideal S4x2048x5632 .f32) (b : Fin 4) (s : Fin 2048) (e : Fin 5632) :
    gateR g (ix3 b s e) = geluS (g (ix3 b s e)) := by
  unfold geluS
  pointwise [gateR]

/-- The first result at an index. -/
theorem actR_at (u : FVec Ideal S4x2048x11264 .f32) (b : Fin 4) (s : Fin 2048) (e : Fin 5632) (r : Fin 8192)
    (g v : Fin 11264) (hr : (r : ℕ) = b * 2048 + s) (hg : (g : ℕ) = e) (hv : (v : ℕ) = 5632 + e) :
    actR u (ix2 r e) = geluS (u (ix3 b s g)) * u (ix3 b s v) := by
  unfold geluS
  pointwise [actR, gateR]
  have hs : (s : ℕ) < 2048 := s.isLt
  have i0 : ∀ h, (⟨(r : ℕ) / 2048, h⟩ : Fin 4) = b := fun h => Fin.ext (by show (r : ℕ) / 2048 = b; omega)
  have i1 : ∀ h, (⟨(r : ℕ) % 2048, h⟩ : Fin 2048) = s := fun h => Fin.ext (by show (r : ℕ) % 2048 = s; omega)
  have i2 : ∀ h, (⟨(e : ℕ), h⟩ : Fin 11264) = g := fun h => Fin.ext hg.symm
  have i3 : ∀ h, (⟨5632 + (e : ℕ), h⟩ : Fin 11264) = v := fun h => Fin.ext hv.symm
  simp only [i0, i1, i2, i3]

end Cert.UpRefIdeal.Value

end
-- ==== Proof.Up.Final.lean ====
/- The result arrays of the feed-forward network's first call are the reference's. -/
module

public import proofs.«01_k».proof.Proof.Up.Kern
public import proofs.«01_k».proof.Proof.Up.Ref
public import Idealize.ShloMosaic.Lib.Claim

@[expose] public section

set_option maxRecDepth 16384

noncomputable section

open Idealize.ShloMosaic Idealize.ShloMosaic.TcCoe Idealize.SL.Sem

namespace Cert.UpIdeal.Value

open Cert.UpIdeal Cert.UpIdeal.Gen Cert.UpIdeal.Hand Cert.UpSpec
open Cert.UpRefIdeal.Value (seqR convR_at actR_at prodR padR convR actR sideR)

variable (m : (ℓ : Loc nD τ sig) → Buf (Elt Ideal) ℓ)

/-- Where each window's block lies at a grid point. -/
theorem idx : ∀ t : Fin cfg0.N, win0_0.index t = ![t.val % 4, 0] ∧ win0_1.index t = ![1, 0, t.val / 4]
    ∧ win0_2.index t = ![1, 0, 11 + t.val / 4] ∧ win0_3.index t = ![1, 0, t.val / 4]
    ∧ win0_4.index t = ![1, 0, 11 + t.val / 4] ∧ win0_5.index t = ![1, 0, t.val / 4]
    ∧ win0_6.index t = ![1, 0, 11 + t.val / 4] ∧ win0_7.index t = ![1, t.val, 0]
    ∧ win0_8.index t = ![t.val % 4, t.val / 4] ∧ win0_9.index t = ![t.val, 0] :=
  (by decide +kernel : ∀ t : Fin grid0.N, _)

/-- The second result is the cast of the second weight. -/
theorem final9 (c : Dev nD) : (dats m 0 c).arrAt 9 (cfgs 0).N
    = sideR (m ((c : Thread nD τ).loc main_arg4)) := by
  refine (dats m 0 c).arrAt_eq_of_covers 9 _ (by decide +kernel) fun t hf y => ?_
  blk_simp
  rw [after0_9, side]
  pointwise [k0_pay3]
  blk_point [iblk, V_main_arg4, idx t]

/-- The tile's first half holds the weight's gate columns. -/
theorem wb_gate (c : Dev nD) (k : Fin 2048) (e : Fin 512) : ∀ (n : ℕ) (t : Fin cfg0.N), t.val = n →
    ∀ g : Fin 11264, (g : ℕ) = 512 * (t.val / 4) + e →
    (outsAt0 m c t.val t.isLt).2.2 (ix2 k ⟨0 + e, by omega⟩) = m ((c : Thread nD τ).loc main_arg1) (ix3 1 k g) := by
  have base : ∀ (t : Fin cfg0.N) (g : Fin 11264), (g : ℕ) = 512 * (t.val / 4) + e → t.val % 4 = 0 →
      (outsAt0 m c t.val t.isLt).2.2 (ix2 k ⟨0 + e, by omega⟩) = m ((c : Thread nD τ).loc main_arg1) (ix3 1 k g) := by
    intro t g hg h
    rw [wbA m c t h]
    pointwise [wbU, k0_pay4, k0_pay5]
    blk_point [iblk, V_main_arg1, idx t]
  intro n
  induction n with
  | zero => exact fun t ht g hg => base t g hg (by omega)
  | succ n ih =>
    intro t ht g hg
    by_cases h : t.val % 4 = 0
    · exact base t g hg h
    · rw [wbB m c t h]
      exact ih ⟨t.val - 1, by have := t.isLt; omega⟩ (by show t.val - 1 = n; omega) g
        (by show (g : ℕ) = 512 * ((t.val - 1) / 4) + e; omega)

/-- The tile's second half holds the weight's value columns. -/
theorem wb_val (c : Dev nD) (k : Fin 2048) (e : Fin 512) : ∀ (n : ℕ) (t : Fin cfg0.N), t.val = n →
    ∀ g : Fin 11264, (g : ℕ) = 5632 + 512 * (t.val / 4) + e →
    (outsAt0 m c t.val t.isLt).2.2 (ix2 k ⟨512 + e, by omega⟩) = m ((c : Thread nD τ).loc main_arg1) (ix3 1 k g) := by
  have base : ∀ (t : Fin cfg0.N) (g : Fin 11264), (g : ℕ) = 5632 + 512 * (t.val / 4) + e → t.val % 4 = 0 →
      (outsAt0 m c t.val t.isLt).2.2 (ix2 k ⟨512 + e, by omega⟩) = m ((c : Thread nD τ).loc main_arg1) (ix3 1 k g) := by
    intro t g hg h
    rw [wbA m c t h]
    pointwise [wbU, k0_pay4, k0_pay5]
    blk_point [iblk, V_main_arg1, idx t]
  intro n
  induction n with
  | zero => exact fun t ht g hg => base t g hg (by omega)
  | succ n ih =>
    intro t ht g hg
    by_cases h : t.val % 4 = 0
    · exact base t g hg h
    · rw [wbB m c t h]
      exact ih ⟨t.val - 1, by have := t.isLt; omega⟩ (by show t.val - 1 = n; omega) g
        (by show (g : ℕ) = 5632 + 512 * ((t.val - 1) / 4) + e; omega)

/-- The products of a column over the point's blocks are the reference's. -/
theorem seq_at (c : Dev nD) (t : Fin cfg0.N) (b : Fin 4) (hb : (b : ℕ) = t.val % 4) (wb : Vec Ideal S2048x1024 .bf16)
    (e : Fin 1024) (g : Fin 11264)
    (h : ∀ k, wb (ix2 k e) = m ((c : Thread nD τ).loc main_arg1) (ix3 1 k g)) (n : ℕ) (hn : n < 2048) :
    seqK (iblk m c 0 t) wb e n
      = seqR (m ((c : Thread nD τ).loc main_arg0)) (m ((c : Thread nD τ).loc main_arg1)) b g n := by
  unfold seqK seqR
  refine Finset.sum_congr rfl fun k _ => ?_
  rw [h k]
  refine congrArg (· * _) ?_
  have h1 : ((Fin.ofNat 2048 n : Fin 2048) : ℕ) = n := Nat.mod_eq_of_lt hn
  have h2 : ((Fin.ofNat 8192 (b * 2048 + n) : Fin 8192) : ℕ) = b * 2048 + n := Nat.mod_eq_of_lt (by omega)
  blk_point [iblk, V_main_arg0, idx t]

/-- The bias as the kernel stages it. -/
theorem V0_at (c : Dev nD) (e : Fin 11264) :
    V m c main_v0 (ix3 1 0 e) = m ((c : Thread nD τ).loc main_arg3) (ix2 1 e) := by
  unfold V
  simp only [List.flatten_cons, List.flatten_nil, List.append_nil, List.cons_append, List.nil_append, hostOps0]
  entry_read
  try simp -implicitDefEqProofs only [StableHlo.TRef.toBuf, StableHlo.TRef.ofBuf, cast_cast, cast_eq]
  pointwise

/-- The first result of a device's run, from the arguments. -/
abbrev refU (a : Vec Ideal S8192x2048 .bf16) (w : Vec Ideal S2x2048x11264 .f32) (cw : Vec Ideal S2x3x11264 .f32)
    (cb : Vec Ideal S2x11264 .f32) : FVec Ideal S8192x5632 .bf16 := actR (convR (padR (prodR a w)) cw cb)

set_option maxHeartbeats 1600000 in
/-- A row group's result over the point's blocks is the reference's. -/
theorem tile_at (c : Dev nD) (t : Fin cfg0.N) (r : Fin 8) (i : Fin 256) (e : Fin 512) (b : Fin 4) (s : Fin 2048)
    (row : Fin 8192) (col : Fin 5632) (g v : Fin 11264) (hb : (b : ℕ) = t.val % 4) (hs : (s : ℕ) = 256 * r + i)
    (hrow : (row : ℕ) = b * 2048 + s) (hcol : (col : ℕ) = 512 * (t.val / 4) + e) (hg : (g : ℕ) = col)
    (hv : (v : ℕ) = 5632 + col) :
    tileU (iblk m c 0 t) (outsAt0 m c t.val t.isLt).2.2 (iblk m c 3 t) (iblk m c 4 t) (iblk m c 5 t) (iblk m c 6 t) r (ix2 i e)
      = refU (m ((c : Thread nD τ).loc main_arg0)) (m ((c : Thread nD τ).loc main_arg1))
          (m ((c : Thread nD τ).loc main_arg2)) (m ((c : Thread nD τ).loc main_arg3)) (ix2 row col) := by
  have hi : (i : ℕ) < 256 := i.isLt
  have hr : (r : ℕ) < 8 := r.isLt
  have he : (e : ℕ) < 512 := e.isLt
  have ht : t.val < 44 := lt_of_lt_of_eq t.isLt N_0
  refine (tileU_at _ _ _ _ _ _ r hr i e).trans (Eq.trans ?_ (actR_at _ b s col row g v hrow hg hv).symm)
  rw [convR_at, convR_at, hs]
  have w1 := fun k => wb_gate m c k e t.val t rfl g (by omega)
  have w2 := fun k => wb_val m c k e t.val t rfl v (by omega)
  rw [convS_congr _ _ _ _ _ _ _ fun n hn => seq_at m c t b hb _ ⟨0 + e, by omega⟩ g w1 n (by omega),
    convS_congr (seqK (iblk m c 0 t) _ ⟨512 + e, by omega⟩) _ _ _ _ _ _ fun n hn => seq_at m c t b hb _ ⟨512 + e, by omega⟩ v w2 n (by omega)]
  have c0 : ∀ k : Fin 3, (iblk m c 3 t : Vec Ideal S1x3x512 .f32) (ix3 0 k e) = m ((c : Thread nD τ).loc main_arg2) (ix3 1 k g) := fun k => by
    blk_point [iblk, V_main_arg2, idx t]
  have c1 : ∀ k : Fin 3, (iblk m c 4 t : Vec Ideal S1x3x512 .f32) (ix3 0 k e) = m ((c : Thread nD τ).loc main_arg2) (ix3 1 k v) := fun k => by
    blk_point [iblk, V_main_arg2, idx t]
  have b0 : (iblk m c 5 t : Vec Ideal S1x1x512 .f32) (ix3 0 0 e) = m ((c : Thread nD τ).loc main_arg3) (ix2 1 g) := by
    refine Eq.trans ?_ (V0_at m c g)
    blk_ext [iblk, idx t]
  have b1 : (iblk m c 6 t : Vec Ideal S1x1x512 .f32) (ix3 0 0 e) = m ((c : Thread nD τ).loc main_arg3) (ix2 1 v) := by
    refine Eq.trans ?_ (V0_at m c v)
    blk_ext [iblk, idx t]
  rw [c0 0, c0 1, c0 2, c1 0, c1 1, c1 2, b0, b1]

set_option maxHeartbeats 1600000 in
/-- The first result is the reference's. -/
theorem final8 (c : Dev nD) : (dats m 0 c).arrAt 8 (cfgs 0).N
    = refU (m ((c : Thread nD τ).loc main_arg0)) (m ((c : Thread nD τ).loc main_arg1))
        (m ((c : Thread nD τ).loc main_arg2)) (m ((c : Thread nD τ).loc main_arg3)) := by
  refine (dats m 0 c).arrAt_eq_of_covers 8 _ (by decide +kernel) fun t hf y => ?_
  blk_simp
  rw [after0_8]
  have ht : t.val < 44 := lt_of_lt_of_eq t.isLt N_0
  have hy0 : (y 0 : ℕ) < 2048 := (y 0).isLt
  have hy1 : (y 1 : ℕ) < 512 := (y 1).isLt
  obtain ⟨r, hr⟩ : ∃ r : Fin 8, (r : ℕ) = y 0 / 256 := ⟨⟨y 0 / 256, by omega⟩, rfl⟩
  obtain ⟨i, hi⟩ : ∃ i : Fin 256, (i : ℕ) = y 0 % 256 := ⟨⟨y 0 % 256, by omega⟩, rfl⟩
  obtain ⟨e, he⟩ : ∃ e : Fin 512, (e : ℕ) = y 1 := ⟨⟨y 1, hy1⟩, rfl⟩
  refine (out_eq m c t y r (ix2 i e) (by show (y 0 : ℕ) = 256 * r + i; omega) (by show (y 1 : ℕ) = e; omega)).trans ?_
  refine (tile_at m c t r i e ⟨t.val % 4, by omega⟩ ⟨256 * r + i, by omega⟩ ⟨t.val % 4 * 2048 + (256 * r + i), by omega⟩
    ⟨512 * (t.val / 4) + e, by omega⟩ ⟨512 * (t.val / 4) + e, by omega⟩ ⟨5632 + (512 * (t.val / 4) + e), by omega⟩
    rfl rfl rfl rfl rfl rfl).trans ?_
  blk_ext [idx t]

end Cert.UpIdeal.Value

end
-- ==== Proof.Up.Same.lean ====
/- The program as written is the program of the run, taken at the bits. -/
module

public import proofs.«01_k».proof.Defs
public import proofs.«01_k».proof.Proof.Gen.Up
public import proofs.«01_k».proof.Proof.Gen.UpIdeal

@[expose] public section

set_option maxRecDepth 65536

noncomputable section

open Idealize.ShloMosaic Idealize.SL.Sem

namespace Cert.Proof.UpClaims

attribute [local instance] Cert.Up.Gen.facts Cert.UpIdeal.Gen.facts

/-- The kernel body is the same term in both prints. -/
theorem body_eq : Cert.Up.cc0_ffn_up (F := Bits) = Cert.UpIdeal.cc0_ffn_up (F := Bits) := rfl

/-- So the table of the kernel bodies is the same: it has one label. -/
theorem bodies_eq : Cert.Up.defs₀ (F := Bits) = Cert.UpIdeal.defs₀ (F := Bits) := by
  unfold Cert.Up.defs₀ Cert.UpIdeal.defs₀
  refine congrArg (Defs.onTc (nD := Cert.UpIdeal.nD) (τ := Cert.UpIdeal.τ) (sig := Cert.UpIdeal.sig)) ?_
  funext l x
  match l, x with
  | ⟨0, _⟩, (t, s) => rfl

/-- And the table with the pipelines over it. -/
theorem defs_eq : Cert.Up.defs (F := Bits) = Cert.UpIdeal.defs (F := Bits) :=
  congrArg (Pipeline.defs (Cert.UpIdeal.pcfgs (F := Bits))) bodies_eq

end Cert.Proof.UpClaims

end
-- ==== Proof.Up.Claims.lean ====
/- The claims of the feed-forward network's first call. -/
module

public import proofs.«01_k».proof.Defs
public import proofs.«01_k».proof.Proof.Gen.Up
public import proofs.«01_k».proof.Proof.Up.Final
public import proofs.«01_k».proof.Proof.Up.Same
public import Idealize.ShloMosaic.Lib.Quiescent

@[expose] public section

set_option maxRecDepth 65536

noncomputable section

open Idealize.ShloMosaic Idealize.SL.Sem

namespace Cert.Proof.UpClaims

/-- The kernel's program as written: it ends, with its arguments kept and every counter at zero. It is the program of
    the run over any floats, taken at the bits. -/
theorem frame_p : Cert.quiescent_Up (hUp := Cert.Up.Gen.facts) := fun m ρ _ => by
  rw [defs_eq]
  exact Cert.UpIdeal.Hand.frame (F := Bits) m ρ

/-- The same of the kernel over the extended reals. -/
theorem frame_pi : Cert.quiescent_UpIdeal (hUpIdeal := Cert.UpIdeal.Gen.facts) := fun m ρ _ =>
  Cert.UpIdeal.Hand.frame m ρ

/-- The same of the reference: it declares no semaphore. -/
theorem frame_ri : Cert.quiescent_UpRefIdeal (hUpRefIdeal := Cert.UpRefIdeal.Gen.facts) := fun m ρ _ =>
  (θ_run Cert.UpRefIdeal.defs _ _).mono (fun r h => ⟨fun c => (h c).2.2,
      Idealize.ShloMosaic.sem_eq_zero_of_no_sems (by decide) r.2⟩)
    (Cert.UpRefIdeal.Value.run (F := Ideal) m ρ)

/-- Kernel and reference end with equal results over the extended reals. -/
theorem algebraic : Cert.algebraic_UpIdeal_UpRefIdeal (hUpIdeal := Cert.UpIdeal.Gen.facts)
    (hUpRefIdeal := Cert.UpRefIdeal.Gen.facts) := by
  intro m ρ m' ρ' _ hag
  refine ⟨fun c => (Cert.UpIdeal.Hand.dats m 0 c).arrAt 8 Cert.UpIdeal.cfg0.N,
    fun c => (Cert.UpIdeal.Hand.dats m 0 c).arrAt 9 Cert.UpIdeal.cfg0.N,
    Cert.UpIdeal.Value.run_blocks (F := Ideal) m ρ, ?_⟩
  refine (θ_run Cert.UpRefIdeal.defs _ _).mono (fun _ h c => ⟨(h c).1.trans ?_, (h c).2.1.trans ?_, (h c).2.2⟩)
    (Cert.UpRefIdeal.Value.run (F := Ideal) m' ρ')
  · rw [Cert.UpRefIdeal.Value.res_eq, (hag c).1, (hag c).2.1, (hag c).2.2.1, (hag c).2.2.2.1]
    exact (Cert.UpIdeal.Value.final8 m c).symm
  · rw [(hag c).2.2.2.2]
    exact (Cert.UpIdeal.Value.final9 m c).symm

end Cert.Proof.UpClaims

end
-- ==== Proof.Out.Ref.lean ====
/- What the output projection's reference computes. -/
module

public import proofs.«01_k».proof.Proof.Gen.OutRefIdeal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OutRefIdeal.Value

open Cert.OutRefIdeal Cert.OutRefIdeal.Gen

variable (a : Vec Ideal S8192x2048 .bf16) (w : Vec Ideal S2048x2048 .bf16) (x : Vec Ideal S8192x2048 .f32)
  (g : Vec Ideal S2x2048 .f32)

/-- The first result: the residual and the product. -/
abbrev refY : FVec Ideal S8192x2048 .f32 :=
  addf x (Host.dotGeneral (φ₁ := .bf16) (φ₂ := .bf16) dot_S8192x2048_S2048x2048_S8192x2048_1_0_0_1_n_n none a w)

/-- The second result: its norm. -/
abbrev refH : FVec Ideal S8192x2048 .bf16 :=
  truncf .bf16 (mulf (mulf (refY a w x) (broadcastInDim S8192x2048 ![0, 1] bcast_S8192x1_S8192x2048_0_1
    (Host.rsqrt (addf (Host.divf (broadcastInDim S8192x1 ![0] bcast_S8192_S8192x1_0 (Host.reduceAdd (mulf
    (refY a w x) (refY a w x)) (constant S_ .f32 0x00000000#32) reducesTo_S8192x2048_S8192_d1 h_S_))
    (broadcastInDim S8192x1 ![] bcast_S_S8192x1 (constant S_ .f32 0x45000000#32))) (broadcastInDim S8192x1 ![]
    bcast_S_S8192x1 (constant S_ .f32 0x358637BD#32)))))) (broadcastInDim S8192x2048 ![0, 1]
    bcast_S1x2048_S8192x2048_0_1 (broadcastInDim S1x2048 ![1] bcast_S2048_S1x2048_1 (shapeCast _
    (extractStridedSlice S1x2048 ![1, 0] g slices_S2x2048_S1x2048_1_0) shapeCasts_S1x2048_S2048))))
    bitsLt_bf16_f32

end Cert.OutRefIdeal.Value

end
-- ==== Proof.Out.Final.lean ====
/- The output projection's result arrays are the reference's. -/
module

public import proofs.«01_k».proof.Proof.Gen.OutIdeal.Value
public import proofs.«01_k».proof.Proof.Out.Ref
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OutIdeal.Value

open Cert.OutIdeal Cert.OutIdeal.Gen Cert.OutRefIdeal.Value

variable (m : (ℓ : Loc nD τ sig) → Buf (Elt Ideal) ℓ)

/-- Where each window's block lies at a grid point. -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0] :=
  (by decide +kernel : ∀ t : Fin grid0.N, _)

/-- The gain's row, as the region finds it. -/
theorem gain_at (c : Dev nD) (j : Fin 2048) : V m c main_v2 (ix2 0 j) = m ((c : Thread nD τ).loc main_arg3) (ix2 1 j) := by
  unfold V
  simp only [List.flatten_cons, List.flatten_nil, List.append_nil, List.cons_append, List.nil_append, hostOps0]
  entry_read
  try simp -implicitDefEqProofs only [StableHlo.TRef.toBuf, StableHlo.TRef.ofBuf, cast_cast, cast_eq]
  pointwise

/-- Its block at a grid point. -/
theorem gblk_at (c : Dev nD) (t : Fin cfg0.N) (j : Fin 2048) :
    iblk m c 3 t (ix2 0 j) = m ((c : Thread nD τ).loc main_arg3) (ix2 1 j) := by
  refine Eq.trans ?_ (gain_at m c j)
  blk_ext [iblk, idx t]

/-- The first result array is the residual and the product. -/
theorem final4 (c : Dev nD) : (dats m 0 c).arrAt 4 (cfgs 0).N = refY (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  frame_open
  simp (disch := decide) only [↓ View.readCov_skip, ↓ View.readCov_cons_toLoadRect, ↓ View.readCov_fill]
  frame_out
  canon_tiles w h
  all_goals
    open_payloads
    pointwise
    blk_point [iblk, V_main_arg0, V_main_arg1, V_main_arg2, idx t]

/-- The second result array is its norm. -/
theorem final5 (c : Dev nD) : (dats m 0 c).arrAt 5 (cfgs 0).N = refH (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  frame_open
  simp (disch := decide) only [↓ View.readCov_skip, ↓ View.readCov_cons_toLoadRect, ↓ View.readCov_fill]
  frame_out
  canon_tiles w h
  all_goals
    open_payloads
    pointwise [refH]
    refine congrArg₂ (· * ·) ?_ ((gblk_at m c t (w 1)).trans ?_)
    all_goals blk_point [iblk, V_main_arg0, V_main_arg1, V_main_arg2, idx t]

end Cert.OutIdeal.Value

end
-- ==== Proof.Out.Claims.lean ====
/- The output projection's claims. -/
module

public import proofs.«01_k».proof.Defs
public import proofs.«01_k».proof.Proof.Gen.Out.Frame
public import proofs.«01_k».proof.Proof.Gen.OutIdeal.Frame
public import proofs.«01_k».proof.Proof.Out.Final
public import Idealize.ShloMosaic.Lib.Quiescent

@[expose] public section

noncomputable section

open Idealize.ShloMosaic Idealize.SL.Sem

namespace Cert.Proof.OutClaims

/-- The kernel's program as written: it ends, with its arguments kept and every counter at zero. -/
theorem frame_p : Cert.quiescent_Out (hOut := Cert.Out.Gen.facts) := fun m ρ _ => Cert.Out.Gen.frame m ρ

/-- The same of the kernel over the extended reals. -/
theorem frame_pi : Cert.quiescent_OutIdeal (hOutIdeal := Cert.OutIdeal.Gen.facts) := fun m ρ _ =>
  Cert.OutIdeal.Gen.frame m ρ

/-- The same of the reference: it declares no semaphore. -/
theorem frame_ri : Cert.quiescent_OutRefIdeal (hOutRefIdeal := Cert.OutRefIdeal.Gen.facts) := fun m ρ _ =>
  (θ_run Cert.OutRefIdeal.defs _ _).mono (fun r h => ⟨fun c => (h c).2.2,
      Idealize.ShloMosaic.sem_eq_zero_of_no_sems (by decide) r.2⟩)
    (Cert.OutRefIdeal.Value.run (F := Ideal) m ρ)

/-- Kernel and reference end with equal results over the extended reals. -/
theorem algebraic : Cert.algebraic_OutIdeal_OutRefIdeal (hOutIdeal := Cert.OutIdeal.Gen.facts)
    (hOutRefIdeal := Cert.OutRefIdeal.Gen.facts) := by
  intro m ρ m' ρ' _ hag
  refine ⟨fun c => (Cert.OutIdeal.Gen.dats m 0 c).arrAt 4 Cert.OutIdeal.cfg0.N,
    fun c => (Cert.OutIdeal.Gen.dats m 0 c).arrAt 5 Cert.OutIdeal.cfg0.N,
    Cert.OutIdeal.Value.run_blocks (F := Ideal) m ρ, ?_⟩
  refine (θ_run Cert.OutRefIdeal.defs _ _).mono (fun _ h c => ⟨(h c).1.trans ?_, (h c).2.1.trans ?_, (h c).2.2⟩)
    (Cert.OutRefIdeal.Value.run (F := Ideal) m' ρ')
  · rw [(hag c).1, (hag c).2.1, (hag c).2.2.1]
    exact (Cert.OutIdeal.Value.final4 m c).symm
  · rw [(hag c).1, (hag c).2.1, (hag c).2.2.1, (hag c).2.2.2]
    exact (Cert.OutIdeal.Value.final5 m c).symm

end Cert.Proof.OutClaims

end
-- ==== Proof.OutEven.Ref.lean ====
/- What the reference of the even sublayer's output projection computes. -/
module

public import proofs.«01_k».proof.Proof.Gen.OutEvenRefIdeal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OutEvenRefIdeal.Value

open Cert.OutEvenRefIdeal Cert.OutEvenRefIdeal.Gen

variable (a b : Vec Ideal S8192x1024 .bf16) (w : Vec Ideal S2048x2048 .bf16) (x : Vec Ideal S8192x2048 .f32)
  (g : Vec Ideal S2x2048 .f32)

/-- The first result: the residual and the product of the two parts side by side. -/
abbrev refY : FVec Ideal S8192x2048 .f32 :=
  addf x (Host.dotGeneral (φ₁ := .bf16) (φ₂ := .bf16) dot_S8192x2048_S2048x2048_S8192x2048_1_0_0_1_n_n none (concatenate S8192x2048 1 [⟨S8192x1024, a⟩,
    ⟨S8192x1024, b⟩] concatenates_S8192x1024_S8192x1024_S8192x2048_d1) w)

/-- The second result: its norm. -/
abbrev refH : FVec Ideal S8192x2048 .bf16 :=
  truncf .bf16 (mulf (mulf (refY a b w x) (broadcastInDim S8192x2048 ![0, 1] bcast_S8192x1_S8192x2048_0_1
    (Host.rsqrt (addf (Host.divf (broadcastInDim S8192x1 ![0] bcast_S8192_S8192x1_0 (Host.reduceAdd (mulf
    (refY a b w x) (refY a b w x)) (constant S_ .f32 0x00000000#32) reducesTo_S8192x2048_S8192_d1 h_S_))
    (broadcastInDim S8192x1 ![] bcast_S_S8192x1 (constant S_ .f32 0x45000000#32))) (broadcastInDim S8192x1 ![]
    bcast_S_S8192x1 (constant S_ .f32 0x358637BD#32)))))) (broadcastInDim S8192x2048 ![0, 1]
    bcast_S1x2048_S8192x2048_0_1 (broadcastInDim S1x2048 ![1] bcast_S2048_S1x2048_1 (shapeCast _
    (extractStridedSlice S1x2048 ![0, 0] g slices_S2x2048_S1x2048_0_0) shapeCasts_S1x2048_S2048))))
    bitsLt_bf16_f32

/-- The residual and the two parts' products, added: what the kernel computes. -/
def sumY : FVec Ideal S8192x2048 .f32 := fun i =>
  (x (ix2 (i 0) (i 1)) + ((∑ k : Fin 1024, (a (ix2 (i 0) k) * w (ix2 ⟨k, by omega⟩ (i 1)) : EReal))
    + ∑ k : Fin 1024, (b (ix2 (i 0) k) * w (ix2 ⟨1024 + k, by omega⟩ (i 1)) : EReal)) : EReal)

/-- The product of the two parts side by side is the sum of the products. -/
theorem refY_eq : refY a b w x = sumY a b w x := by
  funext i
  obtain ⟨r, e, rfl⟩ : ∃ (r : Fin 8192) (e : Fin 2048), i = ix2 r e := ⟨i 0, i 1, by
    funext d; match d with | ⟨0, _⟩ => rfl | ⟨1, _⟩ => rfl⟩
  unfold refY sumY
  pointwise

end Cert.OutEvenRefIdeal.Value

end
-- ==== Proof.OutEven.Final.lean ====
/- The result arrays of the even sublayer's output projection are the reference's. -/
module

public import proofs.«01_k».proof.Proof.Gen.OutEvenIdeal.Value
public import proofs.«01_k».proof.Proof.OutEven.Ref
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OutEvenIdeal.Value

open Cert.OutEvenIdeal Cert.OutEvenIdeal.Gen Cert.OutEvenRefIdeal.Value

variable (m : (ℓ : Loc nD τ sig) → Buf (Elt Ideal) ℓ)

/-- Where each window's block lies at a grid point. -/
theorem idx : ∀ t : Fin cfg0.N, win0_0.index t = ![t.val, 0] ∧ win0_1.index t = ![t.val, 0]
    ∧ win0_2.index t = ![0, 0] ∧ win0_3.index t = ![t.val, 0] ∧ win0_4.index t = ![0, 0]
    ∧ win0_5.index t = ![t.val, 0] ∧ win0_6.index t = ![t.val, 0] :=
  (by decide +kernel : ∀ t : Fin grid0.N, _)

/-- The gain's row, as the region finds it. -/
theorem gain_at (c : Dev nD) (j : Fin 2048) : V m c main_v2 (ix2 0 j) = m ((c : Thread nD τ).loc main_arg4) (ix2 0 j) := by
  unfold V
  simp only [List.flatten_cons, List.flatten_nil, List.append_nil, List.cons_append, List.nil_append, hostOps0]
  entry_read
  try simp -implicitDefEqProofs only [StableHlo.TRef.toBuf, StableHlo.TRef.ofBuf, cast_cast, cast_eq]
  pointwise

/-- Its block at a grid point. -/
theorem gblk_at (c : Dev nD) (t : Fin cfg0.N) (j : Fin 2048) :
    iblk m c 4 t (ix2 0 j) = m ((c : Thread nD τ).loc main_arg4) (ix2 0 j) := by
  refine Eq.trans ?_ (gain_at m c j)
  blk_ext [iblk, idx t]

/-- The first result array is the residual and the product. -/
theorem final5 (c : Dev nD) : (dats m 0 c).arrAt 5 (cfgs 0).N = refY (m ((c : Thread nD τ).loc main_arg0))
    (m ((c : Thread nD τ).loc main_arg1)) (m ((c : Thread nD τ).loc main_arg2)) (m ((c : Thread nD τ).loc main_arg3)) := by
  rw [refY_eq]
  refine (dats m 0 c).arrAt_eq_of_covers 5 _ (by decide +kernel) fun t hf y => ?_
  blk_simp
  rw [after0_5]
  unfold outsAt0
  frame_open
  simp (disch := decide) only [↓ View.readCov_skip, ↓ View.readCov_cons_toLoadRect, ↓ View.readCov_fill]
  frame_out
  canon_tiles w h
  all_goals
    open_payloads
    pointwise [sumY]
    blk_point [iblk, V_main_arg0, V_main_arg1, V_main_arg2, V_main_arg3, idx t]

/-- The second result array is its norm. -/
theorem final6 (c : Dev nD) : (dats m 0 c).arrAt 6 (cfgs 0).N = refH (m ((c : Thread nD τ).loc main_arg0))
    (m ((c : Thread nD τ).loc main_arg1)) (m ((c : Thread nD τ).loc main_arg2)) (m ((c : Thread nD τ).loc main_arg3))
    (m ((c : Thread nD τ).loc main_arg4)) := by
  unfold refH
  rw [refY_eq]
  refine (dats m 0 c).arrAt_eq_of_covers 6 _ (by decide +kernel) fun t hf y => ?_
  blk_simp
  rw [after0_6]
  unfold outsAt0
  frame_open
  simp (disch := decide) only [↓ View.readCov_skip, ↓ View.readCov_cons_toLoadRect, ↓ View.readCov_fill]
  frame_out
  canon_tiles w h
  all_goals
    open_payloads
    pointwise [sumY]
    refine congrArg₂ (· * ·) ?_ ((gblk_at m c t (w 1)).trans ?_)
    all_goals blk_point [iblk, V_main_arg0, V_main_arg1, V_main_arg2, V_main_arg3, idx t]

end Cert.OutEvenIdeal.Value

end
-- ==== Proof.OutEven.Claims.lean ====
/- The claims of the even sublayer's output projection. -/
module

public import proofs.«01_k».proof.Defs
public import proofs.«01_k».proof.Proof.Gen.OutEven.Frame
public import proofs.«01_k».proof.Proof.Gen.OutEvenIdeal.Frame
public import proofs.«01_k».proof.Proof.OutEven.Final
public import Idealize.ShloMosaic.Lib.Quiescent

@[expose] public section

noncomputable section

open Idealize.ShloMosaic Idealize.SL.Sem

namespace Cert.Proof.OutEvenClaims

/-- The kernel's program as written: it ends, with its arguments kept and every counter at zero. -/
theorem frame_p : Cert.quiescent_OutEven (hOutEven := Cert.OutEven.Gen.facts) := fun m ρ _ => Cert.OutEven.Gen.frame m ρ

/-- The same of the kernel over the extended reals. -/
theorem frame_pi : Cert.quiescent_OutEvenIdeal (hOutEvenIdeal := Cert.OutEvenIdeal.Gen.facts) := fun m ρ _ =>
  Cert.OutEvenIdeal.Gen.frame m ρ

/-- The same of the reference: it declares no semaphore. -/
theorem frame_ri : Cert.quiescent_OutEvenRefIdeal (hOutEvenRefIdeal := Cert.OutEvenRefIdeal.Gen.facts) := fun m ρ _ =>
  (θ_run Cert.OutEvenRefIdeal.defs _ _).mono (fun r h => ⟨fun c => (h c).2.2,
      Idealize.ShloMosaic.sem_eq_zero_of_no_sems (by decide) r.2⟩)
    (Cert.OutEvenRefIdeal.Value.run (F := Ideal) m ρ)

/-- Kernel and reference end with equal results over the extended reals. -/
theorem algebraic : Cert.algebraic_OutEvenIdeal_OutEvenRefIdeal (hOutEvenIdeal := Cert.OutEvenIdeal.Gen.facts)
    (hOutEvenRefIdeal := Cert.OutEvenRefIdeal.Gen.facts) := by
  intro m ρ m' ρ' _ hag
  refine ⟨fun c => (Cert.OutEvenIdeal.Gen.dats m 0 c).arrAt 5 Cert.OutEvenIdeal.cfg0.N,
    fun c => (Cert.OutEvenIdeal.Gen.dats m 0 c).arrAt 6 Cert.OutEvenIdeal.cfg0.N,
    Cert.OutEvenIdeal.Value.run_blocks (F := Ideal) m ρ, ?_⟩
  refine (θ_run Cert.OutEvenRefIdeal.defs _ _).mono (fun _ h c => ⟨(h c).1.trans ?_, (h c).2.1.trans ?_, (h c).2.2⟩)
    (Cert.OutEvenRefIdeal.Value.run (F := Ideal) m' ρ')
  · rw [(hag c).1, (hag c).2.1, (hag c).2.2.1, (hag c).2.2.2.1]
    exact (Cert.OutEvenIdeal.Value.final5 m c).symm
  · rw [(hag c).1, (hag c).2.1, (hag c).2.2.1, (hag c).2.2.2.1, (hag c).2.2.2.2]
    exact (Cert.OutEvenIdeal.Value.final6 m c).symm

end Cert.Proof.OutEvenClaims

end
-- ==== Proof.DownEven.Final.lean ====
/- The first layer's second product's result arrays are the reference's. -/
module

public import proofs.«01_k».proof.Proof.Gen.DownEvenIdeal.Value
public import proofs.«01_k».proof.Proof.Gen.DownEvenRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DownEvenIdeal.Value

open Cert.DownEvenIdeal Cert.DownEvenIdeal.Gen

/-- The reference's result: the residual and the product. -/
abbrev refDown (a : Vec Ideal S8192x5632 .bf16) (w : Vec Ideal S5632x2048 .bf16) (x : Vec Ideal S8192x2048 .f32) :
    FVec Ideal S8192x2048 .f32 :=
  addf x (Host.dotGeneral (φ₁ := .bf16) (φ₂ := .bf16) Cert.DownEvenRefIdeal.dot_S8192x5632_S5632x2048_S8192x2048_1_0_0_1_n_n none a w)

variable (m : (ℓ : Loc nD τ sig) → Buf (Elt Ideal) ℓ)

/-- The reference's second result: the next layer's weight, cast. -/
abbrev refCast (w : Vec Ideal S1x2048x6144 .f32) : FVec Ideal S2048x6144 .bf16 :=
  truncf .bf16 (shapeCast _ w Cert.DownEvenRefIdeal.Gen.facts.shapeCasts_S1x2048x6144_S2048x6144) Cert.DownEvenRefIdeal.Gen.facts.bitsLt_bf16_f32

/-- Where each window's block lies at a grid point: the columns' tile is the outer coordinate. -/
theorem idx : ∀ t : Fin cfg0.N, win0_0.index t = ![t.val % 16, 0] ∧ win0_1.index t = ![0, t.val / 16]
    ∧ win0_2.index t = ![t.val % 16, t.val / 16] ∧ win0_4.index t = ![t.val % 16, t.val / 16]
    ∧ win0_3.index t = ![0, t.val, 0] ∧ win0_5.index t = ![t.val, 0] :=
  (by decide +kernel : ∀ t : Fin grid0.N, _)

/-- The result array is the residual and the product. -/
theorem final4 (c : Dev nD) : (dats m 0 c).arrAt 4 (cfgs 0).N = refDown (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  frame_out
  pointwise [k0_pay1, refDown]
  blk_point [iblk, V_main_arg0, V_main_arg1, V_main_arg2, idx t]

/-- The second result array is the weight, cast. -/
theorem final5 (c : Dev nD) : (dats m 0 c).arrAt 5 (cfgs 0).N = refCast (m ((c : Thread nD τ).loc main_arg3)) := by
  refine (dats m 0 c).arrAt_eq_of_covers 5 _ (by decide +kernel) fun t hf y => ?_
  blk_simp
  rw [after0_5]
  frame_out
  pointwise [refCast]
  blk_point [iblk, V_main_arg3, idx t]

end Cert.DownEvenIdeal.Value

end
-- ==== Proof.DownEven.Claims.lean ====
/- The claims of the first layer's second product. -/
module

public import proofs.«01_k».proof.Defs
public import proofs.«01_k».proof.Proof.Gen.DownEven.Frame
public import proofs.«01_k».proof.Proof.Gen.DownEvenIdeal.Frame
public import proofs.«01_k».proof.Proof.DownEven.Final
public import Idealize.ShloMosaic.Lib.Quiescent

@[expose] public section

noncomputable section

open Idealize.ShloMosaic Idealize.SL.Sem

namespace Cert.Proof.DownEvenClaims

/-- The kernel's program as written: it ends, with its arguments kept and every counter at zero. -/
theorem frame_p : Cert.quiescent_DownEven (hDownEven := Cert.DownEven.Gen.facts) := fun m ρ _ => Cert.DownEven.Gen.frame m ρ

/-- The same of the kernel over the extended reals. -/
theorem frame_pi : Cert.quiescent_DownEvenIdeal (hDownEvenIdeal := Cert.DownEvenIdeal.Gen.facts) := fun m ρ _ =>
  Cert.DownEvenIdeal.Gen.frame m ρ

/-- The same of the reference: it declares no semaphore. -/
theorem frame_ri : Cert.quiescent_DownEvenRefIdeal (hDownEvenRefIdeal := Cert.DownEvenRefIdeal.Gen.facts) := fun m ρ _ =>
  (θ_run Cert.DownEvenRefIdeal.defs _ _).mono (fun r h => ⟨fun c => (h c).2.2,
      Idealize.ShloMosaic.sem_eq_zero_of_no_sems (by decide) r.2⟩)
    (Cert.DownEvenRefIdeal.Value.run (F := Ideal) m ρ)

/-- Kernel and reference end with equal results over the extended reals. -/
theorem algebraic : Cert.algebraic_DownEvenIdeal_DownEvenRefIdeal (hDownEvenIdeal := Cert.DownEvenIdeal.Gen.facts)
    (hDownEvenRefIdeal := Cert.DownEvenRefIdeal.Gen.facts) := by
  intro m ρ m' ρ' _ hag
  refine ⟨fun c => (Cert.DownEvenIdeal.Gen.dats m 0 c).arrAt 4 Cert.DownEvenIdeal.cfg0.N,
    fun c => (Cert.DownEvenIdeal.Gen.dats m 0 c).arrAt 5 Cert.DownEvenIdeal.cfg0.N,
    Cert.DownEvenIdeal.Value.run_blocks (F := Ideal) m ρ, ?_⟩
  refine (θ_run Cert.DownEvenRefIdeal.defs _ _).mono (fun _ h c => ⟨(h c).1.trans ?_, (h c).2.1.trans ?_, (h c).2.2⟩)
    (Cert.DownEvenRefIdeal.Value.run (F := Ideal) m' ρ')
  · rw [(hag c).1, (hag c).2.1, (hag c).2.2.1]
    exact (Cert.DownEvenIdeal.Value.final4 m c).symm
  · rw [(hag c).2.2.2]
    exact (Cert.DownEvenIdeal.Value.final5 m c).symm

end Cert.Proof.DownEvenClaims

end
-- ==== Proof.In.Chunk.lean ====
/- What each grid point of the odd sublayer's input projection leaves, from its blocks and the normed rows. -/
module

public import proofs.«01_k».proof.Proof.Gen.InIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.InIdeal.Value

open Cert.InIdeal Cert.InIdeal.Gen

variable {F : FTy → Type} [FloatOps F]
variable (m : (ℓ : Loc nD τ sig) → Buf (Elt F) ℓ)

/-- A row group lies in the block. -/
theorem inb_rows (n : ℕ) : ∀ a, (![256 * (n % 4), 0] : Fin 2 → ℕ) a + (![256, 2048] : Fin 2 → ℕ) a ≤ S1024x2048.size a := by
  have := Nat.mod_lt n (show 0 < 4 by decide)
  intro a
  match a with
  | 0 => show 256 * (n % 4) + 256 ≤ 1024; omega
  | 1 => show 0 + 2048 ≤ 2048; omega

/-- A row group of a block. -/
def rowsI {e : EltTy} (X : Vec F S1024x2048 e) (n : ℕ) : Vec F S256x2048 e :=
  View.ld X (Rect.unit ![256 * (n % 4), 0] ![256, 2048] (inb_rows n))

/-- A row group, normed. -/
def hnI (X : Vec F S1024x2048 .f32) (g : Vec F S1x2048 .f32) (n : ℕ) : FVec F S256x2048 .bf16 :=
  k0_pay2 (rowsI X n) g

/-- One head of a product, normed. -/
def headC (a : Vec F S1x256x2048 .f32) (o : ℕ) (ho : S256x2048.Slices ![0, o] S256x128) : FVec F S256x128 .f32 :=
  have a' : FVec F S256x2048 .f32 := shapeCast S256x2048 a shapeCasts_S1x256x2048_S256x2048
  have s : FVec F S256x128 .f32 := extractStridedSlice S256x128 ![0, o] a' ho
  mulf s (broadcastTo S256x128 (rsqrt (addf (divf (shapeCast S256x1 (multiReduction .add [1] S256 (mulf s s) 0x00000000#32
    reduces_S256x128_S256 (.inl rfl) rfl) shapeCasts_S256_S256x1) (broadcast S256x1 (Scalar.ofBits .f32 0x43000000#32)))
    (broadcast S256x1 (Scalar.ofBits .f32 0x358637BD#32)))) broadcasts_S256x1_S256x128)

/-- All heads of a product, normed, side by side. -/
def catC (a : Vec F S1x256x2048 .f32) : FVec F S256x2048 .f32 :=
  concatenate S256x2048 1 [⟨S256x128, headC a 0 slices_S256x2048_o0_0_S256x128⟩, ⟨S256x128, headC a 128 slices_S256x2048_o0_128_S256x128⟩, ⟨S256x128, headC a 256 slices_S256x2048_o0_256_S256x128⟩, ⟨S256x128, headC a 384 slices_S256x2048_o0_384_S256x128⟩, ⟨S256x128, headC a 512 slices_S256x2048_o0_512_S256x128⟩, ⟨S256x128, headC a 640 slices_S256x2048_o0_640_S256x128⟩, ⟨S256x128, headC a 768 slices_S256x2048_o0_768_S256x128⟩, ⟨S256x128, headC a 896 slices_S256x2048_o0_896_S256x128⟩, ⟨S256x128, headC a 1024 slices_S256x2048_o0_1024_S256x128⟩, ⟨S256x128, headC a 1152 slices_S256x2048_o0_1152_S256x128⟩, ⟨S256x128, headC a 1280 slices_S256x2048_o0_1280_S256x128⟩, ⟨S256x128, headC a 1408 slices_S256x2048_o0_1408_S256x128⟩, ⟨S256x128, headC a 1536 slices_S256x2048_o0_1536_S256x128⟩, ⟨S256x128, headC a 1664 slices_S256x2048_o0_1664_S256x128⟩, ⟨S256x128, headC a 1792 slices_S256x2048_o0_1792_S256x128⟩, ⟨S256x128, headC a 1920 slices_S256x2048_o0_1920_S256x128⟩]
    concatenates_S256x128_S256x128_S256x128_S256x128_S256x128_S256x128_S256x128_S256x128_S256x128_S256x128_S256x128_S256x128_S256x128_S256x128_S256x128_S256x128_S256x2048_d1

/-- The same times the gain. -/
def headsC (a : Vec F S1x256x2048 .f32) (g : Vec F S1x2048 .f32) : FVec F S256x2048 .bf16 :=
  truncf .bf16 (mulf (catC a) (broadcastTo S256x2048 (shapeCast S1x2048 g shapeCasts_S1x2048_S1x2048)
    broadcasts_S1x2048_S256x2048)) bitsLt_bf16_f32

/-- A row group's result from its normed rows, the weight columns and the gain. -/
def tileI (h : Vec F S256x2048 .bf16) (w : Vec F S2048x2048 .bf16) (g : Vec F S1x2048 .f32) : FVec F S256x2048 .bf16 :=
  headsC (k0_pay4 h w) g

set_option maxHeartbeats 4000000 in
/-- At the first column of a row block: the result. -/
theorem outA_eq (c : Dev nD) (t : Fin cfg0.N) (h0 : t.val % 3 = 0) (h1 : ¬t.val % 3 = 1) (h2 : ¬t.val % 3 = 2) (y : S1024x2048.Idx) (n : Fin 4)
    (x : S256x2048.Idx) (hy0 : (y 0 : ℕ) = 256 * n + x 0) (hy1 : (y 1 : ℕ) = x 1) :
    (outsAt0 m c t.val t.isLt).1 y = tileI (hnI (iblk m c 0 t) (iblk m c 1 t) n) (iblk m c 2 t) (iblk m c 3 t) x := by
  rw [outsAt0_A m c t h0 h1 h2]
  dsimp only
  unfold out0_A_4
  frame_open
  simp (disch := decide) only [↓ View.readCov_skip, ↓ View.readCov_cons_toLoadRect, ↓ View.readCov_fill]
  frame_out
  have hx0 : (x 0 : ℕ) < 256 := (x 0).isLt
  canon_tiles w h
  case piece0 =>
    obtain rfl : n = 3 := by ext; show (n : ℕ) = 3; omega
    obtain rfl : x = w := by funext a; match a with | 0 => ext; omega | 1 => ext; omega
    rfl
  case piece1 =>
    obtain rfl : n = 2 := by ext; show (n : ℕ) = 2; omega
    obtain rfl : x = w := by funext a; match a with | 0 => ext; omega | 1 => ext; omega
    rfl
  case piece2 =>
    obtain rfl : n = 1 := by ext; show (n : ℕ) = 1; omega
    obtain rfl : x = w := by funext a; match a with | 0 => ext; omega | 1 => ext; omega
    rfl
  case piece3 =>
    obtain rfl : n = 0 := by ext; show (n : ℕ) = 0; omega
    obtain rfl : x = w := by funext a; match a with | 0 => ext; omega | 1 => ext; omega
    rfl

set_option maxHeartbeats 4000000 in
/-- And the normed rows, kept for the later columns. -/
theorem hnA_eq (c : Dev nD) (t : Fin cfg0.N) (h0 : t.val % 3 = 0) (h1 : ¬t.val % 3 = 1) (h2 : ¬t.val % 3 = 2) (y : S1024x2048.Idx) (n : Fin 4)
    (x : S256x2048.Idx) (hy0 : (y 0 : ℕ) = 256 * n + x 0) (hy1 : (y 1 : ℕ) = x 1) :
    (outsAt0 m c t.val t.isLt).2 y = hnI (iblk m c 0 t) (iblk m c 1 t) n x := by
  rw [outsAt0_A m c t h0 h1 h2]
  dsimp only
  unfold sout0_A_0
  frame_open
  simp (disch := decide) only [↓ View.readCov_skip, ↓ View.readCov_cons_toLoadRect, ↓ View.readCov_fill]
  frame_out
  have hx0 : (x 0 : ℕ) < 256 := (x 0).isLt
  canon_tiles w h
  case piece0 =>
    obtain rfl : n = 3 := by ext; show (n : ℕ) = 3; omega
    obtain rfl : x = w := by funext a; match a with | 0 => ext; omega | 1 => ext; omega
    rfl
  case piece1 =>
    obtain rfl : n = 2 := by ext; show (n : ℕ) = 2; omega
    obtain rfl : x = w := by funext a; match a with | 0 => ext; omega | 1 => ext; omega
    rfl
  case piece2 =>
    obtain rfl : n = 1 := by ext; show (n : ℕ) = 1; omega
    obtain rfl : x = w := by funext a; match a with | 0 => ext; omega | 1 => ext; omega
    rfl
  case piece3 =>
    obtain rfl : n = 0 := by ext; show (n : ℕ) = 0; omega
    obtain rfl : x = w := by funext a; match a with | 0 => ext; omega | 1 => ext; omega
    rfl

set_option maxHeartbeats 4000000 in
/-- At the second column: the result from the rows kept. -/
theorem outB_eq (c : Dev nD) (t : Fin cfg0.N) (h0 : ¬t.val % 3 = 0) (h1 : t.val % 3 = 1) (h2 : ¬t.val % 3 = 2) (y : S1024x2048.Idx) (n : Fin 4)
    (x : S256x2048.Idx) (hy0 : (y 0 : ℕ) = 256 * n + x 0) (hy1 : (y 1 : ℕ) = x 1) :
    (outsAt0 m c t.val t.isLt).1 y = tileI (rowsI (outsAt0 m c (t.val - 1) (by omega)).2 n) (iblk m c 2 t) (iblk m c 3 t) x := by
  rw [outsAt0_B m c t h0 h1 h2]
  dsimp only
  unfold out0_B_4
  frame_open
  simp (disch := decide) only [↓ View.readCov_skip, ↓ View.readCov_cons_toLoadRect, ↓ View.readCov_fill]
  frame_out
  simp only [read_unread_whole]
  have hx0 : (x 0 : ℕ) < 256 := (x 0).isLt
  canon_tiles w h
  case piece0 =>
    obtain rfl : n = 3 := by ext; show (n : ℕ) = 3; omega
    obtain rfl : x = w := by funext a; match a with | 0 => ext; omega | 1 => ext; omega
    rfl
  case piece1 =>
    obtain rfl : n = 2 := by ext; show (n : ℕ) = 2; omega
    obtain rfl : x = w := by funext a; match a with | 0 => ext; omega | 1 => ext; omega
    rfl
  case piece2 =>
    obtain rfl : n = 1 := by ext; show (n : ℕ) = 1; omega
    obtain rfl : x = w := by funext a; match a with | 0 => ext; omega | 1 => ext; omega
    rfl
  case piece3 =>
    obtain rfl : n = 0 := by ext; show (n : ℕ) = 0; omega
    obtain rfl : x = w := by funext a; match a with | 0 => ext; omega | 1 => ext; omega
    rfl

/-- The second column keeps the normed rows. -/
theorem hnB_eq (c : Dev nD) (t : Fin cfg0.N) (h0 : ¬t.val % 3 = 0) (h1 : t.val % 3 = 1) (h2 : ¬t.val % 3 = 2) :
    (outsAt0 m c t.val t.isLt).2 = (outsAt0 m c (t.val - 1) (Nat.lt_of_le_of_lt (Nat.sub_le _ _) t.isLt)).2 := by
  rw [outsAt0_B m c t h0 h1 h2]
  rfl

/-- At the third column: the plain product of the rows kept. -/
theorem outC_eq (c : Dev nD) (t : Fin cfg0.N) (h0 : ¬t.val % 3 = 0) (h1 : ¬t.val % 3 = 1) (h2 : t.val % 3 = 2)
    (y : S1024x2048.Idx) :
    (outsAt0 m c t.val t.isLt).1 y
      = k0_pay1 (outsAt0 m c (t.val - 1) (Nat.lt_of_le_of_lt (Nat.sub_le _ _) t.isLt)).2 (iblk m c 2 t) y := by
  rw [outsAt0_C m c t h0 h1 h2]
  dsimp only
  unfold out0_C_4
  frame_open
  simp (disch := decide) only [↓ View.readCov_skip, ↓ View.readCov_cons_toLoadRect, ↓ View.readCov_fill]
  frame_out
  simp only [read_unread_whole]

end Cert.InIdeal.Value

end
-- ==== Proof.In.Spec.lean ====
/- The odd sublayer's norm, projection and head norm over the extended reals. -/
module

public import Idealize.ShloMosaic.PureOps
public import Idealize.ShloMosaic.Lib.Pointwise

@[expose] public section

noncomputable section

open Idealize.ShloMosaic

namespace Cert.InSpec

/-- A row divided by its root mean square, times the gain. -/
def hnS (x g : Fin 2048 → EReal) (k : Fin 2048) : EReal :=
  x k * Ideal.rsqrt (Ideal.div (∑ j : Fin 2048, x j * x j) (Ideal.ofBits FTy.f32 1157627904#32) + Ideal.ofBits FTy.f32 897988541#32) * g k

/-- The product of a row and a column. -/
def mmS (h w : Fin 2048 → EReal) : EReal := ∑ k : Fin 2048, h k * w k

/-- A head divided by its root mean square. -/
def headS (a : Fin 128 → EReal) (d : Fin 128) : EReal :=
  a d * Ideal.rsqrt (Ideal.div (∑ j : Fin 128, a j * a j) (Ideal.ofBits FTy.f32 1124073472#32) + Ideal.ofBits FTy.f32 897988541#32)

end Cert.InSpec

end
-- ==== Proof.In.Kern.lean ====
/- What a grid point of the odd sublayer's input projection computes, read at an index over the extended reals. -/
module

public import proofs.«01_k».proof.Proof.In.Chunk
public import proofs.«01_k».proof.Proof.In.Spec

@[expose] public section

set_option maxRecDepth 16384

noncomputable section

open Idealize.ShloMosaic Idealize.ShloMosaic.TcCoe Idealize.SL.Sem

namespace Cert.InIdeal.Value

open Cert.InIdeal Cert.InIdeal.Gen Cert.InSpec

/-- A row group's normed rows at an index. -/
theorem hnI_at (X : Vec Ideal S1024x2048 .f32) (g : Vec Ideal S1x2048 .f32) (n : ℕ) (hn : n < 4) (i : Fin 256)
    (r : Fin 1024) (hr : (r : ℕ) = 256 * n + i) (k : Fin 2048) :
    hnI X g n (ix2 i k) = hnS (fun k => X (ix2 r k)) (fun k => g (ix2 0 k)) k := by
  have e : (⟨256 * (n % 4) + i, by omega⟩ : Fin 1024) = r := Fin.ext (by show 256 * (n % 4) + (i : ℕ) = r; omega)
  unfold hnS
  rw [← e]
  pointwise [hnI, k0_pay2, rowsI]

/-- A product at an index. -/
theorem mmI_at (h : Vec Ideal S256x2048 .bf16) (w : Vec Ideal S2048x2048 .bf16) (i : Fin 256) (e : Fin 2048) :
    k0_pay4 h w (ix3 0 i e) = mmS (fun k => h (ix2 i k)) (fun k => w (ix2 k e)) := by
  unfold mmS
  pointwise [k0_pay4]

/-- The plain product at an index. -/
theorem mmV_at (h : Vec Ideal S1024x2048 .bf16) (w : Vec Ideal S2048x2048 .bf16) (i : Fin 1024) (e : Fin 2048) :
    k0_pay1 h w (ix2 i e) = mmS (fun k => h (ix2 i k)) (fun k => w (ix2 k e)) := by
  unfold mmS
  pointwise [k0_pay1]

/-- One head, normed, at an index. -/
theorem headC_at (a : Vec Ideal S1x256x2048 .f32) (o : ℕ) (ho : S256x2048.Slices ![0, o] S256x128) (hl : o + 128 ≤ 2048)
    (i : Fin 256) (d : Fin 128) (E : Fin 128 → Fin 2048) (hE : ∀ d, (E d : ℕ) = o + d) :
    headC a o ho (ix2 i d) = headS (fun d => a (ix3 0 i (E d))) d := by
  obtain rfl : E = fun d => ⟨o + d, by omega⟩ := funext fun d => Fin.ext (hE d)
  unfold headS
  pointwise [headC]

/-- A head's columns lie in the product. -/
theorem slicesH : ∀ h : Fin 16, S256x2048.Slices ![0, 128 * (h : ℕ)] S256x128 := by decide

/-- Sixteen pieces side by side at an index. -/
theorem cat_at (A : Fin 16 → FVec Ideal S256x128 .f32) (i : Fin 256) (e : Fin 2048) (h : Fin 16)
    (d : Fin 128) (he : (e : ℕ) = 128 * h + d) :
    concatenate S256x2048 1 [⟨S256x128, A 0⟩, ⟨S256x128, A 1⟩, ⟨S256x128, A 2⟩, ⟨S256x128, A 3⟩, ⟨S256x128, A 4⟩, ⟨S256x128, A 5⟩, ⟨S256x128, A 6⟩, ⟨S256x128, A 7⟩, ⟨S256x128, A 8⟩, ⟨S256x128, A 9⟩, ⟨S256x128, A 10⟩, ⟨S256x128, A 11⟩, ⟨S256x128, A 12⟩, ⟨S256x128, A 13⟩, ⟨S256x128, A 14⟩, ⟨S256x128, A 15⟩]
      concatenates_S256x128_S256x128_S256x128_S256x128_S256x128_S256x128_S256x128_S256x128_S256x128_S256x128_S256x128_S256x128_S256x128_S256x128_S256x128_S256x128_S256x2048_d1 (ix2 i e) = A h (ix2 i d) :=
  concatenate_ofFn_apply (t := S256x2048) (s₁ := S256x128) 1 A concatenates_S256x128_S256x128_S256x128_S256x128_S256x128_S256x128_S256x128_S256x128_S256x128_S256x128_S256x128_S256x128_S256x128_S256x128_S256x128_S256x128_S256x2048_d1
    rfl 128 rfl (ix2 i e) h (by show (e : ℕ) / 128 = h; omega) (ix2 i d) (by show (d : ℕ) = e % 128; omega)
    (fun b hb => by match b with | 0 => rfl | 1 => exact absurd rfl hb)

/-- The heads side by side at an index. -/
theorem catC_at (a : Vec Ideal S1x256x2048 .f32) (i : Fin 256) (e : Fin 2048) (h : Fin 16)
    (d : Fin 128) (he : (e : ℕ) = 128 * h + d) (E : Fin 128 → Fin 2048) (hE : ∀ d, (E d : ℕ) = 128 * h + d) :
    catC a (ix2 i e) = headS (fun d => a (ix3 0 i (E d))) d := by
  have hh := h.isLt
  exact (cat_at (fun h => headC a (128 * h) (slicesH h)) i e h d he).trans (headC_at a (128 * h) _ (by omega) i d E hE)

/-- A row group's result at an index. -/
theorem tileI_at (h : Vec Ideal S256x2048 .bf16) (w : Vec Ideal S2048x2048 .bf16) (g : Vec Ideal S1x2048 .f32)
    (i : Fin 256) (e : Fin 2048) (j : Fin 16)
    (d : Fin 128) (he : (e : ℕ) = 128 * j + d) (E : Fin 128 → Fin 2048) (hE : ∀ d, (E d : ℕ) = 128 * j + d) :
    tileI h w g (ix2 i e) = headS (fun d => mmS (fun k => h (ix2 i k)) (fun k => w (ix2 k (E d)))) d * g (ix2 0 e) := by
  have hc := catC_at (k0_pay4 h w) i e j d he E hE
  simp only [mmI_at] at hc
  rw [← hc]
  unfold tileI headsC
  generalize catC (k0_pay4 h w) = C
  pointwise

end Cert.InIdeal.Value

end
-- ==== Proof.In.Ref.lean ====
/- What the reference of the odd sublayer's input projection computes. -/
module

public import proofs.«01_k».proof.Proof.Gen.InRefIdeal.Run
public import proofs.«01_k».proof.Proof.In.Spec
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InRefIdeal.Value

open Cert.InRefIdeal Cert.InRefIdeal.Gen Cert.InSpec

/-- The norm before the projection. -/
def hnR (x : Vec Ideal S8192x2048 .f32) (g : Vec Ideal S2x2048 .f32) : FVec Ideal S8192x2048 .bf16 :=
  truncf .bf16 (mulf (mulf x (broadcastInDim S8192x2048 ![0, 1] bcast_S8192x1_S8192x2048_0_1
    (Host.rsqrt (addf (Host.divf (broadcastInDim S8192x1 ![0] bcast_S8192_S8192x1_0 (Host.reduceAdd (mulf x x)
    (constant S_ .f32 0x00000000#32) reducesTo_S8192x2048_S8192_d1 h_S_)) (broadcastInDim S8192x1 ![] bcast_S_S8192x1
    (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
    (shapeCast _ (extractStridedSlice S1x2048 ![1, 0] g slices_S2x2048_S1x2048_1_0) shapeCasts_S1x2048_S2048))))
    bitsLt_bf16_f32

/-- The projection, by part, head and position in the head. -/
def prR (h : Vec Ideal S8192x2048 .bf16) (w : Vec Ideal S2048x6144 .bf16) : FVec Ideal S8192x3x16x128 .f32 :=
  shapeCast _ (Host.dotGeneral (φ₁ := .bf16) (φ₂ := .bf16) dot_S8192x2048_S2048x6144_S8192x6144_1_0_0_1_n_n none h w)
    shapeCasts_S8192x6144_S8192x3x16x128

/-- The head norm. -/
def headR (q : FVec Ideal S8192x16x128 .f32) : FVec Ideal S8192x16x128 .f32 :=
  mulf q (broadcastInDim S8192x16x128 ![0, 1, 2] bcast_S8192x16x1_S8192x16x128_0_1_2 (Host.rsqrt (addf (Host.divf
    (broadcastInDim S8192x16x1 ![0, 1] bcast_S8192x16_S8192x16x1_0_1 (Host.reduceAdd (mulf q q)
    (constant S_ .f32 0x00000000#32) reducesTo_S8192x16x128_S8192x16_d2 h_S_)) (broadcastInDim S8192x16x1 ![]
    bcast_S_S8192x16x1 (constant S_ .f32 0x43000000#32))) (broadcastInDim S8192x16x1 ![] bcast_S_S8192x16x1
    (constant S_ .f32 0x358637BD#32)))))

/-- A head's gain, for every row and head. -/
def gainR (g : Vec Ideal S1x128 .f32) : FVec Ideal S8192x16x128 .f32 :=
  broadcastInDim S8192x16x128 ![0, 1, 2] bcast_S1x1x128_S8192x16x128_0_1_2 (broadcastInDim S1x1x128 ![2]
    bcast_S128_S1x1x128_2 (shapeCast _ g shapeCasts_S1x128_S128))

/-- The queries. -/
def qR (p : FVec Ideal S8192x3x16x128 .f32) (g : Vec Ideal S1x128 .f32) : FVec Ideal S8192x16x128 .f32 :=
  mulf (mulf (headR (shapeCast _ (extractStridedSlice S8192x1x16x128 ![0, 0, 0, 0] p
    slices_S8192x3x16x128_S8192x1x16x128_0_0_0_0) shapeCasts_S8192x1x16x128_S8192x16x128)) (gainR g))
    (broadcastInDim S8192x16x128 ![] bcast_S_S8192x16x128 (constant S_ .f32 0x3E0293EE#32))

/-- The keys. -/
def kR (p : FVec Ideal S8192x3x16x128 .f32) (g : Vec Ideal S1x128 .f32) : FVec Ideal S8192x16x128 .f32 :=
  mulf (headR (shapeCast _ (extractStridedSlice S8192x1x16x128 ![0, 1, 0, 0] p
    slices_S8192x3x16x128_S8192x1x16x128_0_1_0_0) shapeCasts_S8192x1x16x128_S8192x16x128)) (gainR g)

/-- The values. -/
def vR (p : FVec Ideal S8192x3x16x128 .f32) : FVec Ideal S8192x16x128 .f32 :=
  shapeCast _ (extractStridedSlice S8192x1x16x128 ![0, 2, 0, 0] p
    slices_S8192x3x16x128_S8192x1x16x128_0_2_0_0) shapeCasts_S8192x1x16x128_S8192x16x128

/-- Queries, keys and values side by side. -/
def catR (q k v : FVec Ideal S8192x16x128 .f32) : FVec Ideal S8192x6144 .bf16 :=
  truncf .bf16 (shapeCast _ (concatenate S8192x3x16x128 1
    [⟨S8192x1x16x128, broadcastInDim S8192x1x16x128 ![0, 2, 3] bcast_S8192x16x128_S8192x1x16x128_0_2_3 q⟩,
     ⟨S8192x1x16x128, broadcastInDim S8192x1x16x128 ![0, 2, 3] bcast_S8192x16x128_S8192x1x16x128_0_2_3 k⟩,
     ⟨S8192x1x16x128, broadcastInDim S8192x1x16x128 ![0, 2, 3] bcast_S8192x16x128_S8192x1x16x128_0_2_3 v⟩]
    concatenates_S8192x1x16x128_S8192x1x16x128_S8192x1x16x128_S8192x3x16x128_d1) shapeCasts_S8192x3x16x128_S8192x6144)
    bitsLt_bf16_f32

/-- The reference's result. -/
def inR (x : Vec Ideal S8192x2048 .f32) (g : Vec Ideal S2x2048 .f32) (w : Vec Ideal S2048x6144 .bf16)
    (qn kn : Vec Ideal S1x128 .f32) : FVec Ideal S8192x6144 .bf16 :=
  catR (qR (prR (hnR x g) w) qn) (kR (prR (hnR x g) w) kn) (vR (prR (hnR x g) w))

variable (m : (ℓ : Loc nD τ sig) → Buf (Elt Ideal) ℓ)

/-- The run's result is that. -/
theorem res_eq (c : Dev nD) : res_main_v59 m c = inR (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := by
  unfold res_main_v59
  rfl

variable (x : Vec Ideal S8192x2048 .f32) (g : Vec Ideal S2x2048 .f32) (w : Vec Ideal S2048x6144 .bf16)
  (qn kn : Vec Ideal S1x128 .f32)

/-- The norm at an index. -/
theorem hnR_at (r : Fin 8192) (k : Fin 2048) :
    hnR x g (ix2 r k) = hnS (fun k => x (ix2 r k)) (fun k => g (ix2 1 k)) k := by
  unfold hnS
  pointwise [hnR]

/-- The projection at an index. -/
theorem prR_at (r : Fin 8192) (j : Fin 3) (h : Fin 16) (d : Fin 128) (e : Fin 6144)
    (he : (e : ℕ) = j * 2048 + h * 128 + d) :
    prR (hnR x g) w (ix4 r j h d)
      = mmS (hnS (fun k => x (ix2 r k)) (fun k => g (ix2 1 k))) (fun k => w (ix2 k e)) := by
  have hn := hnR_at x g
  generalize hnR x g = H at hn
  unfold mmS
  simp only [← hn]
  pointwise [prR]
  refine Finset.sum_congr rfl fun k _ => ?_
  have e' : (⟨j * 2048 + h * 128 + d, by omega⟩ : Fin 6144) = e := Fin.ext he.symm
  rw [e']

/-- The head norm at an index. -/
theorem headR_at (q : FVec Ideal S8192x16x128 .f32) (r : Fin 8192) (h : Fin 16) (d : Fin 128) :
    headR q (ix3 r h d) = headS (fun d => q (ix3 r h d)) d := by
  unfold headS
  pointwise [headR]

/-- The gain at an index. -/
theorem gainR_at (g : Vec Ideal S1x128 .f32) (r : Fin 8192) (h : Fin 16) (d : Fin 128) :
    gainR g (ix3 r h d) = g (ix2 0 d) := by
  pointwise [gainR]

/-- The parts side by side, at an index of the first. -/
theorem catR_q (q k v : FVec Ideal S8192x16x128 .f32) (r : Fin 8192) (h : Fin 16) (d : Fin 128) (e : Fin 6144)
    (he : (e : ℕ) = h * 128 + d) : catR q k v (ix2 r e) = q (ix3 r h d) := by
  pointwise [catR]
  have h1 : (e : ℕ) / 128 % 16 = h := by omega
  have h2 : (e : ℕ) % 128 = d := by omega
  simp only [h1, h2, Fin.eta]
  rw [dif_pos (by omega)]

/-- At an index of the second. -/
theorem catR_k (q k v : FVec Ideal S8192x16x128 .f32) (r : Fin 8192) (h : Fin 16) (d : Fin 128) (e : Fin 6144)
    (he : (e : ℕ) = 2048 + h * 128 + d) : catR q k v (ix2 r e) = k (ix3 r h d) := by
  pointwise [catR]
  have h1 : (e : ℕ) / 128 % 16 = h := by omega
  have h2 : (e : ℕ) % 128 = d := by omega
  simp only [h1, h2, Fin.eta]
  rw [dif_neg (by omega), dif_pos (by omega)]

/-- At an index of the third. -/
theorem catR_v (q k v : FVec Ideal S8192x16x128 .f32) (r : Fin 8192) (h : Fin 16) (d : Fin 128) (e : Fin 6144)
    (he : (e : ℕ) = 4096 + h * 128 + d) : catR q k v (ix2 r e) = v (ix3 r h d) := by
  pointwise [catR]
  have h1 : (e : ℕ) / 128 % 16 = h := by omega
  have h2 : (e : ℕ) % 128 = d := by omega
  simp only [h1, h2, Fin.eta]
  rw [dif_neg (by omega), dif_neg (by omega)]

/-- A part's entry at an index. -/
theorem part_q (p : FVec Ideal S8192x3x16x128 .f32) (g : Vec Ideal S1x128 .f32) (r : Fin 8192) (h : Fin 16) (d : Fin 128) :
    qR p g (ix3 r h d) = headS (fun d => p (ix4 r 0 h d)) d * g (ix2 0 d) * Ideal.ofBits FTy.f32 1040356334#32 := by
  unfold qR
  refine congrArg₂ (· * ·) (congrArg₂ (· * ·) ((headR_at _ r h d).trans ?_) (gainR_at g r h d)) ?_
  · congr 1
    funext d
    pointwise
  · pointwise

/-- The same of the keys. -/
theorem part_k (p : FVec Ideal S8192x3x16x128 .f32) (g : Vec Ideal S1x128 .f32) (r : Fin 8192) (h : Fin 16) (d : Fin 128) :
    kR p g (ix3 r h d) = headS (fun d => p (ix4 r 1 h d)) d * g (ix2 0 d) := by
  unfold kR
  refine congrArg₂ (· * ·) ((headR_at _ r h d).trans ?_) (gainR_at g r h d)
  congr 1
  funext d
  pointwise

/-- The same of the values. -/
theorem part_v (p : FVec Ideal S8192x3x16x128 .f32) (r : Fin 8192) (h : Fin 16) (d : Fin 128) :
    vR p (ix3 r h d) = p (ix4 r 2 h d) := by
  pointwise [vR]

/-- The queries' columns of the result. -/
theorem inR_q (r : Fin 8192) (h : Fin 16) (d : Fin 128) (e : Fin 6144) (he : (e : ℕ) = h * 128 + d)
    (E : Fin 128 → Fin 6144) (hE : ∀ d, (E d : ℕ) = h * 128 + d) :
    inR x g w qn kn (ix2 r e) = headS (fun d => mmS (hnS (fun k => x (ix2 r k)) (fun k => g (ix2 1 k)))
      (fun k => w (ix2 k (E d)))) d * qn (ix2 0 d) * Ideal.ofBits FTy.f32 1040356334#32 := by
  unfold inR
  rw [catR_q _ _ _ r h d e he, part_q]
  simp only [fun d => prR_at x g w r 0 h d (E d) (by have := hE d; simpa using this)]

/-- The keys' columns. -/
theorem inR_k (r : Fin 8192) (h : Fin 16) (d : Fin 128) (e : Fin 6144) (he : (e : ℕ) = 2048 + h * 128 + d)
    (E : Fin 128 → Fin 6144) (hE : ∀ d, (E d : ℕ) = 2048 + h * 128 + d) :
    inR x g w qn kn (ix2 r e) = headS (fun d => mmS (hnS (fun k => x (ix2 r k)) (fun k => g (ix2 1 k)))
      (fun k => w (ix2 k (E d)))) d * kn (ix2 0 d) := by
  unfold inR
  rw [catR_k _ _ _ r h d e he, part_k]
  simp only [fun d => prR_at x g w r 1 h d (E d) (by have := hE d; simpa using this)]

/-- The values' columns. -/
theorem inR_v (r : Fin 8192) (e : Fin 6144) (he : 4096 ≤ (e : ℕ)) :
    inR x g w qn kn (ix2 r e) = mmS (hnS (fun k => x (ix2 r k)) (fun k => g (ix2 1 k))) (fun k => w (ix2 k e)) := by
  have hl := e.isLt
  unfold inR
  rw [catR_v _ _ _ r ⟨(e - 4096) / 128, by omega⟩ ⟨(e - 4096) % 128, by omega⟩ e
    (by show (e : ℕ) = 4096 + (e - 4096) / 128 * 128 + (e - 4096) % 128; omega), part_v]
  exact prR_at x g w r 2 _ _ e
    (by show (e : ℕ) = 2 * 2048 + (e - 4096) / 128 * 128 + (e - 4096) % 128; omega)

end Cert.InRefIdeal.Value

end
-- ==== Proof.In.Final.lean ====
/- The result array of the odd sublayer's input projection is the reference's. -/
module

public import proofs.«01_k».proof.Proof.In.Kern
public import proofs.«01_k».proof.Proof.In.Ref
public import Idealize.ShloMosaic.Lib.Claim

@[expose] public section

set_option maxRecDepth 16384

noncomputable section

open Idealize.ShloMosaic Idealize.ShloMosaic.TcCoe Idealize.SL.Sem

namespace Cert.InIdeal.Value

open Cert.InIdeal Cert.InIdeal.Gen Cert.InSpec
open Cert.InRefIdeal.Value (inR inR_q inR_k inR_v)

variable (m : (ℓ : Loc nD τ sig) → Buf (Elt Ideal) ℓ)

/-- Where each window's block lies at a grid point. -/
theorem idx : ∀ t : Fin cfg0.N, win0_0.index t = ![t.val / 3, 0] ∧ win0_1.index t = ![0, 0]
    ∧ win0_2.index t = ![0, t.val % 3] ∧ win0_3.index t = ![0, min (t.val % 3) 1]
    ∧ win0_4.index t = ![t.val / 3, t.val % 3] :=
  (by decide +kernel : ∀ t : Fin grid0.N, _)

/-- The gain of the norm as the kernel stages it. -/
theorem V14_at (c : Dev nD) (k : Fin 2048) :
    V m c main_v14 (ix2 0 k) = m ((c : Thread nD τ).loc main_arg1) (ix2 1 k) := by
  unfold V
  simp only [List.flatten_cons, List.flatten_nil, List.append_nil, List.cons_append, List.nil_append, hostOps0]
  entry_read
  try simp -implicitDefEqProofs only [StableHlo.TRef.toBuf, StableHlo.TRef.ofBuf, cast_cast, cast_eq]
  pointwise

/-- A gain times the scale of the scores. -/
abbrev scaleA (a : EReal) : EReal := a * Ideal.ofBits FTy.f32 1040356334#32

/-- The gain of the queries as the kernel stages it. -/
theorem V13_q (c : Dev nD) (e : Fin 4096) (d : Fin 128) (h : Fin 16) (he : (e : ℕ) = 128 * h + d) :
    V m c main_v13 (ix2 0 e) = scaleA (m ((c : Thread nD τ).loc main_arg3) (ix2 0 d)) := by
  unfold V
  simp only [List.flatten_cons, List.flatten_nil, List.append_nil, List.cons_append, List.nil_append, hostOps0]
  entry_read
  try simp -implicitDefEqProofs only [StableHlo.TRef.toBuf, StableHlo.TRef.ofBuf, cast_cast, cast_eq]
  pointwise
  have h1 : (e : ℕ) % 128 = d := by omega
  simp only [h1, Fin.eta]
  rw [dif_pos (by omega)]

/-- The gain of the keys as the kernel stages it. -/
theorem V13_k (c : Dev nD) (e : Fin 4096) (d : Fin 128) (h : Fin 16) (he : (e : ℕ) = 2048 + 128 * h + d) :
    V m c main_v13 (ix2 0 e) = m ((c : Thread nD τ).loc main_arg4) (ix2 0 d) := by
  unfold V
  simp only [List.flatten_cons, List.flatten_nil, List.append_nil, List.cons_append, List.nil_append, hostOps0]
  entry_read
  try simp -implicitDefEqProofs only [StableHlo.TRef.toBuf, StableHlo.TRef.ofBuf, cast_cast, cast_eq]
  pointwise
  have h1 : ((e : ℕ) - 2048) % 128 = d := by omega
  simp only [h1, Fin.eta]
  rw [dif_neg (by omega)]

/-- The normed row of the arguments. -/
abbrev rowA (c : Dev nD) (r : Fin 8192) : Fin 2048 → EReal :=
  hnS (fun k => m ((c : Thread nD τ).loc main_arg0) (ix2 r k)) (fun k => m ((c : Thread nD τ).loc main_arg1) (ix2 1 k))

/-- The normed rows of a block. -/
theorem norm_at (c : Dev nD) (t : Fin cfg0.N) (n : ℕ) (hn : n < 4) (i : Fin 256) (r : Fin 8192)
    (hr : (r : ℕ) = 1024 * (t.val / 3) + (256 * n + i)) (k : Fin 2048) :
    hnI (iblk m c 0 t) (iblk m c 1 t) n (ix2 i k) = rowA m c r k := by
  have hi : (i : ℕ) < 256 := i.isLt
  refine (hnI_at _ _ n hn i ⟨256 * n + i, by omega⟩ rfl k).trans ?_
  have hx : (fun k => (iblk m c 0 t : Vec Ideal S1024x2048 .f32) (ix2 ⟨256 * n + i, by omega⟩ k))
      = fun k => m ((c : Thread nD τ).loc main_arg0) (ix2 r k) := by
    funext k
    blk_point [iblk, V_main_arg0, idx t]
  have hg : (fun k => (iblk m c 1 t : Vec Ideal S1x2048 .f32) (ix2 0 k))
      = fun k => m ((c : Thread nD τ).loc main_arg1) (ix2 1 k) := by
    funext k
    refine Eq.trans ?_ (V14_at m c k)
    blk_ext [iblk, idx t]
  exact congrArg₂ (fun x g => hnS x g k) hx hg

/-- The rows kept after the first column. -/
theorem keptA (c : Dev nD) (t : Fin cfg0.N) (h0 : t.val % 3 = 0) (p : Fin 1024) (r : Fin 8192)
    (hr : (r : ℕ) = 1024 * (t.val / 3) + p) (k : Fin 2048) :
    (outsAt0 m c t.val t.isLt).2 (ix2 p k) = rowA m c r k := by
  have hp : (p : ℕ) < 1024 := p.isLt
  refine (hnA_eq m c t h0 (by omega) (by omega) (ix2 p k) ⟨p / 256, by omega⟩ (ix2 ⟨p % 256, by omega⟩ k)
    (by show (p : ℕ) = 256 * (p / 256) + p % 256; omega) rfl).trans ?_
  exact norm_at m c t (p / 256) (by omega) ⟨p % 256, by omega⟩ r
    (by show (r : ℕ) = 1024 * (t.val / 3) + (256 * (p / 256) + p % 256); omega) k

/-- And after the second. -/
theorem keptB (c : Dev nD) (t : Fin cfg0.N) (h1 : t.val % 3 = 1) (p : Fin 1024) (r : Fin 8192)
    (hr : (r : ℕ) = 1024 * (t.val / 3) + p) (k : Fin 2048) :
    (outsAt0 m c t.val t.isLt).2 (ix2 p k) = rowA m c r k := by
  have ht := t.isLt
  rw [hnB_eq m c t (by omega) h1 (by omega)]
  exact keptA m c ⟨t.val - 1, lt_of_le_of_lt (Nat.sub_le _ _) t.isLt⟩ (by show (t.val - 1) % 3 = 0; omega) p r
    (by show (r : ℕ) = 1024 * ((t.val - 1) / 3) + p; omega) k

/-- The weight's columns in a block. -/
theorem w_at (c : Dev nD) (t : Fin cfg0.N) (k e : Fin 2048) (E : Fin 6144) (hE : (E : ℕ) = 2048 * (t.val % 3) + e) :
    (iblk m c 2 t : Vec Ideal S2048x2048 .bf16) (ix2 k e) = m ((c : Thread nD τ).loc main_arg2) (ix2 k E) := by
  blk_point [iblk, V_main_arg2, idx t]

/-- A row group's result at the first column. -/
theorem tileA (c : Dev nD) (t : Fin cfg0.N) (h0 : t.val % 3 = 0) (n : ℕ) (hn : n < 4) (i : Fin 256) (e : Fin 2048)
    (r : Fin 8192) (hr : (r : ℕ) = 1024 * (t.val / 3) + (256 * n + i)) (E : Fin 6144) (hE : (E : ℕ) = e) :
    tileI (hnI (iblk m c 0 t) (iblk m c 1 t) n) (iblk m c 2 t) (iblk m c 3 t) (ix2 i e)
      = inR (m ((c : Thread nD τ).loc main_arg0)) (m ((c : Thread nD τ).loc main_arg1)) (m ((c : Thread nD τ).loc main_arg2))
        (m ((c : Thread nD τ).loc main_arg3)) (m ((c : Thread nD τ).loc main_arg4)) (ix2 r E) := by
  have he : (e : ℕ) < 2048 := e.isLt
  obtain ⟨h, hh⟩ : ∃ h : Fin 16, (h : ℕ) = e / 128 := ⟨⟨e / 128, by omega⟩, rfl⟩
  obtain ⟨d, hd⟩ : ∃ d : Fin 128, (d : ℕ) = e % 128 := ⟨⟨e % 128, by omega⟩, rfl⟩
  have hl := h.isLt
  refine (tileI_at _ _ _ i e h d (by omega) (fun d => ⟨128 * h + d, by omega⟩) (fun d => rfl)).trans ?_
  refine Eq.trans ?_ (inR_q _ _ _ _ _ r h d E (by omega) (fun d => ⟨128 * h + d, by omega⟩)
    (fun d => by show 128 * (h : ℕ) + d = h * 128 + d; omega)).symm
  have hg : (iblk m c 3 t : Vec Ideal S1x2048 .f32) (ix2 0 e)
      = scaleA (m ((c : Thread nD τ).loc main_arg3) (ix2 0 d)) := by
    refine Eq.trans ?_ (V13_q m c ⟨e, by omega⟩ d h (by show (e : ℕ) = 128 * h + d; omega))
    blk_ext [iblk, idx t]
  simp only [norm_at m c t n hn i r hr, fun k (d : Fin 128) => w_at m c t k ⟨128 * h + d, by omega⟩ ⟨128 * h + d, by omega⟩
    (by show 128 * (h : ℕ) + d = 2048 * (t.val % 3) + (128 * h + d); omega), hg]
  exact (mul_assoc _ _ _).symm

/-- At the second. -/
theorem tileB (c : Dev nD) (t : Fin cfg0.N) (h1 : t.val % 3 = 1) (n : ℕ) (hn : n < 4) (i : Fin 256) (e : Fin 2048)
    (r : Fin 8192) (hr : (r : ℕ) = 1024 * (t.val / 3) + (256 * n + i)) (E : Fin 6144) (hE : (E : ℕ) = 2048 + e)
    (H : Vec Ideal S1024x2048 .bf16) (hH : ∀ (p : Fin 1024), (r : ℕ) = 1024 * (t.val / 3) + p → ∀ k, H (ix2 p k) = rowA m c r k) :
    tileI (rowsI H n) (iblk m c 2 t) (iblk m c 3 t) (ix2 i e)
      = inR (m ((c : Thread nD τ).loc main_arg0)) (m ((c : Thread nD τ).loc main_arg1)) (m ((c : Thread nD τ).loc main_arg2))
        (m ((c : Thread nD τ).loc main_arg3)) (m ((c : Thread nD τ).loc main_arg4)) (ix2 r E) := by
  have he : (e : ℕ) < 2048 := e.isLt
  have hi : (i : ℕ) < 256 := i.isLt
  obtain ⟨h, hh⟩ : ∃ h : Fin 16, (h : ℕ) = e / 128 := ⟨⟨e / 128, by omega⟩, rfl⟩
  obtain ⟨d, hd⟩ : ∃ d : Fin 128, (d : ℕ) = e % 128 := ⟨⟨e % 128, by omega⟩, rfl⟩
  have hl := h.isLt
  refine (tileI_at _ _ _ i e h d (by omega) (fun d => ⟨128 * h + d, by omega⟩) (fun d => rfl)).trans ?_
  refine Eq.trans ?_ (inR_k _ _ _ _ _ r h d E (by omega) (fun d => ⟨2048 + 128 * h + d, by omega⟩)
    (fun d => by show 2048 + 128 * (h : ℕ) + d = 2048 + h * 128 + d; omega)).symm
  have hg : (iblk m c 3 t : Vec Ideal S1x2048 .f32) (ix2 0 e) = m ((c : Thread nD τ).loc main_arg4) (ix2 0 d) := by
    refine Eq.trans ?_ (V13_k m c ⟨2048 + e, by omega⟩ d h (by show 2048 + (e : ℕ) = 2048 + 128 * h + d; omega))
    blk_ext [iblk, idx t]
  have hk : ∀ k, (rowsI H n : Vec Ideal S256x2048 .bf16) (ix2 i k) = rowA m c r k := fun k => by
    refine Eq.trans ?_ (hH ⟨256 * n + i, by omega⟩ hr k)
    have e' : (⟨256 * n + i, by omega⟩ : Fin 1024) = ⟨256 * (n % 4) + i, by omega⟩ :=
      Fin.ext (by show 256 * n + (i : ℕ) = 256 * (n % 4) + i; omega)
    rw [e']
    pointwise [rowsI]
  simp only [hk, fun k (d : Fin 128) => w_at m c t k ⟨128 * h + d, by omega⟩ ⟨2048 + 128 * h + d, by omega⟩
    (by show 2048 + 128 * (h : ℕ) + d = 2048 * (t.val % 3) + (128 * h + d); omega), hg]

set_option maxHeartbeats 1600000 in
/-- The result is the reference's. -/
theorem result4 (c : Dev nD) : (dats m 0 c).arrAt 4 (cfgs 0).N
    = inR (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 4 _ (by decide +kernel) fun t hf y => ?_
  blk_simp
  rw [after0_4]
  have ht : t.val < 24 := lt_of_lt_of_eq t.isLt N_0
  have hy0 : (y 0 : ℕ) < 1024 := (y 0).isLt
  have hy1 : (y 1 : ℕ) < 2048 := (y 1).isLt
  obtain ⟨p, hp⟩ : ∃ p : Fin 1024, (p : ℕ) = y 0 := ⟨⟨y 0, hy0⟩, rfl⟩
  obtain ⟨n, hn⟩ : ∃ r : Fin 4, (r : ℕ) = y 0 / 256 := ⟨⟨y 0 / 256, by omega⟩, rfl⟩
  obtain ⟨i, hi⟩ : ∃ i : Fin 256, (i : ℕ) = y 0 % 256 := ⟨⟨y 0 % 256, by omega⟩, rfl⟩
  obtain ⟨e, he⟩ : ∃ e : Fin 2048, (e : ℕ) = y 1 := ⟨⟨y 1, hy1⟩, rfl⟩
  obtain ⟨r, hr⟩ : ∃ r : Fin 8192, (r : ℕ) = 1024 * (t.val / 3) + y 0 := ⟨⟨1024 * (t.val / 3) + y 0, by omega⟩, rfl⟩
  obtain ⟨E, hE⟩ : ∃ E : Fin 6144, (E : ℕ) = 2048 * (t.val % 3) + y 1 := ⟨⟨2048 * (t.val % 3) + y 1, by omega⟩, rfl⟩
  have key : (outsAt0 m c t.val t.isLt).1 y
      = inR (m ((c : Thread nD τ).loc main_arg0)) (m ((c : Thread nD τ).loc main_arg1)) (m ((c : Thread nD τ).loc main_arg2))
        (m ((c : Thread nD τ).loc main_arg3)) (m ((c : Thread nD τ).loc main_arg4)) (ix2 r E) := by
    by_cases h0 : t.val % 3 = 0
    · refine (outA_eq m c t h0 (by omega) (by omega) y n (ix2 i e) (by show (y 0 : ℕ) = 256 * n + i; omega)
        (by show (y 1 : ℕ) = e; omega)).trans ?_
      exact tileA m c t h0 n n.isLt i e r (by omega) E (by omega)
    by_cases h1 : t.val % 3 = 1
    · refine (outB_eq m c t h0 h1 (by omega) y n (ix2 i e) (by show (y 0 : ℕ) = 256 * n + i; omega)
        (by show (y 1 : ℕ) = e; omega)).trans ?_
      exact tileB m c t h1 n n.isLt i e r (by omega) E (by omega) _ fun p hp k =>
        keptA m c ⟨t.val - 1, lt_of_le_of_lt (Nat.sub_le _ _) t.isLt⟩ (by show (t.val - 1) % 3 = 0; omega) p r
          (by show (r : ℕ) = 1024 * ((t.val - 1) / 3) + p; omega) k
    · refine (outC_eq m c t h0 h1 (by omega) y).trans ?_
      obtain rfl : y = ix2 p e := by funext a; match a with | 0 => exact Fin.ext hp.symm | 1 => exact Fin.ext he.symm
      refine (mmV_at _ _ p e).trans ?_
      refine Eq.trans ?_ (inR_v _ _ _ _ _ r E (by omega)).symm
      unfold mmS
      refine Finset.sum_congr rfl fun k _ => congrArg₂ (· * ·) ?_ (w_at m c t k e E (by omega))
      exact keptB m c ⟨t.val - 1, lt_of_le_of_lt (Nat.sub_le _ _) t.isLt⟩ (by show (t.val - 1) % 3 = 1; omega) p r
        (by show (r : ℕ) = 1024 * ((t.val - 1) / 3) + p; omega) k
  refine key.trans ?_
  blk_ext [idx t]

end Cert.InIdeal.Value

end
-- ==== Proof.In.Claims.lean ====
/- The odd sublayer's input projection's claims. -/
module

public import proofs.«01_k».proof.Defs
public import proofs.«01_k».proof.Proof.Gen.In.Frame
public import proofs.«01_k».proof.Proof.Gen.InIdeal.Frame
public import proofs.«01_k».proof.Proof.In.Final
public import Idealize.ShloMosaic.Lib.Quiescent

@[expose] public section

noncomputable section

open Idealize.ShloMosaic Idealize.SL.Sem

namespace Cert.Proof.InClaims

/-- The kernel's program as written: it ends, with its arguments kept and every counter at zero. -/
theorem frame_p : Cert.quiescent_In (hIn := Cert.In.Gen.facts) := fun m ρ _ => Cert.In.Gen.frame m ρ

/-- The same of the kernel over the extended reals. -/
theorem frame_pi : Cert.quiescent_InIdeal (hInIdeal := Cert.InIdeal.Gen.facts) := fun m ρ _ =>
  Cert.InIdeal.Gen.frame m ρ

/-- The same of the reference: it declares no semaphore. -/
theorem frame_ri : Cert.quiescent_InRefIdeal (hInRefIdeal := Cert.InRefIdeal.Gen.facts) := fun m ρ _ =>
  (θ_run Cert.InRefIdeal.defs _ _).mono (fun r h => ⟨fun c => (h c).2,
      Idealize.ShloMosaic.sem_eq_zero_of_no_sems (by decide) r.2⟩)
    (Cert.InRefIdeal.Value.run (F := Ideal) m ρ)

/-- Kernel and reference end with equal results over the extended reals. -/
theorem algebraic : Cert.algebraic_InIdeal_InRefIdeal (hInIdeal := Cert.InIdeal.Gen.facts)
    (hInRefIdeal := Cert.InRefIdeal.Gen.facts) := by
  intro m ρ m' ρ' _ hag
  refine ⟨fun c => (Cert.InIdeal.Gen.dats m 0 c).arrAt 4 Cert.InIdeal.cfg0.N,
    Cert.InIdeal.Value.run_blocks (F := Ideal) m ρ, ?_⟩
  refine (θ_run Cert.InRefIdeal.defs _ _).mono (fun _ h c => ⟨(h c).1.trans ?_, (h c).2⟩)
    (Cert.InRefIdeal.Value.run (F := Ideal) m' ρ')
  rw [Cert.InRefIdeal.Value.res_eq, (hag c).1, (hag c).2.1, (hag c).2.2.1, (hag c).2.2.2.1, (hag c).2.2.2.2]
  exact (Cert.InIdeal.Value.result4 m c).symm

end Cert.Proof.InClaims

end
-- ==== Proof.InEven.Setup.lean ====
/- The input projection of the even layer: what the six runs of its call share. -/
module

public import proofs.«01_k».proof.Proof.Gen.InEvenIdeal.Launch
public import proofs.«01_k».proof.Proof.Gen.InEvenIdeal.Skeleton
public import proofs.«01_k».proof.Proof.Gen.InEvenIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.InEvenIdeal.Hand

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof data whose array is `V`'s and whose body leaves the block in place : Lib/Pipeline/FrameBody.lean `Dat.before_in_eq_fetched` , the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s and whose body leaves the block in place : Lib/Pipeline/FrameBody.lean `Dat.before_in_eq_fetched` , the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s and whose body leaves the block in place : Lib/Pipeline/FrameBody.lean `Dat.before_in_eq_fetched` , the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s and whose body leaves the block in place : Lib/Pipeline/FrameBody.lean `Dat.before_in_eq_fetched` , the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s and whose body leaves the block in place : Lib/Pipeline/FrameBody.lean `Dat.before_in_eq_fetched` , the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s and whose body leaves the block in place : Lib/Pipeline/FrameBody.lean `Dat.before_in_eq_fetched` , the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof data whose array is `V`'s and whose body leaves the block in place : Lib/Pipeline/FrameBody.lean `Dat.before_in_eq_fetched` , the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 , from the grid coordinates. -/
abbrev cond0_0 (i : grid0.Coords) : Prop := k0_cond1 i = 1#1
/-- It holds at the points ≡ 0 — by arithmetic of the point. -/
theorem hcond0_0 : ∀ t : Fin cfg0.N, cond0_0 (grid0.coords t) ↔ t.val % 6 = 0 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

/-- The condition of the body's `scf.if` 1 , from the grid coordinates. -/
abbrev cond0_1 (i : grid0.Coords) : Prop := k0_cond2 i = 1#1
/-- It holds at the points ≡ 1 — by arithmetic of the point. -/
theorem hcond0_1 : ∀ t : Fin cfg0.N, cond0_1 (grid0.coords t) ↔ t.val % 6 = 1 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_1, k0_cond2, e0, e1]
    word_cmp
   : ∀ t : Fin grid0.N, cond0_1 (grid0.coords t) ↔ t.val % 6 = 1)

/-- The condition of the body's `scf.if` 2 , from the grid coordinates. -/
abbrev cond0_2 (i : grid0.Coords) : Prop := k0_cond3 i = 1#1
/-- It holds at the points ≡ 2 — by arithmetic of the point. -/
theorem hcond0_2 : ∀ t : Fin cfg0.N, cond0_2 (grid0.coords t) ↔ t.val % 6 = 2 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ t.val % 6 = 2)

/-- The condition of the body's `scf.if` 3 , from the grid coordinates. -/
abbrev cond0_3 (i : grid0.Coords) : Prop := k0_cond4 i = 1#1
/-- It holds at the points ≡ 3 — by arithmetic of the point. -/
theorem hcond0_3 : ∀ t : Fin cfg0.N, cond0_3 (grid0.coords t) ↔ t.val % 6 = 3 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_3, k0_cond4, e0, e1]
    word_cmp
   : ∀ t : Fin grid0.N, cond0_3 (grid0.coords t) ↔ t.val % 6 = 3)

/-- The condition of the body's `scf.if` 4 , from the grid coordinates. -/
abbrev cond0_4 (i : grid0.Coords) : Prop := k0_cond5 i = 1#1
/-- It holds at the points ≡ 4 — by arithmetic of the point. -/
theorem hcond0_4 : ∀ t : Fin cfg0.N, cond0_4 (grid0.coords t) ↔ t.val % 6 = 4 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_4, k0_cond5, e0, e1]
    word_cmp
   : ∀ t : Fin grid0.N, cond0_4 (grid0.coords t) ↔ t.val % 6 = 4)

/-- The condition of the body's `scf.if` 5 , from the grid coordinates. -/
abbrev cond0_5 (i : grid0.Coords) : Prop := k0_cond6 i = 1#1
/-- It holds at the points ≡ 5 — by arithmetic of the point. -/
theorem hcond0_5 : ∀ t : Fin cfg0.N, cond0_5 (grid0.coords t) ↔ t.val % 6 = 5 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_5, k0_cond6, e0, e1]
    word_cmp
   : ∀ t : Fin grid0.N, cond0_5 (grid0.coords t) ↔ t.val % 6 = 5)

/-! ## Where the windows are idle (the printed configuration's table `Cfg.idle`) -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 6 is never idle. -/
theorem liveAt0_6 : ∀ t : Fin cfg0.N, cfg0.idle 6 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i ∧ ¬cond0_4 i ∧ ¬cond0_5 i
instance conds0_A.dec (i : grid0.Coords) : Decidable (conds0_A i) :=
  @instDecidableAnd _ _ inferInstance (@instDecidableAnd _ _ inferInstance (@instDecidableAnd _ _ inferInstance (@instDecidableAnd _ _ inferInstance (@instDecidableAnd _ _ inferInstance inferInstance))))
/-- Case B's branch conditions on the grid, as one proposition. -/
abbrev conds0_B (i : grid0.Coords) : Prop := ¬cond0_0 i ∧ cond0_1 i ∧ ¬cond0_2 i ∧ ¬cond0_3 i ∧ ¬cond0_4 i ∧ ¬cond0_5 i
instance conds0_B.dec (i : grid0.Coords) : Decidable (conds0_B i) :=
  @instDecidableAnd _ _ inferInstance (@instDecidableAnd _ _ inferInstance (@instDecidableAnd _ _ inferInstance (@instDecidableAnd _ _ inferInstance (@instDecidableAnd _ _ inferInstance inferInstance))))
/-- Case C's branch conditions on the grid, as one proposition. -/
abbrev conds0_C (i : grid0.Coords) : Prop := ¬cond0_0 i ∧ ¬cond0_1 i ∧ cond0_2 i ∧ ¬cond0_3 i ∧ ¬cond0_4 i ∧ ¬cond0_5 i
instance conds0_C.dec (i : grid0.Coords) : Decidable (conds0_C i) :=
  @instDecidableAnd _ _ inferInstance (@instDecidableAnd _ _ inferInstance (@instDecidableAnd _ _ inferInstance (@instDecidableAnd _ _ inferInstance (@instDecidableAnd _ _ inferInstance inferInstance))))
/-- Case D's branch conditions on the grid, as one proposition. -/
abbrev conds0_D (i : grid0.Coords) : Prop := ¬cond0_0 i ∧ ¬cond0_1 i ∧ ¬cond0_2 i ∧ cond0_3 i ∧ ¬cond0_4 i ∧ ¬cond0_5 i
instance conds0_D.dec (i : grid0.Coords) : Decidable (conds0_D i) :=
  @instDecidableAnd _ _ inferInstance (@instDecidableAnd _ _ inferInstance (@instDecidableAnd _ _ inferInstance (@instDecidableAnd _ _ inferInstance (@instDecidableAnd _ _ inferInstance inferInstance))))
/-- Case E's branch conditions on the grid, as one proposition. -/
abbrev conds0_E (i : grid0.Coords) : Prop := ¬cond0_0 i ∧ ¬cond0_1 i ∧ ¬cond0_2 i ∧ ¬cond0_3 i ∧ cond0_4 i ∧ ¬cond0_5 i
instance conds0_E.dec (i : grid0.Coords) : Decidable (conds0_E i) :=
  @instDecidableAnd _ _ inferInstance (@instDecidableAnd _ _ inferInstance (@instDecidableAnd _ _ inferInstance (@instDecidableAnd _ _ inferInstance (@instDecidableAnd _ _ inferInstance inferInstance))))
/-- Case F's branch conditions on the grid, as one proposition. -/
abbrev conds0_F (i : grid0.Coords) : Prop := ¬cond0_0 i ∧ ¬cond0_1 i ∧ ¬cond0_2 i ∧ ¬cond0_3 i ∧ ¬cond0_4 i ∧ cond0_5 i
instance conds0_F.dec (i : grid0.Coords) : Decidable (conds0_F i) :=
  @instDecidableAnd _ _ inferInstance (@instDecidableAnd _ _ inferInstance (@instDecidableAnd _ _ inferInstance (@instDecidableAnd _ _ inferInstance (@instDecidableAnd _ _ inferInstance inferInstance))))
/-- At the points of case A the printed configuration calls output 7 live. -/
theorem liveAt0_7_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 7 (grid0.coords t) = false :=
  fun t h0 h1 h2 h3 h4 h5 => (by decide +kernel : ∀ t : Fin cfg0.N, conds0_A (grid0.coords t) → cfg0.idle 7 (grid0.coords t) = false) t ⟨h0, h1, h2, h3, h4, h5⟩
/-- At the points of case B the printed configuration calls output 7 live. -/
theorem liveAt0_7_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 7 (grid0.coords t) = false :=
  fun t h0 h1 h2 h3 h4 h5 => (by decide +kernel : ∀ t : Fin cfg0.N, conds0_B (grid0.coords t) → cfg0.idle 7 (grid0.coords t) = false) t ⟨h0, h1, h2, h3, h4, h5⟩
/-- At the points of case C the printed configuration calls output 7 live. -/
theorem liveAt0_7_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 7 (grid0.coords t) = false :=
  fun t h0 h1 h2 h3 h4 h5 => (by decide +kernel : ∀ t : Fin cfg0.N, conds0_C (grid0.coords t) → cfg0.idle 7 (grid0.coords t) = false) t ⟨h0, h1, h2, h3, h4, h5⟩
/-- At the points of case D the printed configuration calls output 7 live. -/
theorem liveAt0_7_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cfg0.idle 7 (grid0.coords t) = false :=
  fun t h0 h1 h2 h3 h4 h5 => (by decide +kernel : ∀ t : Fin cfg0.N, conds0_D (grid0.coords t) → cfg0.idle 7 (grid0.coords t) = false) t ⟨h0, h1, h2, h3, h4, h5⟩
/-- At the points of case E the printed configuration calls output 7 live. -/
theorem liveAt0_7_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 7 (grid0.coords t) = false :=
  fun t h0 h1 h2 h3 h4 h5 => (by decide +kernel : ∀ t : Fin cfg0.N, conds0_E (grid0.coords t) → cfg0.idle 7 (grid0.coords t) = false) t ⟨h0, h1, h2, h3, h4, h5⟩
/-- At the points of case F the printed configuration calls output 7 live. -/
theorem liveAt0_7_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → cfg0.idle 7 (grid0.coords t) = false :=
  fun t h0 h1 h2 h3 h4 h5 => (by decide +kernel : ∀ t : Fin cfg0.N, conds0_F (grid0.coords t) → cfg0.idle 7 (grid0.coords t) = false) t ⟨h0, h1, h2, h3, h4, h5⟩

/-! ## The kernel body on any staging memrefs: a subtype the run finds -/

/-- One staging buffer of output window 7, through which its contents are stated. -/
abbrev VO0_7 : View sig .tc .vmem S1024x1024 .bf16 := (Memref.whole cc0_stg7_0 : Memref sig .tc .vmem S1024x1024 .bf16).view
/-- Each window's current staging memref at point `t`, spelled as the pipeline passes it , and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
/-- The scratch operands. -/
abbrev scM0_0 : Memref sig .tc .vmem S1024x2048 .bf16 := Memref.whole cc0_scratch0
abbrev scM0_1 : Memref sig .tc .vmem S2048x1024 .bf16 := Memref.whole cc0_scratch1
abbrev scM0_2 : Memref sig .tc .vmem S2x256x1024 .f32 := Memref.whole cc0_scratch2
abbrev scM0_3 : Memref sig .tc .vmem S8x1024 .f32 := Memref.whole cc0_scratch3
/-- The scratch `arg10` the kernel carries between points, as a view. -/
abbrev VS0_0 : View sig .tc .vmem S1024x2048 .bf16 := scM0_0.view
/-- The scratch `arg13` the kernel carries between points, as a view. -/
abbrev VS0_3 : View sig .tc .vmem S8x1024 .f32 := scM0_3.view

/-- The frame kit's invariant with the scratch operands as memrefs owned at some contents : what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.InEvenIdeal.Hand

end
-- ==== Proof.InEven.RunA.lean ====
/- The body's run in case A. -/
module

public import proofs.«01_k».proof.Proof.InEven.Setup

@[expose] public section

-- membership in a rectangle of production extents (`View.cover_of_tiled`): the elaborator's structural look
-- recurses once per coordinate of the long axes
set_option maxRecDepth 16384

noncomputable section

namespace Cert.InEvenIdeal.Hand

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in case A: the stores it makes, and that it makes them. -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : cond0_0 i) (hc1 : ¬cond0_1 i) (hc2 : ¬cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) :
    Σ' (L7 : List (View.Piece (Elt F) S1024x1024 .bf16)), Σ' (LS0 : List (View.Piece (Elt F) S1024x2048 .bf16)), Σ' (LS3 : List (View.Piece (Elt F) S8x1024 .f32)), Σ' (LT1 : List (View.Piece (Elt F) S2048x1024 .bf16)), { LT2 : List (View.Piece (Elt F) S2x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2)) -∗ K ⟨⟩))
          ⊢ wp frame (wpE (defs₀ (F := F)) Variants.none c none) E (cc0_norm_matmul i arg2 harg2 arg3 harg3 arg4 harg4 arg5 harg5 arg6 harg6 arg7 harg7 arg8 harg8 arg9 harg9 arg10 harg10 arg11 harg11 arg12 harg12 arg13 harg13) K } := by
  refine ⟨?_, ?_, [], ?_, ?_, fun E K => ?run⟩
  case run =>
    simp only [cc0_norm_matmul_eq_skeleton]; unfold cc0_norm_matmul_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    isplitl [HS1]; · iexists _; iexact HS1
    iexists _; iexact HS2

end Cert.InEvenIdeal.Hand

end
-- ==== Proof.InEven.RunB.lean ====
/- The body's run in case B. -/
module

public import proofs.«01_k».proof.Proof.InEven.RunA

@[expose] public section

-- membership in a rectangle of production extents (`View.cover_of_tiled`): the elaborator's structural look
-- recurses once per coordinate of the long axes
set_option maxRecDepth 16384

noncomputable section

namespace Cert.InEvenIdeal.Hand

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in case B: the stores it makes, and that it makes them. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : cond0_1 i) (hc2 : ¬cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) :
    Σ' (L7 : List (View.Piece (Elt F) S1024x1024 .bf16)), Σ' (LS0 : List (View.Piece (Elt F) S1024x2048 .bf16)), Σ' (LS3 : List (View.Piece (Elt F) S8x1024 .f32)), Σ' (LT1 : List (View.Piece (Elt F) S2048x1024 .bf16)), { LT2 : List (View.Piece (Elt F) S2x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2)) -∗ K ⟨⟩))
          ⊢ wp frame (wpE (defs₀ (F := F)) Variants.none c none) E (cc0_norm_matmul i arg2 harg2 arg3 harg3 arg4 harg4 arg5 harg5 arg6 harg6 arg7 harg7 arg8 harg8 arg9 harg9 arg10 harg10 arg11 harg11 arg12 harg12 arg13 harg13) K } := by
  refine ⟨?_, [], [], ?_, ?_, fun E K => ?run⟩
  case run =>
    simp only [cc0_norm_matmul_eq_skeleton]; unfold cc0_norm_matmul_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]; · iexists _; iexact HS1
    iexists _; iexact HS2

end Cert.InEvenIdeal.Hand

end
-- ==== Proof.InEven.RunC.lean ====
/- The body's run in case C. -/
module

public import proofs.«01_k».proof.Proof.InEven.RunB

@[expose] public section

-- membership in a rectangle of production extents (`View.cover_of_tiled`): the elaborator's structural look
-- recurses once per coordinate of the long axes
set_option maxRecDepth 16384

noncomputable section

namespace Cert.InEvenIdeal.Hand

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in case C: the stores it makes, and that it makes them. -/
noncomputable def kernelRun0_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) :
    Σ' (L7 : List (View.Piece (Elt F) S1024x1024 .bf16)), Σ' (LS0 : List (View.Piece (Elt F) S1024x2048 .bf16)), Σ' (LS3 : List (View.Piece (Elt F) S8x1024 .f32)), Σ' (LT1 : List (View.Piece (Elt F) S2048x1024 .bf16)), { LT2 : List (View.Piece (Elt F) S2x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ d, owns (c : Thread nD τ) arg11 fullShare d) ∗ (∃ d, owns (c : Thread nD τ) arg12 fullShare d)) -∗ K ⟨⟩))
          ⊢ wp frame (wpE (defs₀ (F := F)) Variants.none c none) E (cc0_norm_matmul i arg2 harg2 arg3 harg3 arg4 harg4 arg5 harg5 arg6 harg6 arg7 harg7 arg8 harg8 arg9 harg9 arg10 harg10 arg11 harg11 arg12 harg12 arg13 harg13) K } := by
  refine ⟨?_, [], [], [], [], fun E K => ?run⟩
  case run =>
    simp only [cc0_norm_matmul_eq_skeleton]; unfold cc0_norm_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]
    · iexists _, _; isplitr; swap; · iexact HS1
      ipureintro; rfl
    iexists _, _; isplitr; swap; · iexact HS2
    ipureintro; rfl

end Cert.InEvenIdeal.Hand

end
-- ==== Proof.InEven.RunD.lean ====
/- The body's run in case D. -/
module

public import proofs.«01_k».proof.Proof.InEven.RunC

@[expose] public section

-- membership in a rectangle of production extents (`View.cover_of_tiled`): the elaborator's structural look
-- recurses once per coordinate of the long axes
set_option maxRecDepth 16384

noncomputable section

namespace Cert.InEvenIdeal.Hand

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in case D: the stores it makes, and that it makes them. -/
noncomputable def kernelRun0_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) :
    Σ' (L7 : List (View.Piece (Elt F) S1024x1024 .bf16)), Σ' (LS0 : List (View.Piece (Elt F) S1024x2048 .bf16)), Σ' (LS3 : List (View.Piece (Elt F) S8x1024 .f32)), Σ' (LT1 : List (View.Piece (Elt F) S2048x1024 .bf16)), { LT2 : List (View.Piece (Elt F) S2x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2)) -∗ K ⟨⟩))
          ⊢ wp frame (wpE (defs₀ (F := F)) Variants.none c none) E (cc0_norm_matmul i arg2 harg2 arg3 harg3 arg4 harg4 arg5 harg5 arg6 harg6 arg7 harg7 arg8 harg8 arg9 harg9 arg10 harg10 arg11 harg11 arg12 harg12 arg13 harg13) K } := by
  refine ⟨?_, [], [], ?_, ?_, fun E K => ?run⟩
  case run =>
    simp only [cc0_norm_matmul_eq_skeleton]; unfold cc0_norm_matmul_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]; · iexists _; iexact HS1
    iexists _; iexact HS2

end Cert.InEvenIdeal.Hand

end
-- ==== Proof.InEven.RunE.lean ====
/- The body's run in case E. -/
module

public import proofs.«01_k».proof.Proof.InEven.RunD

@[expose] public section

-- membership in a rectangle of production extents (`View.cover_of_tiled`): the elaborator's structural look
-- recurses once per coordinate of the long axes
set_option maxRecDepth 16384

noncomputable section

namespace Cert.InEvenIdeal.Hand

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in case E: the stores it makes, and that it makes them. -/
noncomputable def kernelRun0_E (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (xs3 : Vec F S8x1024 .f32) :
    Σ' (L7 : List (View.Piece (Elt F) S1024x1024 .bf16)), Σ' (LS0 : List (View.Piece (Elt F) S1024x2048 .bf16)), Σ' (LS3 : List (View.Piece (Elt F) S8x1024 .f32)), Σ' (LT1 : List (View.Piece (Elt F) S2048x1024 .bf16)), { LT2 : List (View.Piece (Elt F) S2x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LS3)) -∗ K ⟨⟩))
          ⊢ wp frame (wpE (defs₀ (F := F)) Variants.none c none) E (cc0_norm_matmul i arg2 harg2 arg3 harg3 arg4 harg4 arg5 harg5 arg6 harg6 arg7 harg7 arg8 harg8 arg9 harg9 arg10 harg10 arg11 harg11 arg12 harg12 arg13 harg13) K } := by
  refine ⟨?_, [], ?_, ?_, ?_, fun E K => ?run⟩
  case run =>
    simp only [cc0_norm_matmul_eq_skeleton]; unfold cc0_norm_matmul_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg13.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]; · iexists _; iexact HS1
    isplitl [HS2]; · iexists _; iexact HS2
    iexists _; iexact HS3

end Cert.InEvenIdeal.Hand

end
-- ==== Proof.InEven.RunF.lean ====
/- The body's run in case F. -/
module

public import proofs.«01_k».proof.Proof.InEven.RunE

@[expose] public section

-- membership in a rectangle of production extents (`View.cover_of_tiled`): the elaborator's structural look
-- recurses once per coordinate of the long axes
set_option maxRecDepth 16384

noncomputable section

namespace Cert.InEvenIdeal.Hand

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in case F: the stores it makes, and that it makes them. -/
noncomputable def kernelRun0_F (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : ¬cond0_4 i) (hc5 : cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) :
    Σ' (L7 : List (View.Piece (Elt F) S1024x1024 .bf16)), Σ' (LS0 : List (View.Piece (Elt F) S1024x2048 .bf16)), Σ' (LS3 : List (View.Piece (Elt F) S8x1024 .f32)), Σ' (LT1 : List (View.Piece (Elt F) S2048x1024 .bf16)), { LT2 : List (View.Piece (Elt F) S2x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2)) -∗ K ⟨⟩))
          ⊢ wp frame (wpE (defs₀ (F := F)) Variants.none c none) E (cc0_norm_matmul i arg2 harg2 arg3 harg3 arg4 harg4 arg5 harg5 arg6 harg6 arg7 harg7 arg8 harg8 arg9 harg9 arg10 harg10 arg11 harg11 arg12 harg12 arg13 harg13) K } := by
  refine ⟨?_, [], [], ?_, ?_, fun E K => ?run⟩
  case run =>
    simp only [cc0_norm_matmul_eq_skeleton]; unfold cc0_norm_matmul_skel
    simp only [k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]; · iexists _; iexact HS1
    iexists _; iexact HS2

end Cert.InEvenIdeal.Hand

end
-- ==== Proof.InEven.Outs.lean ====
/- The even layer's input projection: contents point by point, the run and the frame. -/
module

public import proofs.«01_k».proof.Proof.InEven.RunF
public import Idealize.ShloMosaic.Lib.Claim

@[expose] public section

-- membership in a rectangle of production extents (`View.cover_of_tiled`): the elaborator's structural look
-- recurses once per coordinate of the long axes
set_option maxRecDepth 16384

noncomputable section

namespace Cert.InEvenIdeal.Hand

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores of case A cover the output block. -/
theorem cover0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : cond0_0 i) (hc1 : ¬cond0_1 i) (hc2 : ¬cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6).1 S256x1024.size (by sl_kernel_rfl) y

/-- What case A leaves in the output block. -/
def out0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : cond0_0 i) (hc1 : ¬cond0_1 i) (hc2 : ¬cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) : Vec F S1024x1024 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6).1)

/-- The stores of case A cover the carried buffer. -/
theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : cond0_0 i) (hc1 : ¬cond0_1 i) (hc2 : ¬cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (y : S1024x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6).2.1 S256x2048.size (by sl_kernel_rfl) y

/-- What case A leaves in the carried buffer. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : cond0_0 i) (hc1 : ¬cond0_1 i) (hc2 : ¬cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6).2.1)

/-- The stores of case B cover the output block. -/
theorem cover0_B_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : cond0_1 i) (hc2 : ¬cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1 S256x1024.size (by sl_kernel_rfl) y

/-- What case B leaves in the output block. -/
def out0_B_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : cond0_1 i) (hc2 : ¬cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) : Vec F S1024x1024 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1)

/-- What case B leaves in the carried buffer. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : cond0_1 i) (hc2 : ¬cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) : Vec F S1024x2048 .bf16 := xs0

/-- The stores of case C cover the output block. -/
theorem cover0_C_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1 S1024x1024.size (by sl_kernel_rfl) y

/-- What case C leaves in the output block. -/
def out0_C_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) : Vec F S1024x1024 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1)

/-- What case C leaves in the carried buffer. -/
def sout0_C_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : cond0_2 i) (hc3 : ¬cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) : Vec F S1024x2048 .bf16 := xs0

/-- The stores of case D cover the output block. -/
theorem cover0_D_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (y : S1024x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1 S256x1024.size (by sl_kernel_rfl) y

/-- What case D leaves in the output block. -/
def out0_D_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) : Vec F S1024x1024 .bf16 :=
  VO0_7.read (Elt F) (VO0_7.writes (Elt F) VO0_7.junk (kernelRun0_D c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1)

/-- What case D leaves in the carried buffer. -/
def sout0_D_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : cond0_3 i) (hc4 : ¬cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) : Vec F S1024x2048 .bf16 := xs0

/-- The stores of case E cover the output block. -/
theorem cover0_E_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (xs3 : Vec F S8x1024 .f32) (y : S1024x1024.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0 xs3).1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0 xs3).1 S256x1024.size (by sl_kernel_rfl) y

/-- What case E leaves in the output block. -/
def out0_E_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (xs3 : Vec F S8x1024 .f32) : Vec F S1024x1024 .bf16 :=
  VO0_7.read (Elt F) (VO0_7.writes (Elt F) VO0_7.junk (kernelRun0_E c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0 xs3).1)

/-- What case E leaves in the carried buffer. -/
def sout0_E_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (xs3 : Vec F S8x1024 .f32) : Vec F S1024x2048 .bf16 := xs0

/-- The stores of case E cover the carried buffer. -/
theorem scover0_E_3 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (xs3 : Vec F S8x1024 .f32) (y : S8x1024.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0 xs3).2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0 xs3).2.2.1 S8x1024.size (by sl_kernel_rfl) y

/-- What case E leaves in the carried buffer. -/
def sout0_E_3 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (xs3 : Vec F S8x1024 .f32) : Vec F S8x1024 .f32 :=
  VS0_3.read (Elt F) (VS0_3.writes (Elt F) VS0_3.junk (kernelRun0_E c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0 xs3).2.2.1)

/-- The stores of case F cover the output block. -/
theorem cover0_F_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : ¬cond0_4 i) (hc5 : cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (y : S1024x1024.Idx) :
    ∃ pc ∈ (kernelRun0_F c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1, y ∈ pc.1.set :=
  View.cover_of_tiledL (kernelRun0_F c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1 S256x1024.size (by sl_kernel_rfl) y

/-- What case F leaves in the output block. -/
def out0_F_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : ¬cond0_4 i) (hc5 : cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) : Vec F S1024x1024 .bf16 :=
  VO0_7.read (Elt F) (VO0_7.writes (Elt F) VO0_7.junk (kernelRun0_F c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0).1)

/-- What case F leaves in the carried buffer. -/
def sout0_F_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : ¬cond0_4 i) (hc5 : cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) : Vec F S1024x2048 .bf16 := xs0

end Cert.InEvenIdeal.Hand

end
-- ==== Proof.InEven.Fresh.lean ====
/- The first convolution point reads no carried row. -/
module

public import proofs.«01_k».proof.Proof.InEven.Outs

@[expose] public section

-- membership in a rectangle of production extents (`View.cover_of_tiled`): the elaborator's structural look
-- recurses once per coordinate of the long axes
set_option maxRecDepth 16384

noncomputable section

namespace Cert.InEvenIdeal.Hand

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The row above is zero at a sequence's start, whatever is carried. -/
theorem pay60_any (v37 : FVec F S256x1024 .f32) (v39 v40 : BitVec 32) (v41 v44 : BitVec 1) (v v' : Vec F S8x1024 .f32)
    (h : Scalar.cmpi .eq (Scalar.select (Scalar.andi v44 v41) (Scalar.addi v40 v39) v40) 0#32 = 1#1) :
    k0_pay60 v37 v39 v40 v41 v44 v = k0_pay60 v37 v39 v40 v41 v44 v' := by
  unfold k0_pay60
  dsimp only
  rw [h]
  rfl

/-- So the first three terms of the convolution's first group do not depend on it. -/
theorem pay61_any (v37 : FVec F S256x1024 .f32) (v39 v40 : BitVec 32) (v41 v44 : BitVec 1) (v v' : Vec F S8x1024 .f32) (a b d e : Vec F S1x1024 .f32)
    (h : Scalar.cmpi .eq (Scalar.select (Scalar.andi v44 v41) (Scalar.addi v40 v39) v40) 0#32 = 1#1) :
    k0_pay61 v37 v39 v40 v41 v44 v a b d e = k0_pay61 v37 v39 v40 v41 v44 v' a b d e := by
  unfold k0_pay61
  rw [pay60_any _ _ _ _ _ v v' h]

/-- Nor does the last. -/
theorem pay62_any (v37 : FVec F S256x1024 .f32) (v39 v40 : BitVec 32) (v41 v44 : BitVec 1) (v v' : Vec F S8x1024 .f32) (a : Vec F S1x1024 .f32)
    (h : Scalar.cmpi .eq (Scalar.select (Scalar.andi v44 v41) (Scalar.addi v40 v39) v40) 0#32 = 1#1) :
    k0_pay62 v37 v39 v40 v41 v44 v a = k0_pay62 v37 v39 v40 v41 v44 v' a := by
  unfold k0_pay62
  rw [pay60_any _ _ _ _ _ v v' h]

/-- At a sequence's start the output block does not depend on what is carried. -/
theorem out0_E_7_any (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (xs3 : Vec F S8x1024 .f32) (xs3' : Vec F S8x1024 .f32) (hi : (i 0).val = 0) :
    out0_E_7 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0 xs3 = out0_E_7 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0 xs3' := by
  unfold out0_E_7 kernelRun0_E
  dsimp only
  unfold kernelRun0_E.sl.r_1 kernelRun0_E.sl.r_2
  have hb : Scalar.cmpi .eq (Scalar.select (Scalar.andi (kernelRun0_E.sl.v44 i) (kernelRun0_E.sl.v41 i)) (Scalar.addi (kernelRun0_E.sl.v40 i) 2#32) (kernelRun0_E.sl.v40 i)) 0#32 = 1#1 := by
    simp only [kernelRun0_E.sl.v44, kernelRun0_E.sl.v42, kernelRun0_E.sl.v41, kernelRun0_E.sl.v40, hi]
    decide
  rw [pay61_any _ _ _ _ _ (View.readAt (Elt F) arg13.view (Rect.unit ![0, 0] ![8, 1024] inb_S8x1024_S8x1024_0_0).toLoadRect (harg13.unread xs3))
      (View.readAt (Elt F) arg13.view (Rect.unit ![0, 0] ![8, 1024] inb_S8x1024_S8x1024_0_0).toLoadRect (harg13.unread xs3')) _ _ _ _ hb,
    pay62_any _ _ _ _ _ (View.readAt (Elt F) arg13.view (Rect.unit ![0, 0] ![8, 1024] inb_S8x1024_S8x1024_0_0).toLoadRect (harg13.unread xs3))
      (View.readAt (Elt F) arg13.view (Rect.unit ![0, 0] ![8, 1024] inb_S8x1024_S8x1024_0_0).toLoadRect (harg13.unread xs3')) _ hb]

/-- What is carried on does not depend on what was carried. -/
theorem sout0_E_3_any (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x2048 .bf16) (harg10 : arg10.IsWhole) (arg11 : Memref sig .tc .vmem S2048x1024 .bf16) (harg11 : arg11.IsWhole) (arg12 : Memref sig .tc .vmem S2x256x1024 .f32) (harg12 : arg12.IsWhole) (arg13 : Memref sig .tc .vmem S8x1024 .f32) (harg13 : arg13.IsWhole) (hc0 : ¬cond0_0 i) (hc1 : ¬cond0_1 i) (hc2 : ¬cond0_2 i) (hc3 : ¬cond0_3 i) (hc4 : cond0_4 i) (hc5 : ¬cond0_5 i)
    (x0 : Vec F S1024x2048 .f32) (x1 : Vec F S1x2048 .f32) (x2 : Vec F S1x2048x1024 .f32) (x3 : Vec F S1024x128 .f32) (x4 : Vec F S1024x128 .f32) (x5 : Vec F S4x1024 .f32) (x6 : Vec F S1x1024 .f32) (xs0 : Vec F S1024x2048 .bf16) (xs3 : Vec F S8x1024 .f32) (xs3' : Vec F S8x1024 .f32) :
    sout0_E_3 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0 xs3 = sout0_E_3 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 x6 xs0 xs3' := by
  unfold sout0_E_3 kernelRun0_E
  dsimp only

end Cert.InEvenIdeal.Hand

end
-- ==== Proof.InEven.Frame.lean ====
/- The contents point by point, the run and the frame of the even input projection. -/
module

public import proofs.«01_k».proof.Proof.InEven.Fresh

@[expose] public section

-- membership in a rectangle of production extents (`View.cover_of_tiled`): the elaborator's structural look
-- recurses once per coordinate of the long axes
set_option maxRecDepth 16384

noncomputable section

namespace Cert.InEvenIdeal.Hand

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The row above before it is first stored: zero, though nothing reads it. -/
def halo0 : Vec F S8x1024 .f32 := fun _ => Scalar.ofBits .f32 0x00000000#32

/-! ## What the outputs hold after each point -/

/-- What the output block and the carried buffers hold after each point. -/
def outsAt0 (c : Dev nD) : (n : ℕ) → n < cfg0.N → Vec F S1024x1024 .bf16 × Vec F S1024x2048 .bf16 × Vec F S8x1024 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), halo0)
  | n + 1, hn =>
    if h0 : (n + 1) % 6 = 0 then
      if h1 : (n + 1) % 6 = 1 then
        False.elim (by have hN : n + 1 < 48 := lt_of_lt_of_eq hn (show cfg0.N = 48 from N_0); omega)
      else
        if h2 : (n + 1) % 6 = 2 then
          False.elim (by have hN : n + 1 < 48 := lt_of_lt_of_eq hn (show cfg0.N = 48 from N_0); omega)
        else
          if h3 : (n + 1) % 6 = 3 then
            False.elim (by have hN : n + 1 < 48 := lt_of_lt_of_eq hn (show cfg0.N = 48 from N_0); omega)
          else
            if h4 : (n + 1) % 6 = 4 then
              False.elim (by have hN : n + 1 < 48 := lt_of_lt_of_eq hn (show cfg0.N = 48 from N_0); omega)
            else
              if h5 : (n + 1) % 6 = 5 then
                False.elim (by have hN : n + 1 < 48 := lt_of_lt_of_eq hn (show cfg0.N = 48 from N_0); omega)
              else
                (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), (outsAt0 c n (Nat.lt_of_succ_lt hn)).2.2)
    else
      if h1 : (n + 1) % 6 = 1 then
        if h2 : (n + 1) % 6 = 2 then
          False.elim (by have hN : n + 1 < 48 := lt_of_lt_of_eq hn (show cfg0.N = 48 from N_0); omega)
        else
          if h3 : (n + 1) % 6 = 3 then
            False.elim (by have hN : n + 1 < 48 := lt_of_lt_of_eq hn (show cfg0.N = 48 from N_0); omega)
          else
            if h4 : (n + 1) % 6 = 4 then
              False.elim (by have hN : n + 1 < 48 := lt_of_lt_of_eq hn (show cfg0.N = 48 from N_0); omega)
            else
              if h5 : (n + 1) % 6 = 5 then
                False.elim (by have hN : n + 1 < 48 := lt_of_lt_of_eq hn (show cfg0.N = 48 from N_0); omega)
              else
                (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1, (outsAt0 c n (Nat.lt_of_succ_lt hn)).2.2)
      else
        if h2 : (n + 1) % 6 = 2 then
          if h3 : (n + 1) % 6 = 3 then
            False.elim (by have hN : n + 1 < 48 := lt_of_lt_of_eq hn (show cfg0.N = 48 from N_0); omega)
          else
            if h4 : (n + 1) % 6 = 4 then
              False.elim (by have hN : n + 1 < 48 := lt_of_lt_of_eq hn (show cfg0.N = 48 from N_0); omega)
            else
              if h5 : (n + 1) % 6 = 5 then
                False.elim (by have hN : n + 1 < 48 := lt_of_lt_of_eq hn (show cfg0.N = 48 from N_0); omega)
              else
                (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1, (outsAt0 c n (Nat.lt_of_succ_lt hn)).2.2)
        else
          if h3 : (n + 1) % 6 = 3 then
            if h4 : (n + 1) % 6 = 4 then
              False.elim (by have hN : n + 1 < 48 := lt_of_lt_of_eq hn (show cfg0.N = 48 from N_0); omega)
            else
              if h5 : (n + 1) % 6 = 5 then
                False.elim (by have hN : n + 1 < 48 := lt_of_lt_of_eq hn (show cfg0.N = 48 from N_0); omega)
              else
                (out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1, (outsAt0 c n (Nat.lt_of_succ_lt hn)).2.2)
          else
            if h4 : (n + 1) % 6 = 4 then
              if h5 : (n + 1) % 6 = 5 then
                False.elim (by have hN : n + 1 < 48 := lt_of_lt_of_eq hn (show cfg0.N = 48 from N_0); omega)
              else
                (out0_E_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_E_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)
            else
              if h5 : (n + 1) % 6 = 5 then
                (out0_F_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1, sout0_F_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1, (outsAt0 c n (Nat.lt_of_succ_lt hn)).2.2)
              else
                False.elim (by have hN : n + 1 < 48 := lt_of_lt_of_eq hn (show cfg0.N = 48 from N_0); omega)

/-- The row above as the point before left it. -/
def prevHalo (c : Dev nD) (t : Fin cfg0.N) : Vec F S8x1024 .f32 :=
  match t with
  | ⟨0, _⟩ => halo0
  | ⟨n + 1, hn⟩ => (outsAt0 m c n (Nat.lt_of_succ_lt hn)).2.2

/-- At a point that is not the first. -/
theorem prevHalo_pos (c : Dev nD) (t : Fin cfg0.N) (hz : t.val ≠ 0) :
    prevHalo m c t = (outsAt0 m c (t.val - 1) (Nat.lt_of_le_of_lt (Nat.sub_le _ _) t.isLt)).2.2 := by
  obtain ⟨n, hn⟩ := t
  cases n with
  | zero => exact absurd rfl hz
  | succ n => rfl

/-- The contents after a point of case A. -/
theorem outsAt0_A (c : Dev nD) (t : Fin cfg0.N) (h0 : t.val % 6 = 0) (h1 : ¬t.val % 6 = 1) (h2 : ¬t.val % 6 = 2) (h3 : ¬t.val % 6 = 3) (h4 : ¬t.val % 6 = 4) (h5 : ¬t.val % 6 = 5) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t), prevHalo m c t) := by
  obtain ⟨n, hn⟩ := t
  cases n with
  | zero => exact rfl
  | succ n => exact (dif_pos h0).trans ((dif_neg h1).trans ((dif_neg h2).trans ((dif_neg h3).trans ((dif_neg h4).trans ((dif_neg h5).trans rfl)))))

/-- The contents after a point of case B. -/
theorem outsAt0_B (c : Dev nD) (t : Fin cfg0.N) (h0 : ¬t.val % 6 = 0) (h1 : t.val % 6 = 1) (h2 : ¬t.val % 6 = 2) (h3 : ¬t.val % 6 = 3) (h4 : ¬t.val % 6 = 4) (h5 : ¬t.val % 6 = 5) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans ((dif_neg h5).trans rfl)))))

/-- The contents after a point of case C. -/
theorem outsAt0_C (c : Dev nD) (t : Fin cfg0.N) (h0 : ¬t.val % 6 = 0) (h1 : ¬t.val % 6 = 1) (h2 : t.val % 6 = 2) (h3 : ¬t.val % 6 = 3) (h4 : ¬t.val % 6 = 4) (h5 : ¬t.val % 6 = 5) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans ((dif_neg h5).trans rfl)))))

/-- The contents after a point of case D. -/
theorem outsAt0_D (c : Dev nD) (t : Fin cfg0.N) (h0 : ¬t.val % 6 = 0) (h1 : ¬t.val % 6 = 1) (h2 : ¬t.val % 6 = 2) (h3 : t.val % 6 = 3) (h4 : ¬t.val % 6 = 4) (h5 : ¬t.val % 6 = 5) :
    outsAt0 m c t.val t.isLt = (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans ((dif_neg h5).trans rfl)))))

/-- The contents after a point of case E. -/
theorem outsAt0_E (c : Dev nD) (t : Fin cfg0.N) (h0 : ¬t.val % 6 = 0) (h1 : ¬t.val % 6 = 1) (h2 : ¬t.val % 6 = 2) (h3 : ¬t.val % 6 = 3) (h4 : t.val % 6 = 4) (h5 : ¬t.val % 6 = 5) :
    outsAt0 m c t.val t.isLt = (out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans ((dif_neg h5).trans rfl)))))

/-- The convolution's first point is at the first row block. -/
theorem first_row : ∀ t : Fin cfg0.N, t.val = 4 → ((grid0.coords t) 0).val = 0 :=
  (by decide +kernel : ∀ t : Fin grid0.N, t.val = 4 → ((grid0.coords t) 0).val = 0)

set_option maxHeartbeats 3200000 in
/-- The same with any carried row, when the row before is not yet stored. -/
theorem outsAt0_E_of (c : Dev nD) (t : Fin cfg0.N) (h0 : ¬t.val % 6 = 0) (h1 : ¬t.val % 6 = 1) (h2 : ¬t.val % 6 = 2) (h3 : ¬t.val % 6 = 3) (h4 : t.val % 6 = 4) (h5 : ¬t.val % 6 = 5)
    (dh : Vec F S8x1024 .f32) (hh : 4 ≤ t.val - 1 → dh = (outsAt0 m c (t.val - 1) (Nat.lt_of_le_of_lt (Nat.sub_le _ _) t.isLt)).2.2) :
    outsAt0 m c t.val t.isLt = (out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 dh, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 dh, sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 dh) := by
  rw [outsAt0_E m c t h0 h1 h2 h3 h4 h5]
  by_cases hq : 4 ≤ t.val - 1
  · rw [hh hq]
  · have hi := first_row t (by omega)
    refine congrArg₂ Prod.mk ?_ (congrArg₂ Prod.mk (Eq.refl _) ?_)
    · exact out0_E_7_any _ _ _ _ _ _ _ _ _ _ _ _ _ _ _ _ _ _ _ _ _ _ _ _ _ _ _ _ _ _ _ _ _ _ _ _ _ _ _ _ _ _ hi
    · exact sout0_E_3_any _ _ _ _ _ _ _ _ _ _ _ _ _ _ _ _ _ _ _ _ _ _ _ _ _ _ _ _ _ _ _ _ _ _ _ _ _ _ _ _ _ _

/-- The contents after a point of case F. -/
theorem outsAt0_F (c : Dev nD) (t : Fin cfg0.N) (h0 : ¬t.val % 6 = 0) (h1 : ¬t.val % 6 = 1) (h2 : ¬t.val % 6 = 2) (h3 : ¬t.val % 6 = 3) (h4 : ¬t.val % 6 = 4) (h5 : t.val % 6 = 5) :
    outsAt0 m c t.val t.isLt = (out0_F_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1, sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_pos h5).trans rfl)))))

/-- Before each point: the carried buffers at what the point before left, the other buffers at anything. The row above is at anything until the convolution's first point. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ (∃ d, owns (c : Thread nD τ) scM0_2 fullShare d) ∗ (∃ d, ⌜4 ≤ n → d = (outsAt0 m c n hn).2.2⌝ ∗ owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` : the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ (∃ d, owns (c : Thread nD τ) scM0_2 fullShare d) ∗ (∃ d, ⌜4 ≤ n → d = (outsAt0 m c n hn).2.2⌝ ∗ owns (c : Thread nD τ) scM0_3 fullShare d)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ (∃ d, owns (c : Thread nD τ) scM0_2 fullShare d) ∗ (∃ d, ⌜4 ≤ n - 1 → d = (outsAt0 m c (n - 1) (by omega)).2.2⌝ ∗ owns (c : Thread nD τ) scM0_3 fullShare d)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start , restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 28800000 in
/-- The body at any point: its case's run applies, from the contents the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 6 = 0
  · by_cases h1 : t.val % 6 = 1
    · exfalso; omega
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h))], after0_7]
              by_cases hz : t.val = 0
              · rw [PhiS_castSucc m c t, PhiS_zero m c _ _ hz, PhiA0_eq]
                rw [outsAt0_A m c t h0 h1 h2 h3 h4 h5]
                unfold out0_A_7 sout0_A_0; (try dsimp only)
                iintro ⟨⟨⟨HS0, HS1, HS2, ⟨%dh, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_A c (grid0.coords t) _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t)).2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [HS0]; · iexact HS0
                isplitl [HS1]; · iexact HS1
                isplitl [HS2]; · iexact HS2
                iintro ⟨H0, H1, H2, H3, H4, H5, H6, ⟨%e7, H7⟩, ⟨%es0, HS0⟩, ⟨%fT1, HS1⟩, ⟨%fT2, HS2⟩⟩
                isplitl [HS0 HS1 HS2 HS3 Hg]
                · isplitl [HS0 HS1 HS2 HS3]
                  · isplitl [HS0]
                    · unfold owns; iexists _; isplitr
                      swap; · iexact HS0
                      ipureintro; exact View.read_writes_of_cover _ _ _ _ _ (scover0_A_0 c _ _ _ _ _ _ _ _ _ _ _ _ _ _ _ _ _ _ _ _ _ _ _ _ _ _ _ _ _ _ _ _ _ _ _ _ _ _)
                    isplitl [HS1]
                    · iexists _; unfold owns; iexists _; isplitr
                      swap; · iexact HS1
                      ipureintro; rfl
                    isplitl [HS2]
                    · iexists _; unfold owns; iexists _; isplitr
                      swap; · iexact HS2
                      ipureintro; rfl
                    iexists dh; isplitr
                    · ipureintro; intro h; exfalso; omega
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                unfold owns; iexists _; isplitr
                swap; · iexact H7
                ipureintro; exact View.read_writes_of_cover _ _ _ _ _ (cover0_A_7 c _ _ _ _ _ _ _ _ _ _ _ _ _ _ _ _ _ _ _ _ _ _ _ _ _ _ _ _ _ _ _ _ _ _ _ _ _ _)
              · rw [PhiS_castSucc m c t, PhiS_pos m c _ _ hz]
                rw [outsAt0_A m c t h0 h1 h2 h3 h4 h5]
                unfold out0_A_7 sout0_A_0; (try dsimp only)
                iintro ⟨⟨⟨HS0, HS1, HS2, ⟨%dh, %hh, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_A c (grid0.coords t) _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t)).2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [HS0]; · iexists _; iexact HS0
                isplitl [HS1]; · iexact HS1
                isplitl [HS2]; · iexact HS2
                iintro ⟨H0, H1, H2, H3, H4, H5, H6, ⟨%e7, H7⟩, ⟨%es0, HS0⟩, ⟨%fT1, HS1⟩, ⟨%fT2, HS2⟩⟩
                isplitl [HS0 HS1 HS2 HS3 Hg]
                · isplitl [HS0 HS1 HS2 HS3]
                  · isplitl [HS0]
                    · unfold owns; iexists _; isplitr
                      swap; · iexact HS0
                      ipureintro; exact View.read_writes_of_cover _ _ _ _ _ (scover0_A_0 c _ _ _ _ _ _ _ _ _ _ _ _ _ _ _ _ _ _ _ _ _ _ _ _ _ _ _ _ _ _ _ _ _ _ _ _ _ _)
                    isplitl [HS1]
                    · iexists _; unfold owns; iexists _; isplitr
                      swap; · iexact HS1
                      ipureintro; rfl
                    isplitl [HS2]
                    · iexists _; unfold owns; iexists _; isplitr
                      swap; · iexact HS2
                      ipureintro; rfl
                    iexists dh; isplitr
                    · ipureintro; intro h; exact (hh (by omega)).trans (prevHalo_pos m c t hz).symm
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                unfold owns; iexists _; isplitr
                swap; · iexact H7
                ipureintro; exact View.read_writes_of_cover _ _ _ _ _ (cover0_A_7 c _ _ _ _ _ _ _ _ _ _ _ _ _ _ _ _ _ _ _ _ _ _ _ _ _ _ _ _ _ _ _ _ _ _ _ _ _ _)
  · by_cases h1 : t.val % 6 = 1
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h))], after0_7]
              by_cases hz : t.val = 0
              · exfalso; have hN : t.val < 48 := lt_of_lt_of_eq t.isLt (show cfg0.N = 48 from N_0); omega
              · rw [PhiS_castSucc m c t, PhiS_pos m c _ _ hz]
                rw [outsAt0_B m c t h0 h1 h2 h3 h4 h5]
                unfold out0_B_7 sout0_B_0; (try dsimp only)
                iintro ⟨⟨⟨HS0, HS1, HS2, ⟨%dh, %hh, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) _).2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [HS0]; · iexact HS0
                isplitl [HS1]; · iexact HS1
                isplitl [HS2]; · iexact HS2
                iintro ⟨H0, H1, H2, H3, H4, H5, H6, ⟨%e7, H7⟩, HS0, ⟨%fT1, HS1⟩, ⟨%fT2, HS2⟩⟩
                isplitl [HS0 HS1 HS2 HS3 Hg]
                · isplitl [HS0 HS1 HS2 HS3]
                  · isplitl [HS0]
                    · iexact HS0
                    isplitl [HS1]
                    · iexists _; unfold owns; iexists _; isplitr
                      swap; · iexact HS1
                      ipureintro; rfl
                    isplitl [HS2]
                    · iexists _; unfold owns; iexists _; isplitr
                      swap; · iexact HS2
                      ipureintro; rfl
                    iexists dh; isplitr
                    · ipureintro; intro h; exact hh (by omega)
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                unfold owns; iexists _; isplitr
                swap; · iexact H7
                ipureintro; exact View.read_writes_of_cover _ _ _ _ _ (cover0_B_7 c _ _ _ _ _ _ _ _ _ _ _ _ _ _ _ _ _ _ _ _ _ _ _ _ _ _ _ _ _ _ _ _ _ _ _ _ _ _ _)
    · by_cases h2 : t.val % 6 = 2
      · by_cases h3 : t.val % 6 = 3
        · exfalso; omega
        · by_cases h4 : t.val % 6 = 4
          · exfalso; omega
          · by_cases h5 : t.val % 6 = 5
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h))], after0_7]
              by_cases hz : t.val = 0
              · exfalso; have hN : t.val < 48 := lt_of_lt_of_eq t.isLt (show cfg0.N = 48 from N_0); omega
              · rw [PhiS_castSucc m c t, PhiS_pos m c _ _ hz]
                rw [outsAt0_C m c t h0 h1 h2 h3 h4 h5]
                unfold out0_C_7 sout0_C_0; (try dsimp only)
                iintro ⟨⟨⟨HS0, HS1, HS2, ⟨%dh, %hh, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) _).2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [HS0]; · iexact HS0
                isplitl [HS1]; · iexact HS1
                isplitl [HS2]; · iexact HS2
                iintro ⟨H0, H1, H2, H3, H4, H5, H6, ⟨%e7, H7⟩, HS0, HS1, HS2⟩
                isplitl [HS0 HS1 HS2 HS3 Hg]
                · isplitl [HS0 HS1 HS2 HS3]
                  · isplitl [HS0]
                    · iexact HS0
                    isplitl [HS1]
                    · iexact HS1
                    isplitl [HS2]
                    · iexact HS2
                    iexists dh; isplitr
                    · ipureintro; intro h; exact hh (by omega)
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                unfold owns; iexists _; isplitr
                swap; · iexact H7
                ipureintro; exact View.read_writes_of_cover _ _ _ _ _ (cover0_C_7 c _ _ _ _ _ _ _ _ _ _ _ _ _ _ _ _ _ _ _ _ _ _ _ _ _ _ _ _ _ _ _ _ _ _ _ _ _ _ _)
      · by_cases h3 : t.val % 6 = 3
        · by_cases h4 : t.val % 6 = 4
          · exfalso; omega
          · by_cases h5 : t.val % 6 = 5
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h))], after0_7]
              by_cases hz : t.val = 0
              · exfalso; have hN : t.val < 48 := lt_of_lt_of_eq t.isLt (show cfg0.N = 48 from N_0); omega
              · rw [PhiS_castSucc m c t, PhiS_pos m c _ _ hz]
                rw [outsAt0_D m c t h0 h1 h2 h3 h4 h5]
                unfold out0_D_7 sout0_D_0; (try dsimp only)
                iintro ⟨⟨⟨HS0, HS1, HS2, ⟨%dh, %hh, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_D c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) _).2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [HS0]; · iexact HS0
                isplitl [HS1]; · iexact HS1
                isplitl [HS2]; · iexact HS2
                iintro ⟨H0, H1, H2, H3, H4, H5, H6, ⟨%e7, H7⟩, HS0, ⟨%fT1, HS1⟩, ⟨%fT2, HS2⟩⟩
                isplitl [HS0 HS1 HS2 HS3 Hg]
                · isplitl [HS0 HS1 HS2 HS3]
                  · isplitl [HS0]
                    · iexact HS0
                    isplitl [HS1]
                    · iexists _; unfold owns; iexists _; isplitr
                      swap; · iexact HS1
                      ipureintro; rfl
                    isplitl [HS2]
                    · iexists _; unfold owns; iexists _; isplitr
                      swap; · iexact HS2
                      ipureintro; rfl
                    iexists dh; isplitr
                    · ipureintro; intro h; exact hh (by omega)
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                unfold owns; iexists _; isplitr
                swap; · iexact H7
                ipureintro; exact View.read_writes_of_cover _ _ _ _ _ (cover0_D_7 c _ _ _ _ _ _ _ _ _ _ _ _ _ _ _ _ _ _ _ _ _ _ _ _ _ _ _ _ _ _ _ _ _ _ _ _ _ _ _)
        · by_cases h4 : t.val % 6 = 4
          · by_cases h5 : t.val % 6 = 5
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))], after0_7]
              by_cases hz : t.val = 0
              · exfalso; have hN : t.val < 48 := lt_of_lt_of_eq t.isLt (show cfg0.N = 48 from N_0); omega
              · rw [PhiS_castSucc m c t, PhiS_pos m c _ _ hz]
                iintro ⟨⟨⟨HS0, HS1, HS2, ⟨%dh, %hh, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                rw [outsAt0_E_of m c t h0 h1 h2 h3 h4 h5 dh hh]
                unfold out0_E_7 sout0_E_0 sout0_E_3; (try dsimp only)
                iapply ((kernelRun0_E c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) _ dh).2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [HS0]; · iexact HS0
                isplitl [HS1]; · iexact HS1
                isplitl [HS2]; · iexact HS2
                isplitl [HS3]; · iexact HS3
                iintro ⟨H0, H1, H2, H3, H4, H5, H6, ⟨%e7, H7⟩, HS0, ⟨%fT1, HS1⟩, ⟨%fT2, HS2⟩, ⟨%es3, HS3⟩⟩
                isplitl [HS0 HS1 HS2 HS3 Hg]
                · isplitl [HS0 HS1 HS2 HS3]
                  · isplitl [HS0]
                    · iexact HS0
                    isplitl [HS1]
                    · iexists _; unfold owns; iexists _; isplitr
                      swap; · iexact HS1
                      ipureintro; rfl
                    isplitl [HS2]
                    · iexists _; unfold owns; iexists _; isplitr
                      swap; · iexact HS2
                      ipureintro; rfl
                    iexists _; isplitr
                    · ipureintro; exact fun _ => rfl
                    unfold owns; iexists _; isplitr
                    swap; · iexact HS3
                    ipureintro; exact View.read_writes_of_cover _ _ _ _ _ (scover0_E_3 c _ _ _ _ _ _ _ _ _ _ _ _ _ _ _ _ _ _ _ _ _ _ _ _ _ _ _ _ _ _ _ _ _ _ _ _ _ _ _ _)
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                unfold owns; iexists _; isplitr
                swap; · iexact H7
                ipureintro; exact View.read_writes_of_cover _ _ _ _ _ (cover0_E_7 c _ _ _ _ _ _ _ _ _ _ _ _ _ _ _ _ _ _ _ _ _ _ _ _ _ _ _ _ _ _ _ _ _ _ _ _ _ _ _ _)
          · by_cases h5 : t.val % 6 = 5
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5)], after0_7]
              by_cases hz : t.val = 0
              · exfalso; have hN : t.val < 48 := lt_of_lt_of_eq t.isLt (show cfg0.N = 48 from N_0); omega
              · rw [PhiS_castSucc m c t, PhiS_pos m c _ _ hz]
                rw [outsAt0_F m c t h0 h1 h2 h3 h4 h5]
                unfold out0_F_7 sout0_F_0; (try dsimp only)
                iintro ⟨⟨⟨HS0, HS1, HS2, ⟨%dh, %hh, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                iapply ((kernelRun0_F c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (iblk m c 6 t) _).2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [HS0]; · iexact HS0
                isplitl [HS1]; · iexact HS1
                isplitl [HS2]; · iexact HS2
                iintro ⟨H0, H1, H2, H3, H4, H5, H6, ⟨%e7, H7⟩, HS0, ⟨%fT1, HS1⟩, ⟨%fT2, HS2⟩⟩
                isplitl [HS0 HS1 HS2 HS3 Hg]
                · isplitl [HS0 HS1 HS2 HS3]
                  · isplitl [HS0]
                    · iexact HS0
                    isplitl [HS1]
                    · iexists _; unfold owns; iexists _; isplitr
                      swap; · iexact HS1
                      ipureintro; rfl
                    isplitl [HS2]
                    · iexists _; unfold owns; iexists _; isplitr
                      swap; · iexact HS2
                      ipureintro; rfl
                    iexists dh; isplitr
                    · ipureintro; intro h; exact hh (by omega)
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                unfold owns; iexists _; isplitr
                swap; · iexact H7
                ipureintro; exact View.read_writes_of_cover _ _ _ _ _ (cover0_F_7 c _ _ _ _ _ _ _ _ _ _ _ _ _ _ _ _ _ _ _ _ _ _ _ _ _ _ _ _ _ _ _ _ _ _ _ _ _ _ _)
            · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, ⟨%dh, %hh, HS3⟩⟩, Hg⟩
  isplitl [HS0 HS1 HS2 HS3]
  · isplitl [HS0]
    · iexists _; iexact HS0
    isplitl [HS1]
    · iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_InEvenIdeal`'s statement at any `F` — Proof.lean cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InEvenIdeal.Hand

end
-- ==== Proof.InEven.Value.lean ====
/- The run of the even sublayer's input projection with its result array named. -/
module

public import proofs.«01_k».proof.Proof.InEven.Frame
public import Idealize.ShloMosaic.Lib.Pipeline.ValueKit
public import Idealize.ShloMosaic.Lib.Pipeline.ReadBack
public import Idealize.ShloMosaic.Lib.Pipeline.Value

@[expose] public section

noncomputable section

namespace Cert.InEvenIdeal.Value

open Cert.InEvenIdeal Cert.InEvenIdeal.Gen Cert.InEvenIdeal.Hand Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v21) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run with the result array named and the arguments unchanged. -/
theorem run_blocks : θ_run defs (onTc (τ := τ) (main (F := F))) ⟨m, fun _ => 0, ρ⟩ fun r => ∀ c : Dev nD,
      r.2.mem ((c : Thread nD τ).loc main_v21) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      kept_main_arg0 m r h c,
      kept_main_arg1 m r h c,
      kept_main_arg2 m r h c,
      kept_main_arg3 m r h c,
      kept_main_arg4 m r h c⟩)
    (run_main m ρ)

end Cert.InEvenIdeal.Value

end
-- ==== Proof.InEven.Chunk.lean ====
/- What each grid point of the even sublayer's input projection leaves, from its blocks, the normed rows and the rows above. -/
module

public import proofs.«01_k».proof.Proof.InEven.Value
public import Idealize.ShloMosaic.Lib.Claim

@[expose] public section

set_option maxRecDepth 16384

noncomputable section

open Idealize.ShloMosaic Idealize.ShloMosaic.TcCoe Idealize.SL.Sem

namespace Cert.InEvenIdeal.Value

open Cert.InEvenIdeal Cert.InEvenIdeal.Gen Cert.InEvenIdeal.Hand

variable {F : FTy → Type} [FloatOps F]
variable (m : (ℓ : Loc nD τ sig) → Buf (Elt F) ℓ)

/-- A row group lies in the block. -/
theorem inb_rows (n : ℕ) : ∀ a, (![256 * (n % 4), 0] : Fin 2 → ℕ) a + (![256, 2048] : Fin 2 → ℕ) a ≤ S1024x2048.size a := by
  have := Nat.mod_lt n (show 0 < 4 by decide)
  intro a
  match a with
  | 0 => show 256 * (n % 4) + 256 ≤ 1024; omega
  | 1 => show 0 + 2048 ≤ 2048; omega

/-- The same of a table of angles. -/
theorem inb_tab (n : ℕ) : ∀ a, (![256 * (n % 4), 0] : Fin 2 → ℕ) a + (![256, 128] : Fin 2 → ℕ) a ≤ S1024x128.size a := by
  have := Nat.mod_lt n (show 0 < 4 by decide)
  intro a
  match a with
  | 0 => show 256 * (n % 4) + 256 ≤ 1024; omega
  | 1 => show 0 + 128 ≤ 128; omega

/-- A tap lies in the taps. -/
theorem inb_tap (j : Fin 4) : ∀ a, (![(j : ℕ), 0] : Fin 2 → ℕ) a + (![1, 1024] : Fin 2 → ℕ) a ≤ S4x1024.size a := by
  have := j.isLt
  intro a
  match a with
  | 0 => show (j : ℕ) + 1 ≤ 4; omega
  | 1 => show 0 + 1024 ≤ 1024; omega

/-- A row group of a block. -/
def rowsI {e : EltTy} (X : Vec F S1024x2048 e) (n : ℕ) : Vec F S256x2048 e :=
  View.ld X (Rect.unit ![256 * (n % 4), 0] ![256, 2048] (inb_rows n))

/-- A row group of a table of angles. -/
def rowsT (X : Vec F S1024x128 .f32) (n : ℕ) : Vec F S256x128 .f32 :=
  View.ld X (Rect.unit ![256 * (n % 4), 0] ![256, 128] (inb_tab n))

/-- A tap. -/
def tapI (X : Vec F S4x1024 .f32) (j : Fin 4) : Vec F S1x1024 .f32 :=
  View.ld X (Rect.unit ![(j : ℕ), 0] ![1, 1024] (inb_tap j))

/-- A row group, normed. -/
def hnI (X : Vec F S1024x2048 .f32) (g : Vec F S1x2048 .f32) (n : ℕ) : FVec F S256x2048 .bf16 :=
  k0_pay4 (rowsI X n) g

/-- A row group's product. -/
def mmI (h : Vec F S256x2048 .bf16) (w : Vec F S1x2048x1024 .f32) : FVec F S1x256x1024 .f32 :=
  k0_pay7 h (k0_pay3 w)

/-- The turned first half of a head, from its two halves' columns. -/
def evenC (a : FVec F S256x1024 .f32) (cs sn : FVec F S256x128 .f32) (o p : ℕ) (ho : S256x1024.Slices ![0, o] S256x128)
    (hp : S256x1024.Slices ![0, p] S256x128) : FVec F S256x128 .f32 :=
  subf (mulf (extractStridedSlice S256x128 ![0, o] a ho) cs) (mulf (extractStridedSlice S256x128 ![0, p] a hp) sn)

/-- The turned second half. -/
def oddC (a : FVec F S256x1024 .f32) (cs sn : FVec F S256x128 .f32) (o p : ℕ) (ho : S256x1024.Slices ![0, o] S256x128)
    (hp : S256x1024.Slices ![0, p] S256x128) : FVec F S256x128 .f32 :=
  addf (mulf (extractStridedSlice S256x128 ![0, o] a ho) sn) (mulf (extractStridedSlice S256x128 ![0, p] a hp) cs)

/-- All heads of a product turned, side by side. -/
def turnC (a : FVec F S256x1024 .f32) (cs sn : FVec F S256x128 .f32) : FVec F S256x1024 .f32 :=
  concatenate S256x1024 1 [⟨S256x128, evenC a cs sn 0 128 slices_S256x1024_o0_0_S256x128 slices_S256x1024_o0_128_S256x128⟩, ⟨S256x128, oddC a cs sn 0 128 slices_S256x1024_o0_0_S256x128 slices_S256x1024_o0_128_S256x128⟩, ⟨S256x128, evenC a cs sn 256 384 slices_S256x1024_o0_256_S256x128 slices_S256x1024_o0_384_S256x128⟩, ⟨S256x128, oddC a cs sn 256 384 slices_S256x1024_o0_256_S256x128 slices_S256x1024_o0_384_S256x128⟩, ⟨S256x128, evenC a cs sn 512 640 slices_S256x1024_o0_512_S256x128 slices_S256x1024_o0_640_S256x128⟩, ⟨S256x128, oddC a cs sn 512 640 slices_S256x1024_o0_512_S256x128 slices_S256x1024_o0_640_S256x128⟩, ⟨S256x128, evenC a cs sn 768 896 slices_S256x1024_o0_768_S256x128 slices_S256x1024_o0_896_S256x128⟩, ⟨S256x128, oddC a cs sn 768 896 slices_S256x1024_o0_768_S256x128 slices_S256x1024_o0_896_S256x128⟩]
    concatenates_S256x128_S256x128_S256x128_S256x128_S256x128_S256x128_S256x128_S256x128_S256x1024_d1

/-- A row group of the queries. -/
def tileQ (a : Vec F S1x256x1024 .f32) (cs sn : Vec F S256x128 .f32) : FVec F S256x1024 .bf16 :=
  truncf .bf16 (turnC (shapeCast S256x1024 a shapeCasts_S1x256x1024_S256x1024) (shapeCast S256x128 cs shapeCasts_S256x128_S256x128)
    (shapeCast S256x128 sn shapeCasts_S256x128_S256x128)) bitsLt_bf16_f32

/-- A table of angles times the scale of the keys. -/
def scaleT (cs : Vec F S256x128 .f32) : FVec F S256x128 .f32 :=
  mulf (shapeCast S256x128 cs shapeCasts_S256x128_S256x128) (broadcast S256x128 (Scalar.ofBits .f32 0x3D800000#32))

/-- A row group of the keys. -/
def tileK (a : Vec F S1x256x1024 .f32) (cs sn : Vec F S256x128 .f32) : FVec F S256x1024 .bf16 :=
  truncf .bf16 (turnC (shapeCast S256x1024 a shapeCasts_S1x256x1024_S256x1024) (scaleT cs) (scaleT sn)) bitsLt_bf16_f32

/-- Whether a row block starts a sequence. -/
def freshI (i : grid0.Coords) : BitVec 1 :=
  Scalar.cmpi .eq (Scalar.select (Scalar.andi (kernelRun0_E.sl.v44 i) (kernelRun0_E.sl.v41 i))
    (Scalar.addi (kernelRun0_E.sl.v40 i) 2#32) (kernelRun0_E.sl.v40 i)) 0#32

/-- The rows above a row group: carried ones or zeros above the first, then the last rows of the group before. -/
def aboveI (i : grid0.Coords) (hp : Vec F S8x1024 .f32) (P : ℕ → Vec F S1x256x1024 .f32) : ℕ → Vec F S8x1024 .f32
  | 0 => Scalar.select (freshI i) (broadcast S8x1024 (Scalar.ofBits .f32 0x00000000#32)) hp
  | n + 1 => k0_pay66 (P n)

/-- A row group of the convolution. -/
def tileC (a : Vec F S1x256x1024 .f32) (H : Vec F S8x1024 .f32) (w : Vec F S4x1024 .f32) (b : Vec F S1x1024 .f32) : FVec F S256x1024 .bf16 :=
  k0_pay80 (k0_pay58 a) H 0#1 (Scalar.ofBits .f32 0x00000000#32) (tapI w 3) b (tapI w 2) (tapI w 1) (tapI w 0)

set_option maxHeartbeats 4000000 in
/-- The queries. -/
theorem outA_eq (c : Dev nD) (t : Fin cfg0.N) (h0 : t.val % 6 = 0) (h1 : ¬t.val % 6 = 1) (h2 : ¬t.val % 6 = 2) (h3 : ¬t.val % 6 = 3) (h4 : ¬t.val % 6 = 4) (h5 : ¬t.val % 6 = 5) (y : S1024x1024.Idx) (n : Fin 4)
    (x : S256x1024.Idx) (hy0 : (y 0 : ℕ) = 256 * n + x 0) (hy1 : (y 1 : ℕ) = x 1) :
    (outsAt0 m c t.val t.isLt).1 y = tileQ (mmI (hnI (iblk m c 0 t) (iblk m c 1 t) n) (iblk m c 2 t)) (rowsT (iblk m c 3 t) n) (rowsT (iblk m c 4 t) n) x := by
  rw [outsAt0_A m c t h0 h1 h2 h3 h4 h5]
  dsimp only
  unfold out0_A_7
  frame_open
  simp (disch := decide) only [↓ View.readCov_skip, ↓ View.readCov_cons_toLoadRect, ↓ View.readCov_fill]
  frame_out
  have hx0 : (x 0 : ℕ) < 256 := (x 0).isLt
  canon_tiles w h
  case piece0 =>
    obtain rfl : n = 3 := by ext; show (n : ℕ) = 3; omega
    obtain rfl : x = w := by funext a; match a with | 0 => ext; omega | 1 => ext; omega
    rfl
  case piece1 =>
    obtain rfl : n = 2 := by ext; show (n : ℕ) = 2; omega
    obtain rfl : x = w := by funext a; match a with | 0 => ext; omega | 1 => ext; omega
    rfl
  case piece2 =>
    obtain rfl : n = 1 := by ext; show (n : ℕ) = 1; omega
    obtain rfl : x = w := by funext a; match a with | 0 => ext; omega | 1 => ext; omega
    rfl
  case piece3 =>
    obtain rfl : n = 0 := by ext; show (n : ℕ) = 0; omega
    obtain rfl : x = w := by funext a; match a with | 0 => ext; omega | 1 => ext; omega
    rfl

set_option maxHeartbeats 4000000 in
/-- The normed rows, kept for the later columns. -/
theorem hnA_eq (c : Dev nD) (t : Fin cfg0.N) (h0 : t.val % 6 = 0) (h1 : ¬t.val % 6 = 1) (h2 : ¬t.val % 6 = 2) (h3 : ¬t.val % 6 = 3) (h4 : ¬t.val % 6 = 4) (h5 : ¬t.val % 6 = 5) (y : S1024x2048.Idx) (n : Fin 4)
    (x : S256x2048.Idx) (hy0 : (y 0 : ℕ) = 256 * n + x 0) (hy1 : (y 1 : ℕ) = x 1) :
    (outsAt0 m c t.val t.isLt).2.1 y = hnI (iblk m c 0 t) (iblk m c 1 t) n x := by
  rw [outsAt0_A m c t h0 h1 h2 h3 h4 h5]
  dsimp only
  unfold sout0_A_0
  frame_open
  simp (disch := decide) only [↓ View.readCov_skip, ↓ View.readCov_cons_toLoadRect, ↓ View.readCov_fill]
  frame_out
  have hx0 : (x 0 : ℕ) < 256 := (x 0).isLt
  canon_tiles w h
  case piece0 =>
    obtain rfl : n = 3 := by ext; show (n : ℕ) = 3; omega
    obtain rfl : x = w := by funext a; match a with | 0 => ext; omega | 1 => ext; omega
    rfl
  case piece1 =>
    obtain rfl : n = 2 := by ext; show (n : ℕ) = 2; omega
    obtain rfl : x = w := by funext a; match a with | 0 => ext; omega | 1 => ext; omega
    rfl
  case piece2 =>
    obtain rfl : n = 1 := by ext; show (n : ℕ) = 1; omega
    obtain rfl : x = w := by funext a; match a with | 0 => ext; omega | 1 => ext; omega
    rfl
  case piece3 =>
    obtain rfl : n = 0 := by ext; show (n : ℕ) = 0; omega
    obtain rfl : x = w := by funext a; match a with | 0 => ext; omega | 1 => ext; omega
    rfl

set_option maxHeartbeats 4000000 in
/-- The keys. -/
theorem outB_eq (c : Dev nD) (t : Fin cfg0.N) (h0 : ¬t.val % 6 = 0) (h1 : t.val % 6 = 1) (h2 : ¬t.val % 6 = 2) (h3 : ¬t.val % 6 = 3) (h4 : ¬t.val % 6 = 4) (h5 : ¬t.val % 6 = 5) (y : S1024x1024.Idx) (n : Fin 4)
    (x : S256x1024.Idx) (hy0 : (y 0 : ℕ) = 256 * n + x 0) (hy1 : (y 1 : ℕ) = x 1) :
    (outsAt0 m c t.val t.isLt).1 y = tileK (mmI (rowsI (outsAt0 m c (t.val - 1) (Nat.lt_of_le_of_lt (Nat.sub_le _ _) t.isLt)).2.1 n) (iblk m c 2 t)) (rowsT (iblk m c 3 t) n) (rowsT (iblk m c 4 t) n) x := by
  rw [outsAt0_B m c t h0 h1 h2 h3 h4 h5]
  dsimp only
  unfold out0_B_7
  frame_open
  simp (disch := decide) only [↓ View.readCov_skip, ↓ View.readCov_cons_toLoadRect, ↓ View.readCov_fill]
  frame_out
  simp only [read_unread_whole]
  have hx0 : (x 0 : ℕ) < 256 := (x 0).isLt
  canon_tiles w h
  case piece0 =>
    obtain rfl : n = 3 := by ext; show (n : ℕ) = 3; omega
    obtain rfl : x = w := by funext a; match a with | 0 => ext; omega | 1 => ext; omega
    rfl
  case piece1 =>
    obtain rfl : n = 2 := by ext; show (n : ℕ) = 2; omega
    obtain rfl : x = w := by funext a; match a with | 0 => ext; omega | 1 => ext; omega
    rfl
  case piece2 =>
    obtain rfl : n = 1 := by ext; show (n : ℕ) = 1; omega
    obtain rfl : x = w := by funext a; match a with | 0 => ext; omega | 1 => ext; omega
    rfl
  case piece3 =>
    obtain rfl : n = 0 := by ext; show (n : ℕ) = 0; omega
    obtain rfl : x = w := by funext a; match a with | 0 => ext; omega | 1 => ext; omega
    rfl

/-- The values: the plain product. -/
theorem outC_eq (c : Dev nD) (t : Fin cfg0.N) (h0 : ¬t.val % 6 = 0) (h1 : ¬t.val % 6 = 1) (h2 : t.val % 6 = 2) (h3 : ¬t.val % 6 = 3) (h4 : ¬t.val % 6 = 4) (h5 : ¬t.val % 6 = 5) (y : S1024x1024.Idx) :
    (outsAt0 m c t.val t.isLt).1 y = k0_pay2 (outsAt0 m c (t.val - 1) (Nat.lt_of_le_of_lt (Nat.sub_le _ _) t.isLt)).2.1 (iblk m c 2 t) y := by
  rw [outsAt0_C m c t h0 h1 h2 h3 h4 h5]
  dsimp only
  unfold out0_C_7
  frame_open
  simp (disch := decide) only [↓ View.readCov_skip, ↓ View.readCov_cons_toLoadRect, ↓ View.readCov_fill]
  frame_out
  simp only [read_unread_whole]

set_option maxHeartbeats 4000000 in
/-- The silu of the gate. -/
theorem outD_eq (c : Dev nD) (t : Fin cfg0.N) (h0 : ¬t.val % 6 = 0) (h1 : ¬t.val % 6 = 1) (h2 : ¬t.val % 6 = 2) (h3 : t.val % 6 = 3) (h4 : ¬t.val % 6 = 4) (h5 : ¬t.val % 6 = 5) (y : S1024x1024.Idx) (n : Fin 4)
    (x : S256x1024.Idx) (hy0 : (y 0 : ℕ) = 256 * n + x 0) (hy1 : (y 1 : ℕ) = x 1) :
    (outsAt0 m c t.val t.isLt).1 y = k0_pay49 (mmI (rowsI (outsAt0 m c (t.val - 1) (Nat.lt_of_le_of_lt (Nat.sub_le _ _) t.isLt)).2.1 n) (iblk m c 2 t)) x := by
  rw [outsAt0_D m c t h0 h1 h2 h3 h4 h5]
  dsimp only
  unfold out0_D_7
  frame_open
  simp (disch := decide) only [↓ View.readCov_skip, ↓ View.readCov_cons_toLoadRect, ↓ View.readCov_fill]
  frame_out
  simp only [read_unread_whole]
  have hx0 : (x 0 : ℕ) < 256 := (x 0).isLt
  canon_tiles w h
  case piece0 =>
    obtain rfl : n = 3 := by ext; show (n : ℕ) = 3; omega
    obtain rfl : x = w := by funext a; match a with | 0 => ext; omega | 1 => ext; omega
    rfl
  case piece1 =>
    obtain rfl : n = 2 := by ext; show (n : ℕ) = 2; omega
    obtain rfl : x = w := by funext a; match a with | 0 => ext; omega | 1 => ext; omega
    rfl
  case piece2 =>
    obtain rfl : n = 1 := by ext; show (n : ℕ) = 1; omega
    obtain rfl : x = w := by funext a; match a with | 0 => ext; omega | 1 => ext; omega
    rfl
  case piece3 =>
    obtain rfl : n = 0 := by ext; show (n : ℕ) = 0; omega
    obtain rfl : x = w := by funext a; match a with | 0 => ext; omega | 1 => ext; omega
    rfl

/-- A later column keeps the normed rows. -/
theorem hnB_eq (c : Dev nD) (t : Fin cfg0.N) (h0 : ¬t.val % 6 = 0) (h1 : t.val % 6 = 1) (h2 : ¬t.val % 6 = 2) (h3 : ¬t.val % 6 = 3) (h4 : ¬t.val % 6 = 4) (h5 : ¬t.val % 6 = 5) : (outsAt0 m c t.val t.isLt).2.1 = (outsAt0 m c (t.val - 1) (Nat.lt_of_le_of_lt (Nat.sub_le _ _) t.isLt)).2.1 := by
  rw [outsAt0_B m c t h0 h1 h2 h3 h4 h5]
  rfl

/-- A later column keeps the normed rows. -/
theorem hnC_eq (c : Dev nD) (t : Fin cfg0.N) (h0 : ¬t.val % 6 = 0) (h1 : ¬t.val % 6 = 1) (h2 : t.val % 6 = 2) (h3 : ¬t.val % 6 = 3) (h4 : ¬t.val % 6 = 4) (h5 : ¬t.val % 6 = 5) : (outsAt0 m c t.val t.isLt).2.1 = (outsAt0 m c (t.val - 1) (Nat.lt_of_le_of_lt (Nat.sub_le _ _) t.isLt)).2.1 := by
  rw [outsAt0_C m c t h0 h1 h2 h3 h4 h5]
  rfl

/-- A later column keeps the normed rows. -/
theorem hnD_eq (c : Dev nD) (t : Fin cfg0.N) (h0 : ¬t.val % 6 = 0) (h1 : ¬t.val % 6 = 1) (h2 : ¬t.val % 6 = 2) (h3 : t.val % 6 = 3) (h4 : ¬t.val % 6 = 4) (h5 : ¬t.val % 6 = 5) : (outsAt0 m c t.val t.isLt).2.1 = (outsAt0 m c (t.val - 1) (Nat.lt_of_le_of_lt (Nat.sub_le _ _) t.isLt)).2.1 := by
  rw [outsAt0_D m c t h0 h1 h2 h3 h4 h5]
  rfl

/-- A later column keeps the normed rows. -/
theorem hnE_eq (c : Dev nD) (t : Fin cfg0.N) (h0 : ¬t.val % 6 = 0) (h1 : ¬t.val % 6 = 1) (h2 : ¬t.val % 6 = 2) (h3 : ¬t.val % 6 = 3) (h4 : t.val % 6 = 4) (h5 : ¬t.val % 6 = 5) : (outsAt0 m c t.val t.isLt).2.1 = (outsAt0 m c (t.val - 1) (Nat.lt_of_le_of_lt (Nat.sub_le _ _) t.isLt)).2.1 := by
  rw [outsAt0_E m c t h0 h1 h2 h3 h4 h5]
  rfl

/-- The other columns keep the carried rows. -/
theorem haloB_eq (c : Dev nD) (t : Fin cfg0.N) (h0 : ¬t.val % 6 = 0) (h1 : t.val % 6 = 1) (h2 : ¬t.val % 6 = 2) (h3 : ¬t.val % 6 = 3) (h4 : ¬t.val % 6 = 4) (h5 : ¬t.val % 6 = 5) : (outsAt0 m c t.val t.isLt).2.2 = (outsAt0 m c (t.val - 1) (Nat.lt_of_le_of_lt (Nat.sub_le _ _) t.isLt)).2.2 := by
  rw [outsAt0_B m c t h0 h1 h2 h3 h4 h5]

/-- The other columns keep the carried rows. -/
theorem haloC_eq (c : Dev nD) (t : Fin cfg0.N) (h0 : ¬t.val % 6 = 0) (h1 : ¬t.val % 6 = 1) (h2 : t.val % 6 = 2) (h3 : ¬t.val % 6 = 3) (h4 : ¬t.val % 6 = 4) (h5 : ¬t.val % 6 = 5) : (outsAt0 m c t.val t.isLt).2.2 = (outsAt0 m c (t.val - 1) (Nat.lt_of_le_of_lt (Nat.sub_le _ _) t.isLt)).2.2 := by
  rw [outsAt0_C m c t h0 h1 h2 h3 h4 h5]

/-- The other columns keep the carried rows. -/
theorem haloD_eq (c : Dev nD) (t : Fin cfg0.N) (h0 : ¬t.val % 6 = 0) (h1 : ¬t.val % 6 = 1) (h2 : ¬t.val % 6 = 2) (h3 : t.val % 6 = 3) (h4 : ¬t.val % 6 = 4) (h5 : ¬t.val % 6 = 5) : (outsAt0 m c t.val t.isLt).2.2 = (outsAt0 m c (t.val - 1) (Nat.lt_of_le_of_lt (Nat.sub_le _ _) t.isLt)).2.2 := by
  rw [outsAt0_D m c t h0 h1 h2 h3 h4 h5]

/-- The other columns keep the carried rows. -/
theorem haloF_eq (c : Dev nD) (t : Fin cfg0.N) (h0 : ¬t.val % 6 = 0) (h1 : ¬t.val % 6 = 1) (h2 : ¬t.val % 6 = 2) (h3 : ¬t.val % 6 = 3) (h4 : ¬t.val % 6 = 4) (h5 : t.val % 6 = 5) : (outsAt0 m c t.val t.isLt).2.2 = (outsAt0 m c (t.val - 1) (Nat.lt_of_le_of_lt (Nat.sub_le _ _) t.isLt)).2.2 := by
  rw [outsAt0_F m c t h0 h1 h2 h3 h4 h5]

/-- So does the first. -/
theorem haloA_eq (c : Dev nD) (t : Fin cfg0.N) (h0 : t.val % 6 = 0) (h1 : ¬t.val % 6 = 1) (h2 : ¬t.val % 6 = 2) (h3 : ¬t.val % 6 = 3) (h4 : ¬t.val % 6 = 4) (h5 : ¬t.val % 6 = 5) (hz : t.val ≠ 0) : (outsAt0 m c t.val t.isLt).2.2 = (outsAt0 m c (t.val - 1) (Nat.lt_of_le_of_lt (Nat.sub_le _ _) t.isLt)).2.2 := by
  rw [outsAt0_A m c t h0 h1 h2 h3 h4 h5]
  exact prevHalo_pos m c t hz

end Cert.InEvenIdeal.Value

end
-- ==== Proof.InEven.ChunkC.lean ====
/- What the later grid points of the even sublayer's input projection leaves, from its blocks, the normed rows and the rows above. -/
module

public import proofs.«01_k».proof.Proof.InEven.Chunk
public import Idealize.ShloMosaic.Lib.Claim

@[expose] public section

set_option maxRecDepth 16384

noncomputable section

open Idealize.ShloMosaic Idealize.ShloMosaic.TcCoe Idealize.SL.Sem

namespace Cert.InEvenIdeal.Value

open Cert.InEvenIdeal Cert.InEvenIdeal.Gen Cert.InEvenIdeal.Hand

variable {F : FTy → Type} [FloatOps F]
variable (m : (ℓ : Loc nD τ sig) → Buf (Elt F) ℓ)

set_option maxHeartbeats 4000000 in
/-- The convolution. -/
theorem outE_eq (c : Dev nD) (t : Fin cfg0.N) (h0 : ¬t.val % 6 = 0) (h1 : ¬t.val % 6 = 1) (h2 : ¬t.val % 6 = 2) (h3 : ¬t.val % 6 = 3) (h4 : t.val % 6 = 4) (h5 : ¬t.val % 6 = 5) (y : S1024x1024.Idx) (n : Fin 4)
    (x : S256x1024.Idx) (hy0 : (y 0 : ℕ) = 256 * n + x 0) (hy1 : (y 1 : ℕ) = x 1) :
    (outsAt0 m c t.val t.isLt).1 y = tileC (mmI (rowsI (outsAt0 m c (t.val - 1) (Nat.lt_of_le_of_lt (Nat.sub_le _ _) t.isLt)).2.1 n) (iblk m c 2 t)) (aboveI (grid0.coords t) (outsAt0 m c (t.val - 1) (Nat.lt_of_le_of_lt (Nat.sub_le _ _) t.isLt)).2.2 (fun k => mmI (rowsI (outsAt0 m c (t.val - 1) (Nat.lt_of_le_of_lt (Nat.sub_le _ _) t.isLt)).2.1 k) (iblk m c 2 t)) n) (iblk m c 5 t) (iblk m c 6 t) x := by
  rw [outsAt0_E m c t h0 h1 h2 h3 h4 h5]
  dsimp only
  unfold out0_E_7
  frame_open
  try unfold kernelRun0_E.sl.r_1
  try unfold kernelRun0_E.sl.r_2
  simp (disch := decide) only [↓ View.readCov_skip, ↓ View.readCov_cons_toLoadRect, ↓ View.readCov_fill]
  frame_out
  simp only [read_unread_whole]
  have hx0 : (x 0 : ℕ) < 256 := (x 0).isLt
  canon_tiles w h
  case piece0 =>
    obtain rfl : n = 3 := by ext; show (n : ℕ) = 3; omega
    obtain rfl : x = w := by funext a; match a with | 0 => ext; omega | 1 => ext; omega
    rfl
  case piece1 =>
    obtain rfl : n = 2 := by ext; show (n : ℕ) = 2; omega
    obtain rfl : x = w := by funext a; match a with | 0 => ext; omega | 1 => ext; omega
    rfl
  case piece2 =>
    obtain rfl : n = 1 := by ext; show (n : ℕ) = 1; omega
    obtain rfl : x = w := by funext a; match a with | 0 => ext; omega | 1 => ext; omega
    rfl
  case piece3 =>
    obtain rfl : n = 0 := by ext; show (n : ℕ) = 0; omega
    obtain rfl : x = w := by funext a; match a with | 0 => ext; omega | 1 => ext; omega
    rfl

set_option maxHeartbeats 4000000 in
/-- The rows carried to the next row block: the last of this one's product. -/
theorem haloE_eq (c : Dev nD) (t : Fin cfg0.N) (h0 : ¬t.val % 6 = 0) (h1 : ¬t.val % 6 = 1) (h2 : ¬t.val % 6 = 2) (h3 : ¬t.val % 6 = 3) (h4 : t.val % 6 = 4) (h5 : ¬t.val % 6 = 5) :
    (outsAt0 m c t.val t.isLt).2.2 = k0_pay66 (mmI (rowsI (outsAt0 m c (t.val - 1) (Nat.lt_of_le_of_lt (Nat.sub_le _ _) t.isLt)).2.1 3) (iblk m c 2 t)) := by
  rw [outsAt0_E m c t h0 h1 h2 h3 h4 h5]
  dsimp only
  unfold sout0_E_3
  frame_open
  try unfold kernelRun0_E.sl.r_1
  try unfold kernelRun0_E.sl.r_2
  simp (disch := decide) only [↓ View.readCov_skip, ↓ View.readCov_cons_toLoadRect, ↓ View.readCov_fill]
  frame_out
  simp only [read_unread_whole]
  rfl

set_option maxHeartbeats 4000000 in
/-- The gelu of the other gate. -/
theorem outF_eq (c : Dev nD) (t : Fin cfg0.N) (h0 : ¬t.val % 6 = 0) (h1 : ¬t.val % 6 = 1) (h2 : ¬t.val % 6 = 2) (h3 : ¬t.val % 6 = 3) (h4 : ¬t.val % 6 = 4) (h5 : t.val % 6 = 5) (y : S1024x1024.Idx) (n : Fin 4)
    (x : S256x1024.Idx) (hy0 : (y 0 : ℕ) = 256 * n + x 0) (hy1 : (y 1 : ℕ) = x 1) :
    (outsAt0 m c t.val t.isLt).1 y = k0_pay89 (mmI (rowsI (outsAt0 m c (t.val - 1) (Nat.lt_of_le_of_lt (Nat.sub_le _ _) t.isLt)).2.1 n) (iblk m c 2 t)) x := by
  rw [outsAt0_F m c t h0 h1 h2 h3 h4 h5]
  dsimp only
  unfold out0_F_7
  frame_open
  simp (disch := decide) only [↓ View.readCov_skip, ↓ View.readCov_cons_toLoadRect, ↓ View.readCov_fill]
  frame_out
  simp only [read_unread_whole]
  have hx0 : (x 0 : ℕ) < 256 := (x 0).isLt
  canon_tiles w h
  case piece0 =>
    obtain rfl : n = 3 := by ext; show (n : ℕ) = 3; omega
    obtain rfl : x = w := by funext a; match a with | 0 => ext; omega | 1 => ext; omega
    rfl
  case piece1 =>
    obtain rfl : n = 2 := by ext; show (n : ℕ) = 2; omega
    obtain rfl : x = w := by funext a; match a with | 0 => ext; omega | 1 => ext; omega
    rfl
  case piece2 =>
    obtain rfl : n = 1 := by ext; show (n : ℕ) = 1; omega
    obtain rfl : x = w := by funext a; match a with | 0 => ext; omega | 1 => ext; omega
    rfl
  case piece3 =>
    obtain rfl : n = 0 := by ext; show (n : ℕ) = 0; omega
    obtain rfl : x = w := by funext a; match a with | 0 => ext; omega | 1 => ext; omega
    rfl

end Cert.InEvenIdeal.Value

end
-- ==== Proof.InEven.Spec.lean ====
/- The even sublayer's turn by position, convolution and gates over the extended reals. -/
module

public import proofs.«01_k».proof.Proof.In.Spec

@[expose] public section

noncomputable section

open Idealize.ShloMosaic

namespace Cert.InEvenSpec

/-- Heads of 256, the two halves of a head turned against one another by the position's angles. -/
def turnS (f : Fin 1024 → EReal) (cs sn : Fin 128 → EReal) (q : Fin 1024) : EReal :=
  if (q : ℕ) % 256 < 128 then
    f ⟨256 * (q / 256) + q % 128, by omega⟩ * cs ⟨q % 128, by omega⟩
      - f ⟨256 * (q / 256) + 128 + q % 128, by omega⟩ * sn ⟨q % 128, by omega⟩
  else
    f ⟨256 * (q / 256) + q % 128, by omega⟩ * sn ⟨q % 128, by omega⟩
      + f ⟨256 * (q / 256) + 128 + q % 128, by omega⟩ * cs ⟨q % 128, by omega⟩

/-- The silu. -/
def siluS (a : EReal) : EReal := a * Ideal.div 1 (1 + Ideal.exp (-a))

/-- The gelu. -/
def geluS (a : EReal) : EReal :=
  a * (Ideal.ofBits FTy.f32 1056964608#32 * (Ideal.ofBits FTy.f32 1065353216#32
    + Ideal.tanh (Ideal.ofBits FTy.f32 1061962282#32 * (a + Ideal.ofBits FTy.f32 1027024659#32 * (a * a * a)))))

/-- A sequence's value some steps back, zero before its start. -/
def backS (f : Fin 2048 → EReal) (s : Fin 2048) (j : ℕ) : EReal :=
  if j ≤ (s : ℕ) then f ⟨s - j, by omega⟩ else 0

/-- The causal convolution along a sequence. -/
def convS (f : Fin 2048 → EReal) (w : Fin 4 → EReal) (b : EReal) (s : Fin 2048) : EReal :=
  backS f s 3 * w 0 + backS f s 2 * w 1 + backS f s 1 * w 2 + backS f s 0 * w 3 + b

end Cert.InEvenSpec

end
-- ==== Proof.InEven.Kern.lean ====
/- What a grid point of the even sublayer's input projection computes, read at an index over the extended reals. -/
module

public import proofs.«01_k».proof.Proof.InEven.ChunkC
public import proofs.«01_k».proof.Proof.InEven.Spec
public import Idealize.ShloMosaic.Lib.KernelVsHost

@[expose] public section

set_option maxRecDepth 16384

noncomputable section

open Idealize.ShloMosaic Idealize.ShloMosaic.TcCoe Idealize.SL.Sem

namespace Cert.InEvenIdeal.Value

open Cert.InEvenIdeal Cert.InEvenIdeal.Gen Cert.InSpec Cert.InEvenSpec

/-- A row group's normed rows at an index. -/
theorem hnI_at (X : Vec Ideal S1024x2048 .f32) (g : Vec Ideal S1x2048 .f32) (n : ℕ) (hn : n < 4) (i : Fin 256)
    (r : Fin 1024) (hr : (r : ℕ) = 256 * n + i) (k : Fin 2048) :
    hnI X g n (ix2 i k) = hnS (fun k => X (ix2 r k)) (fun k => g (ix2 0 k)) k := by
  have e : (⟨256 * (n % 4) + i, by omega⟩ : Fin 1024) = r := Fin.ext (by show 256 * (n % 4) + (i : ℕ) = r; omega)
  unfold hnS
  rw [← e]
  pointwise [hnI, k0_pay4, rowsI]

/-- A product at an index. -/
theorem mmI_at (h : Vec Ideal S256x2048 .bf16) (w : Vec Ideal S1x2048x1024 .f32) (i : Fin 256) (e : Fin 1024) :
    mmI h w (ix3 0 i e) = mmS (fun k => h (ix2 i k)) (fun k => w (ix3 0 k e)) := by
  unfold mmS
  pointwise [mmI, k0_pay7, k0_pay3]

/-- The plain product at an index. -/
theorem mmV_at (h : Vec Ideal S1024x2048 .bf16) (w : Vec Ideal S1x2048x1024 .f32) (i : Fin 1024) (e : Fin 1024) :
    k0_pay2 h w (ix2 i e) = mmS (fun k => h (ix2 i k)) (fun k => w (ix3 0 k e)) := by
  unfold mmS
  pointwise [k0_pay2]

/-- The first half of a turned head at an index. -/
theorem evenC_at (a : FVec Ideal S256x1024 .f32) (cs sn : FVec Ideal S256x128 .f32) (o p : ℕ)
    (ho : S256x1024.Slices ![0, o] S256x128) (hp : S256x1024.Slices ![0, p] S256x128) (i : Fin 256) (d : Fin 128)
    (P Q : Fin 1024) (hP : (P : ℕ) = o + d) (hQ : (Q : ℕ) = p + d) :
    evenC a cs sn o p ho hp (ix2 i d) = a (ix2 i P) * cs (ix2 i d) - a (ix2 i Q) * sn (ix2 i d) := by
  have eP : (⟨o + d, hP ▸ P.isLt⟩ : Fin 1024) = P := Fin.ext hP.symm
  have eQ : (⟨p + d, hQ ▸ Q.isLt⟩ : Fin 1024) = Q := Fin.ext hQ.symm
  rw [← eP, ← eQ]
  pointwise [evenC]

/-- The second. -/
theorem oddC_at (a : FVec Ideal S256x1024 .f32) (cs sn : FVec Ideal S256x128 .f32) (o p : ℕ)
    (ho : S256x1024.Slices ![0, o] S256x128) (hp : S256x1024.Slices ![0, p] S256x128) (i : Fin 256) (d : Fin 128)
    (P Q : Fin 1024) (hP : (P : ℕ) = o + d) (hQ : (Q : ℕ) = p + d) :
    oddC a cs sn o p ho hp (ix2 i d) = a (ix2 i P) * sn (ix2 i d) + a (ix2 i Q) * cs (ix2 i d) := by
  have eP : (⟨o + d, hP ▸ P.isLt⟩ : Fin 1024) = P := Fin.ext hP.symm
  have eQ : (⟨p + d, hQ ▸ Q.isLt⟩ : Fin 1024) = Q := Fin.ext hQ.symm
  rw [← eP, ← eQ]
  pointwise [oddC]

/-- The turn where the column lies in the first half of its head. -/
theorem turnS_even (f : Fin 1024 → EReal) (cs sn : Fin 128 → EReal) (o : ℕ) (ho : o % 256 = 0) (d : Fin 128) (P Q : Fin 1024)
    (hP : (P : ℕ) = o + d) (hQ : (Q : ℕ) = o + 128 + d) (q : Fin 1024) (hq : (q : ℕ) = o + d) :
    turnS f cs sn q = f P * cs d - f Q * sn d := by
  have hd := d.isLt
  have e1 : (⟨256 * (q / 256) + q % 128, by omega⟩ : Fin 1024) = P := Fin.ext (by show 256 * ((q : ℕ) / 256) + q % 128 = P; omega)
  have e2 : (⟨256 * (q / 256) + 128 + q % 128, by omega⟩ : Fin 1024) = Q := Fin.ext (by show 256 * ((q : ℕ) / 256) + 128 + q % 128 = Q; omega)
  have e3 : (⟨q % 128, by omega⟩ : Fin 128) = d := Fin.ext (by show (q : ℕ) % 128 = d; omega)
  unfold turnS
  rw [if_pos (by omega)]
  simp only [e1, e2, e3]

/-- And in the second. -/
theorem turnS_odd (f : Fin 1024 → EReal) (cs sn : Fin 128 → EReal) (o : ℕ) (ho : o % 256 = 0) (d : Fin 128) (P Q : Fin 1024)
    (hP : (P : ℕ) = o + d) (hQ : (Q : ℕ) = o + 128 + d) (q : Fin 1024) (hq : (q : ℕ) = o + 128 + d) :
    turnS f cs sn q = f P * sn d + f Q * cs d := by
  have hd := d.isLt
  have e1 : (⟨256 * (q / 256) + q % 128, by omega⟩ : Fin 1024) = P := Fin.ext (by show 256 * ((q : ℕ) / 256) + q % 128 = P; omega)
  have e2 : (⟨256 * (q / 256) + 128 + q % 128, by omega⟩ : Fin 1024) = Q := Fin.ext (by show 256 * ((q : ℕ) / 256) + 128 + q % 128 = Q; omega)
  have e3 : (⟨q % 128, by omega⟩ : Fin 128) = d := Fin.ext (by show (q : ℕ) % 128 = d; omega)
  unfold turnS
  rw [if_neg (by omega)]
  simp only [e1, e2, e3]

/-- Eight pieces side by side at an index. -/
theorem cat_at (A : Fin 8 → FVec Ideal S256x128 .f32) (i : Fin 256) (e : Fin 1024) (h : Fin 8)
    (d : Fin 128) (he : (e : ℕ) = 128 * h + d) :
    concatenate S256x1024 1 [⟨S256x128, A 0⟩, ⟨S256x128, A 1⟩, ⟨S256x128, A 2⟩, ⟨S256x128, A 3⟩, ⟨S256x128, A 4⟩, ⟨S256x128, A 5⟩, ⟨S256x128, A 6⟩, ⟨S256x128, A 7⟩]
      concatenates_S256x128_S256x128_S256x128_S256x128_S256x128_S256x128_S256x128_S256x128_S256x1024_d1 (ix2 i e) = A h (ix2 i d) :=
  concatenate_ofFn_apply (t := S256x1024) (s₁ := S256x128) 1 A concatenates_S256x128_S256x128_S256x128_S256x128_S256x128_S256x128_S256x128_S256x128_S256x1024_d1
    rfl 128 rfl (ix2 i e) h (by show (e : ℕ) / 128 = h; omega) (ix2 i d) (by show (d : ℕ) = e % 128; omega)
    (fun b hb => by match b with | 0 => rfl | 1 => exact absurd rfl hb)

/-- The turned heads side by side at an index. -/
theorem turnC_at (a : FVec Ideal S256x1024 .f32) (cs sn : FVec Ideal S256x128 .f32) (i : Fin 256) (q : Fin 1024) :
    turnC a cs sn (ix2 i q) = turnS (fun q => a (ix2 i q)) (fun d => cs (ix2 i d)) (fun d => sn (ix2 i d)) q := by
  have hq := q.isLt
  obtain ⟨h, hh⟩ : ∃ h : Fin 8, (h : ℕ) = q / 128 := ⟨⟨q / 128, by omega⟩, rfl⟩
  obtain ⟨d, hd⟩ : ∃ d : Fin 128, (d : ℕ) = q % 128 := ⟨⟨q % 128, by omega⟩, rfl⟩
  have hdl := d.isLt
  refine (cat_at ![evenC a cs sn 0 128 slices_S256x1024_o0_0_S256x128 slices_S256x1024_o0_128_S256x128,
      oddC a cs sn 0 128 slices_S256x1024_o0_0_S256x128 slices_S256x1024_o0_128_S256x128,
      evenC a cs sn 256 384 slices_S256x1024_o0_256_S256x128 slices_S256x1024_o0_384_S256x128,
      oddC a cs sn 256 384 slices_S256x1024_o0_256_S256x128 slices_S256x1024_o0_384_S256x128,
      evenC a cs sn 512 640 slices_S256x1024_o0_512_S256x128 slices_S256x1024_o0_640_S256x128,
      oddC a cs sn 512 640 slices_S256x1024_o0_512_S256x128 slices_S256x1024_o0_640_S256x128,
      evenC a cs sn 768 896 slices_S256x1024_o0_768_S256x128 slices_S256x1024_o0_896_S256x128,
      oddC a cs sn 768 896 slices_S256x1024_o0_768_S256x128 slices_S256x1024_o0_896_S256x128]
    i q h d (by omega)).trans ?_
  match h, hh with
  | 0, hh =>
    have hk : (0 : ℕ) = q / 128 := hh
    exact (evenC_at a cs sn 0 128 _ _ i d ⟨0 + d, by omega⟩ ⟨128 + d, by omega⟩ rfl rfl).trans
      (turnS_even (fun q => a (ix2 i q)) (fun d => cs (ix2 i d)) (fun d => sn (ix2 i d)) 0 rfl d ⟨0 + d, by omega⟩ ⟨128 + d, by omega⟩ rfl rfl q (by omega)).symm
  | 1, hh =>
    have hk : (1 : ℕ) = q / 128 := hh
    exact (oddC_at a cs sn 0 128 _ _ i d ⟨0 + d, by omega⟩ ⟨128 + d, by omega⟩ rfl rfl).trans
      (turnS_odd (fun q => a (ix2 i q)) (fun d => cs (ix2 i d)) (fun d => sn (ix2 i d)) 0 rfl d ⟨0 + d, by omega⟩ ⟨128 + d, by omega⟩ rfl rfl q (by omega)).symm
  | 2, hh =>
    have hk : (2 : ℕ) = q / 128 := hh
    exact (evenC_at a cs sn 256 384 _ _ i d ⟨256 + d, by omega⟩ ⟨384 + d, by omega⟩ rfl rfl).trans
      (turnS_even (fun q => a (ix2 i q)) (fun d => cs (ix2 i d)) (fun d => sn (ix2 i d)) 256 rfl d ⟨256 + d, by omega⟩ ⟨384 + d, by omega⟩ rfl rfl q (by omega)).symm
  | 3, hh =>
    have hk : (3 : ℕ) = q / 128 := hh
    exact (oddC_at a cs sn 256 384 _ _ i d ⟨256 + d, by omega⟩ ⟨384 + d, by omega⟩ rfl rfl).trans
      (turnS_odd (fun q => a (ix2 i q)) (fun d => cs (ix2 i d)) (fun d => sn (ix2 i d)) 256 rfl d ⟨256 + d, by omega⟩ ⟨384 + d, by omega⟩ rfl rfl q (by omega)).symm
  | 4, hh =>
    have hk : (4 : ℕ) = q / 128 := hh
    exact (evenC_at a cs sn 512 640 _ _ i d ⟨512 + d, by omega⟩ ⟨640 + d, by omega⟩ rfl rfl).trans
      (turnS_even (fun q => a (ix2 i q)) (fun d => cs (ix2 i d)) (fun d => sn (ix2 i d)) 512 rfl d ⟨512 + d, by omega⟩ ⟨640 + d, by omega⟩ rfl rfl q (by omega)).symm
  | 5, hh =>
    have hk : (5 : ℕ) = q / 128 := hh
    exact (oddC_at a cs sn 512 640 _ _ i d ⟨512 + d, by omega⟩ ⟨640 + d, by omega⟩ rfl rfl).trans
      (turnS_odd (fun q => a (ix2 i q)) (fun d => cs (ix2 i d)) (fun d => sn (ix2 i d)) 512 rfl d ⟨512 + d, by omega⟩ ⟨640 + d, by omega⟩ rfl rfl q (by omega)).symm
  | 6, hh =>
    have hk : (6 : ℕ) = q / 128 := hh
    exact (evenC_at a cs sn 768 896 _ _ i d ⟨768 + d, by omega⟩ ⟨896 + d, by omega⟩ rfl rfl).trans
      (turnS_even (fun q => a (ix2 i q)) (fun d => cs (ix2 i d)) (fun d => sn (ix2 i d)) 768 rfl d ⟨768 + d, by omega⟩ ⟨896 + d, by omega⟩ rfl rfl q (by omega)).symm
  | 7, hh =>
    have hk : (7 : ℕ) = q / 128 := hh
    exact (oddC_at a cs sn 768 896 _ _ i d ⟨768 + d, by omega⟩ ⟨896 + d, by omega⟩ rfl rfl).trans
      (turnS_odd (fun q => a (ix2 i q)) (fun d => cs (ix2 i d)) (fun d => sn (ix2 i d)) 768 rfl d ⟨768 + d, by omega⟩ ⟨896 + d, by omega⟩ rfl rfl q (by omega)).symm

/-- A row group of the queries at an index. -/
theorem tileQ_at (a : Vec Ideal S1x256x1024 .f32) (cs sn : Vec Ideal S256x128 .f32) (i : Fin 256) (q : Fin 1024) :
    tileQ a cs sn (ix2 i q) = turnS (fun q => a (ix3 0 i q)) (fun d => cs (ix2 i d)) (fun d => sn (ix2 i d)) q := by
  have ha : ∀ q, shapeCast S256x1024 a shapeCasts_S1x256x1024_S256x1024 (ix2 i q) = a (ix3 0 i q) := fun q => by pointwise
  have hc : shapeCast S256x128 cs shapeCasts_S256x128_S256x128 = cs := shapeCast_self _ _
  have hs : shapeCast S256x128 sn shapeCasts_S256x128_S256x128 = sn := shapeCast_self _ _
  refine (turnC_at _ _ _ i q).trans ?_
  rw [hc, hs]
  simp only [ha]

/-- The scale of the keys. -/
abbrev keyS : EReal := Ideal.ofBits FTy.f32 0x3D800000#32

/-- The scale of the keys is a sixteenth. -/
theorem keyS_eq : keyS = ((1 / 16 : ℝ) : EReal) := by
  simp [keyS, Ideal.ofBits, Ideal.ieee, -EReal.coe_mul]; norm_num

/-- The turn by scaled angles is the scaled turn. -/
theorem turnS_scale (f : Fin 1024 → EReal) (cs sn : Fin 128 → EReal) (q : Fin 1024) :
    turnS f (fun d => cs d * keyS) (fun d => sn d * keyS) q = turnS f cs sn q * keyS := by
  have h0 : 0 ≤ keyS := by rw [keyS_eq]; exact_mod_cast (by norm_num : (0:ℝ) ≤ 1 / 16)
  have h1 : keyS ≠ ⊤ := by rw [keyS_eq]; exact EReal.coe_ne_top _
  generalize keyS = s at h0 h1
  unfold turnS
  split
  · rw [sub_eq_add_neg, sub_eq_add_neg, EReal.right_distrib_of_nonneg_of_ne_top h0 h1, EReal.neg_mul, mul_assoc, mul_assoc]
  · rw [EReal.right_distrib_of_nonneg_of_ne_top h0 h1, mul_assoc, mul_assoc]

/-- A row group of the keys at an index. -/
theorem tileK_at (a : Vec Ideal S1x256x1024 .f32) (cs sn : Vec Ideal S256x128 .f32) (i : Fin 256) (q : Fin 1024) :
    tileK a cs sn (ix2 i q) = turnS (fun q => a (ix3 0 i q)) (fun d => cs (ix2 i d)) (fun d => sn (ix2 i d)) q * keyS := by
  have ha : ∀ q, shapeCast S256x1024 a shapeCasts_S1x256x1024_S256x1024 (ix2 i q) = a (ix3 0 i q) := fun q => by pointwise
  have hs : ∀ (c : Vec Ideal S256x128 .f32) (d : Fin 128), scaleT c (ix2 i d) = c (ix2 i d) * keyS := fun c d => by pointwise [scaleT]
  refine (turnC_at _ _ _ i q).trans ?_
  simp only [ha, hs]
  exact turnS_scale _ _ _ q

/-- A row group of the first gate at an index. -/
theorem tileG_at (a : Vec Ideal S1x256x1024 .f32) (i : Fin 256) (q : Fin 1024) :
    k0_pay49 a (ix2 i q) = siluS (a (ix3 0 i q)) := by
  unfold siluS
  pointwise [k0_pay49]
  rfl

/-- A row group of the second at an index. -/
theorem tileY_at (a : Vec Ideal S1x256x1024 .f32) (i : Fin 256) (q : Fin 1024) :
    k0_pay89 a (ix2 i q) = geluS (a (ix3 0 i q)) := by
  unfold geluS
  rw [← mul_assoc, mul_comm (a (ix3 0 i q)) (Ideal.ofBits FTy.f32 1056964608#32)]
  pointwise [k0_pay89]

/-- The rows above a row group and the row group itself. -/
def tallC (v : FVec Ideal S256x1024 .f32) (H : FVec Ideal S8x1024 .f32) : FVec Ideal S264x1024 .f32 :=
  concatenate S264x1024 0 [⟨S8x1024, H⟩, ⟨S256x1024, v⟩] concatenates_S8x1024_S256x1024_S264x1024_d0

/-- A row some steps back, from the rows above where it lies there. -/
def backC (v : FVec Ideal S256x1024 .f32) (H : FVec Ideal S8x1024 .f32) (i : Fin 256) (q : Fin 1024) (j : ℕ) : EReal :=
  if j ≤ (i : ℕ) then v (ix2 ⟨i - j, by omega⟩ q) else H (ix2 ⟨(8 + i - j) % 8, by omega⟩ q)

/-- The rows turned down some steps. -/
theorem back_at (v : FVec Ideal S256x1024 .f32) (H : FVec Ideal S8x1024 .f32) (i : Fin 256) (q : Fin 1024) (sb : BitVec 32)
    (j : ℕ) (hs : sb.toNat = j) (hj : j ≤ 8) :
    extractStridedSlice S256x1024 ![8, 0] (dynamicRotate 0 sb none (tallC v H) rotates_S264x1024_d0) slices_S264x1024_o8_0_S256x1024
      (ix2 i q) = backC v H i q j := by
  have hi := i.isLt
  have e : extractStridedSlice S256x1024 ![8, 0] (dynamicRotate 0 sb none (tallC v H) rotates_S264x1024_d0) slices_S264x1024_o8_0_S256x1024
      (ix2 i q) = dynamicRotate 0 sb none (tallC v H) rotates_S264x1024_d0 (ix2 ⟨8 + i, by omega⟩ q) := by
    generalize dynamicRotate 0 sb none (tallC v H) rotates_S264x1024_d0 = D
    pointwise
  refine e.trans ((dynamicRotate_apply 0 sb (tallC v H) rotates_S264x1024_d0 _ (ix2 ⟨8 + i - j, by omega⟩ q) (fun b => ?_)).trans ?_)
  · match b with
    | 0 => rw [if_pos rfl, hs]; show 8 + (i : ℕ) - j = (8 + (i : ℕ) + 264 - j % 264) % 264; omega
    | 1 => rfl
  unfold backC
  by_cases h : j ≤ (i : ℕ)
  · rw [if_pos h]
    pointwise [tallC]
    rw [dif_neg (by omega)]
    exact congrArg (fun r => v (ix2 r q)) (Fin.ext (by show 8 + (i : ℕ) - j - 8 = i - j; omega))
  · rw [if_neg h]
    pointwise [tallC]
    rw [dif_pos (by omega)]
    exact congrArg (fun r => H (ix2 r q)) (Fin.ext (by show 8 + (i : ℕ) - j = (8 + i - j) % 8; omega))

/-- A row group of the convolution at an index. -/
theorem tileC_at (a : Vec Ideal S1x256x1024 .f32) (H : Vec Ideal S8x1024 .f32) (w : Vec Ideal S4x1024 .f32) (b : Vec Ideal S1x1024 .f32)
    (i : Fin 256) (q : Fin 1024) :
    tileC a H w b (ix2 i q) = backC (k0_pay58 a) H i q 0 * w (ix2 3 q) + b (ix2 0 q) + backC (k0_pay58 a) H i q 1 * w (ix2 2 q)
      + backC (k0_pay58 a) H i q 2 * w (ix2 1 q) + backC (k0_pay58 a) H i q 3 * w (ix2 0 q) := by
  rw [← back_at _ _ _ _ 1#32 1 rfl (by omega), ← back_at _ _ _ _ 2#32 2 rfl (by omega), ← back_at _ _ _ _ 3#32 3 rfl (by omega)]
  have h0 : backC (k0_pay58 a) H i q 0 = k0_pay58 a (ix2 i q) := if_pos (Nat.zero_le _)
  rw [h0]
  unfold tileC k0_pay80
  have hw : ∀ j : Fin 4, tapI w j (ix2 0 q) = w (ix2 j q) := fun j => by pointwise [tapI]
  rw [← hw 3, ← hw 2, ← hw 1, ← hw 0]
  generalize k0_pay58 a = v
  generalize tapI w 3 = w3, tapI w 2 = w2, tapI w 1 = w1, tapI w 0 = w0
  have hH : Scalar.select 0#1 (broadcast S8x1024 (Scalar.ofBits .f32 0x00000000#32 : Ideal .f32)) H = H := rfl
  dsimp only
  rw [hH]
  show _ = (_ : EReal)
  unfold tallC
  generalize extractStridedSlice (s := S264x1024) S256x1024 ![8, 0] (dynamicRotate 0 1#32 none _ _) _ = d1
  generalize extractStridedSlice (s := S264x1024) S256x1024 ![8, 0] (dynamicRotate 0 2#32 none _ _) _ = d2
  generalize extractStridedSlice (s := S264x1024) S256x1024 ![8, 0] (dynamicRotate 0 3#32 none _ _) _ = d3
  pointwise

/-- The last rows of a product. -/
theorem last_at (a : Vec Ideal S1x256x1024 .f32) (j : Fin 8) (q : Fin 1024) :
    k0_pay66 a (ix2 j q) = a (ix3 0 ⟨248 + j, by omega⟩ q) := by
  pointwise [k0_pay66, k0_pay65]

/-- A product with its first axis dropped. -/
theorem drop_at (a : Vec Ideal S1x256x1024 .f32) (i : Fin 256) (q : Fin 1024) : k0_pay58 a (ix2 i q) = a (ix3 0 i q) := by
  pointwise [k0_pay58]

end Cert.InEvenIdeal.Value

end
-- ==== Proof.InEven.Ref.lean ====
/- What the reference of the even sublayer's input projection computes. -/
module

public import proofs.«01_k».proof.Proof.Gen.InEvenRefIdeal.Run
public import proofs.«01_k».proof.Proof.InEven.Spec
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InEvenRefIdeal.Value

open Cert.InEvenRefIdeal Cert.InEvenRefIdeal.Gen Cert.InSpec Cert.InEvenSpec

/-- The norm before the projection. -/
def hnR (x : Vec Ideal S8192x2048 .f32) (g : Vec Ideal S2x2048 .f32) : FVec Ideal S8192x2048 .f32 :=
  mulf (mulf x (broadcastInDim S8192x2048 ![0, 1] bcast_S8192x1_S8192x2048_0_1
    (Host.rsqrt (addf (Host.divf (broadcastInDim S8192x1 ![0] bcast_S8192_S8192x1_0 (Host.reduceAdd (mulf x x)
    (constant S_ .f32 0x00000000#32) reducesTo_S8192x2048_S8192_d1 h_S_)) (broadcastInDim S8192x1 ![] bcast_S_S8192x1
    (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
    (shapeCast _ (extractStridedSlice S1x2048 ![0, 0] g slices_S2x2048_S1x2048_0_0) shapeCasts_S1x2048_S2048)))

/-- The projection, by sequence, position, part and channel. -/
def prR (h : Vec Ideal S8192x2048 .f32) (w : Vec Ideal S1x2048x6144 .f32) : FVec Ideal S4x2048x6x1024 .f32 :=
  shapeCast _ (Host.dotGeneral (φ₁ := .f32) (φ₂ := .f32) dot_S8192x2048_S2048x6144_S8192x6144_1_0_0_1_n_n none h
    (shapeCast S2048x6144 w shapeCasts_S1x2048x6144_S2048x6144)) shapeCasts_S8192x6144_S4x2048x6x1024

/-- A part. -/
def partR (p : FVec Ideal S4x2048x6x1024 .f32) (j : ℕ) (hj : S4x2048x6x1024.Slices ![0, 0, j, 0] S4x2048x1x1024) :
    FVec Ideal S4x2048x1024 .f32 :=
  shapeCast _ (extractStridedSlice S4x2048x1x1024 ![0, 0, j, 0] p hj) shapeCasts_S4x2048x1x1024_S4x2048x1024

/-- The angles. -/
def angR : FVec Ideal S2048x128 .f32 :=
  mulf (broadcastInDim S2048x128 ![0, 1] bcast_S2048x1_S2048x128_0_1 (broadcastInDim S2048x1 ![0] bcast_S2048_S2048x1_0
    (sitofp .f32 (iotaInDim S2048 32 0))))
    (broadcastInDim S2048x128 ![0, 1] bcast_S1x128_S2048x128_0_1 (broadcastInDim S1x128 ![1] bcast_S128_S1x128_1
    (Host.powf (broadcastInDim S128 ![] bcast_S_S128 (constant S_ .f32 0x461C4000#32)) (Host.divf (Host.negf
    (sitofp .f32 (iotaInDim S128 32 0))) (broadcastInDim S128 ![] bcast_S_S128 (constant S_ .f32 0x43000000#32))))))

/-- A table of angles for every sequence and head. -/
def tabR (a : FVec Ideal S2048x128 .f32) : FVec Ideal S4x2048x4x128 .f32 :=
  broadcastInDim S4x2048x4x128 ![0, 1, 2, 3] bcast_S1x2048x1x128_S4x2048x4x128_0_1_2_3
    (broadcastInDim S1x2048x1x128 ![1, 3] bcast_S2048x128_S1x2048x1x128_1_3 a)

/-- The first half of the heads. -/
def loR (a : FVec Ideal S4x2048x1024 .f32) : FVec Ideal S4x2048x4x128 .f32 :=
  extractStridedSlice S4x2048x4x128 ![0, 0, 0, 0] (shapeCast S4x2048x4x256 a shapeCasts_S4x2048x1024_S4x2048x4x256)
    slices_S4x2048x4x256_S4x2048x4x128_0_0_0_0

/-- The second half. -/
def hiR (a : FVec Ideal S4x2048x1024 .f32) : FVec Ideal S4x2048x4x128 .f32 :=
  extractStridedSlice S4x2048x4x128 ![0, 0, 0, 128] (shapeCast S4x2048x4x256 a shapeCasts_S4x2048x1024_S4x2048x4x256)
    slices_S4x2048x4x256_S4x2048x4x128_0_0_0_128

/-- The turn by position. -/
def turnR (a : FVec Ideal S4x2048x1024 .f32) (cs sn : FVec Ideal S2048x128 .f32) : FVec Ideal S4x2048x1024 .f32 :=
  shapeCast _ (concatenate S4x2048x4x256 3
    [⟨S4x2048x4x128, subf (mulf (loR a) (tabR cs)) (mulf (hiR a) (tabR sn))⟩,
     ⟨S4x2048x4x128, addf (mulf (loR a) (tabR sn)) (mulf (hiR a) (tabR cs))⟩]
    concatenates_S4x2048x4x128_S4x2048x4x128_S4x2048x4x256_d3) shapeCasts_S4x2048x4x256_S4x2048x1024

/-- The scale of the keys. -/
def scaleR (a : FVec Ideal S4x2048x1024 .f32) : FVec Ideal S4x2048x1024 .f32 :=
  mulf a (broadcastInDim S4x2048x1024 ![] bcast_S_S4x2048x1024 (constant S_ .f32 0x3D800000#32))

/-- The silu. -/
def siluR (a : FVec Ideal S4x2048x1024 .f32) : FVec Ideal S4x2048x1024 .f32 :=
  mulf a (Host.divf (broadcastInDim S4x2048x1024 ![] bcast_S_S4x2048x1024 (constant S_ .f32 0x3F800000#32))
    (addf (broadcastInDim S4x2048x1024 ![] bcast_S_S4x2048x1024 (constant S_ .f32 0x3F800000#32)) (Host.exp (Host.negf a))))

/-- The sequences with three zeros before each. -/
def padR (a : FVec Ideal S4x2048x1024 .f32) : FVec Ideal S4x2051x1024 .f32 :=
  concatenate S4x2051x1024 1 [⟨S4x3x1024, broadcastInDim S4x3x1024 ![] bcast_S_S4x3x1024 (constant S_ .f32 0x00000000#32)⟩,
    ⟨S4x2048x1024, a⟩] concatenates_S4x3x1024_S4x2048x1024_S4x2051x1024_d1

/-- One term of the convolution. -/
def tapR (a : FVec Ideal S4x2051x1024 .f32) (w : Vec Ideal S1x4x1024 .f32) (j : ℕ)
    (h1 : S4x2051x1024.Slices ![0, j, 0] S4x2048x1024) (h2 : S1x4x1024.Slices ![0, j, 0] S1x1x1024) : FVec Ideal S4x2048x1024 .f32 :=
  mulf (extractStridedSlice S4x2048x1024 ![0, j, 0] a h1)
    (broadcastInDim S4x2048x1024 ![0, 1, 2] bcast_S1x1x1024_S4x2048x1024_0_1_2 (broadcastInDim S1x1x1024 ![2]
    bcast_S1024_S1x1x1024_2 (shapeCast _ (extractStridedSlice S1x1x1024 ![0, j, 0] w h2) shapeCasts_S1x1x1024_S1024)))

/-- The convolution. -/
def convR (a : FVec Ideal S4x2048x1024 .f32) (w : Vec Ideal S1x4x1024 .f32) (b : Vec Ideal S1x1024 .f32) :
    FVec Ideal S4x2048x1024 .f32 :=
  addf (addf (addf (addf
    (tapR (padR a) w 0 slices_S4x2051x1024_S4x2048x1024_0_0_0 slices_S1x4x1024_S1x1x1024_0_0_0)
    (tapR (padR a) w 1 slices_S4x2051x1024_S4x2048x1024_0_1_0 slices_S1x4x1024_S1x1x1024_0_1_0))
    (tapR (padR a) w 2 slices_S4x2051x1024_S4x2048x1024_0_2_0 slices_S1x4x1024_S1x1x1024_0_2_0))
    (tapR (padR a) w 3 slices_S4x2051x1024_S4x2048x1024_0_3_0 slices_S1x4x1024_S1x1x1024_0_3_0))
    (broadcastInDim S4x2048x1024 ![0, 1, 2] bcast_S1x1x1024_S4x2048x1024_0_1_2 (broadcastInDim S1x1x1024 ![2]
    bcast_S1024_S1x1x1024_2 (shapeCast _ b shapeCasts_S1x1024_S1024)))

/-- A number everywhere. -/
def allR (b : BitVec 32) : FVec Ideal S4x2048x1024 .f32 :=
  broadcastInDim S4x2048x1024 ![] bcast_S_S4x2048x1024 (constant S_ .f32 b)

/-- The gelu. -/
def geluR (a : FVec Ideal S4x2048x1024 .f32) : FVec Ideal S4x2048x1024 .f32 :=
  mulf a (mulf (allR 0x3F000000#32) (addf (allR 0x3F800000#32) (Host.tanh (mulf (allR 0x3F4C422A#32)
    (addf a (mulf (allR 0x3D372713#32) (mulf (mulf a a) a)))))))

/-- The six parts side by side. -/
def catR (A : Fin 6 → FVec Ideal S4x2048x1024 .f32) : FVec Ideal S8192x6144 .bf16 :=
  truncf .bf16 (shapeCast _ (concatenate S4x2048x6x1024 2
    [⟨S4x2048x1x1024, broadcastInDim S4x2048x1x1024 ![0, 1, 3] bcast_S4x2048x1024_S4x2048x1x1024_0_1_3 (A 0)⟩,
     ⟨S4x2048x1x1024, broadcastInDim S4x2048x1x1024 ![0, 1, 3] bcast_S4x2048x1024_S4x2048x1x1024_0_1_3 (A 1)⟩,
     ⟨S4x2048x1x1024, broadcastInDim S4x2048x1x1024 ![0, 1, 3] bcast_S4x2048x1024_S4x2048x1x1024_0_1_3 (A 2)⟩,
     ⟨S4x2048x1x1024, broadcastInDim S4x2048x1x1024 ![0, 1, 3] bcast_S4x2048x1024_S4x2048x1x1024_0_1_3 (A 3)⟩,
     ⟨S4x2048x1x1024, broadcastInDim S4x2048x1x1024 ![0, 1, 3] bcast_S4x2048x1024_S4x2048x1x1024_0_1_3 (A 4)⟩,
     ⟨S4x2048x1x1024, broadcastInDim S4x2048x1x1024 ![0, 1, 3] bcast_S4x2048x1024_S4x2048x1x1024_0_1_3 (A 5)⟩]
    concatenates_S4x2048x1x1024_S4x2048x1x1024_S4x2048x1x1024_S4x2048x1x1024_S4x2048x1x1024_S4x2048x1x1024_S4x2048x6x1024_d2)
    shapeCasts_S4x2048x6x1024_S8192x6144) bitsLt_bf16_f32

/-- The parts of a projection. -/
def partsR (p : FVec Ideal S4x2048x6x1024 .f32) (w : Vec Ideal S1x4x1024 .f32) (b : Vec Ideal S1x1024 .f32) :
    Fin 6 → FVec Ideal S4x2048x1024 .f32
  | 0 => turnR (partR p 0 slices_S4x2048x6x1024_S4x2048x1x1024_0_0_0_0) (Host.cos angR) (Host.sin angR)
  | 1 => scaleR (turnR (partR p 1 slices_S4x2048x6x1024_S4x2048x1x1024_0_0_1_0) (Host.cos angR) (Host.sin angR))
  | 2 => partR p 2 slices_S4x2048x6x1024_S4x2048x1x1024_0_0_2_0
  | 3 => siluR (partR p 3 slices_S4x2048x6x1024_S4x2048x1x1024_0_0_3_0)
  | 4 => convR (partR p 4 slices_S4x2048x6x1024_S4x2048x1x1024_0_0_4_0) w b
  | 5 => geluR (partR p 5 slices_S4x2048x6x1024_S4x2048x1x1024_0_0_5_0)

/-- The reference's result. -/
def inR (x : Vec Ideal S8192x2048 .f32) (g : Vec Ideal S2x2048 .f32) (w : Vec Ideal S1x2048x6144 .f32)
    (cw : Vec Ideal S1x4x1024 .f32) (cb : Vec Ideal S1x1024 .f32) : FVec Ideal S8192x6144 .bf16 :=
  catR (partsR (prR (hnR x g) w) cw cb)

variable (m : (ℓ : Loc nD τ sig) → Buf (Elt Ideal) ℓ)

/-- The run's result is that. -/
theorem res_eq (c : Dev nD) : res_main_v134 m c = inR (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := by
  unfold res_main_v134
  rfl

variable (x : Vec Ideal S8192x2048 .f32) (g : Vec Ideal S2x2048 .f32) (w : Vec Ideal S1x2048x6144 .f32)
  (cw : Vec Ideal S1x4x1024 .f32) (cb : Vec Ideal S1x1024 .f32)

/-- The norm at an index. -/
theorem hnR_at (r : Fin 8192) (k : Fin 2048) :
    hnR x g (ix2 r k) = hnS (fun k => x (ix2 r k)) (fun k => g (ix2 0 k)) k := by
  unfold hnS
  pointwise [hnR]

/-- The projection at an index. -/
theorem prR_at (r : Fin 8192) (b : Fin 4) (s : Fin 2048) (hr : (r : ℕ) = 2048 * b + s) (j : Fin 6) (q : Fin 1024) (e : Fin 6144)
    (he : (e : ℕ) = 1024 * j + q) :
    prR (hnR x g) w (ix4 b s j q)
      = mmS (hnS (fun k => x (ix2 r k)) (fun k => g (ix2 0 k))) (fun k => w (ix3 0 k e)) := by
  have er : (⟨b * 2048 + s, by omega⟩ : Fin 8192) = r := Fin.ext (by show (b : ℕ) * 2048 + s = r; omega)
  have ee : (⟨j * 1024 + q, by omega⟩ : Fin 6144) = e := Fin.ext (by show (j : ℕ) * 1024 + q = e; omega)
  have hn := hnR_at x g
  generalize hnR x g = H at hn
  unfold mmS
  simp only [← hn]
  pointwise [prR]
  simp only [er, ee]

/-- A part at an index. -/
theorem partR_at (p : FVec Ideal S4x2048x6x1024 .f32) (j : Fin 6) (hj : S4x2048x6x1024.Slices ![0, 0, (j : ℕ), 0] S4x2048x1x1024)
    (b : Fin 4) (s : Fin 2048) (q : Fin 1024) : partR p j hj (ix3 b s q) = p (ix4 b s j q) := by
  pointwise [partR]

/-- The turn at an index. -/
theorem turnR_at (a : FVec Ideal S4x2048x1024 .f32) (cs sn : FVec Ideal S2048x128 .f32) (b : Fin 4) (s : Fin 2048) (q : Fin 1024) :
    turnR a cs sn (ix3 b s q) = turnS (fun q => a (ix3 b s q)) (fun d => cs (ix2 s d)) (fun d => sn (ix2 s d)) q := by
  unfold turnS
  pointwise [turnR, loR, hiR, tabR]
  by_cases h : (q : ℕ) % 256 < 128
  · rw [dif_pos h, if_pos h]
    refine congrArg₂ (· - ·)
      (congrArg₂ (· * ·) (congrArg (fun z => a (ix3 b s z)) (Fin.ext ?_)) (congrArg (fun z => cs (ix2 s z)) (Fin.ext ?_)))
      (congrArg₂ (· * ·) (congrArg (fun z => a (ix3 b s z)) (Fin.ext ?_)) (congrArg (fun z => sn (ix2 s z)) (Fin.ext ?_)))
    all_goals (try dsimp only); omega
  · rw [dif_neg h, if_neg h]
    refine congrArg₂ (· + ·)
      (congrArg₂ (· * ·) (congrArg (fun z => a (ix3 b s z)) (Fin.ext ?_)) (congrArg (fun z => sn (ix2 s z)) (Fin.ext ?_)))
      (congrArg₂ (· * ·) (congrArg (fun z => a (ix3 b s z)) (Fin.ext ?_)) (congrArg (fun z => cs (ix2 s z)) (Fin.ext ?_)))
    all_goals (try dsimp only); omega

/-- The scale at an index. -/
theorem scaleR_at (a : FVec Ideal S4x2048x1024 .f32) (b : Fin 4) (s : Fin 2048) (q : Fin 1024) :
    scaleR a (ix3 b s q) = a (ix3 b s q) * Ideal.ofBits FTy.f32 0x3D800000#32 := by
  pointwise [scaleR]

/-- The silu at an index. -/
theorem siluR_at (a : FVec Ideal S4x2048x1024 .f32) (b : Fin 4) (s : Fin 2048) (q : Fin 1024) :
    siluR a (ix3 b s q) = siluS (a (ix3 b s q)) := by
  unfold siluS
  pointwise [siluR]

/-- The gelu at an index. -/
theorem geluR_at (a : FVec Ideal S4x2048x1024 .f32) (b : Fin 4) (s : Fin 2048) (q : Fin 1024) :
    geluR a (ix3 b s q) = geluS (a (ix3 b s q)) := by
  unfold geluS
  pointwise [geluR, allR]

/-- The padded sequences at an index. -/
theorem padR_at (a : FVec Ideal S4x2048x1024 .f32) (b : Fin 4) (s : Fin 2048) (q : Fin 1024) (j : ℕ) (hj : j ≤ 3) :
    padR a (ix3 b ⟨j + s, by omega⟩ q) = backS (fun s => a (ix3 b s q)) s (3 - j) := by
  unfold backS
  pointwise [padR]
  by_cases h : j + (s : ℕ) < 3
  · rw [dif_pos h, if_neg (by omega)]
  · rw [dif_neg h]
    refine Eq.trans ?_ (if_pos (by omega)).symm
    refine congrArg (fun z => a (ix3 b z q)) (Fin.ext ?_)
    dsimp only
    omega

/-- One term of the convolution at an index. -/
theorem tapR_at (a : FVec Ideal S4x2051x1024 .f32) (j : Fin 4)
    (h1 : S4x2051x1024.Slices ![0, (j : ℕ), 0] S4x2048x1024) (h2 : S1x4x1024.Slices ![0, (j : ℕ), 0] S1x1x1024)
    (b : Fin 4) (s : Fin 2048) (q : Fin 1024) :
    tapR a cw j h1 h2 (ix3 b s q) = a (ix3 b ⟨j + s, by omega⟩ q) * cw (ix3 0 j q) := by
  pointwise [tapR]

/-- The convolution at an index. -/
theorem convR_at (a : FVec Ideal S4x2048x1024 .f32) (b : Fin 4) (s : Fin 2048) (q : Fin 1024) :
    convR a cw cb (ix3 b s q) = convS (fun s => a (ix3 b s q)) (fun j => cw (ix3 0 j q)) (cb (ix2 0 q)) s := by
  unfold convR convS
  refine congrArg₂ (· + ·) (congrArg₂ (· + ·) (congrArg₂ (· + ·) (congrArg₂ (· + ·) ?_ ?_) ?_) ?_) ?_
  · exact (tapR_at cw _ 0 _ _ b s q).trans (congrArg (· * _) (padR_at a b s q 0 (by omega)))
  · exact (tapR_at cw _ 1 _ _ b s q).trans (congrArg (· * _) (padR_at a b s q 1 (by omega)))
  · exact (tapR_at cw _ 2 _ _ b s q).trans (congrArg (· * _) (padR_at a b s q 2 (by omega)))
  · exact (tapR_at cw _ 3 _ _ b s q).trans (congrArg (· * _) (padR_at a b s q 3 (by omega)))
  · pointwise

/-- The parts side by side at an index. -/
theorem catR_at (A : Fin 6 → FVec Ideal S4x2048x1024 .f32) (r : Fin 8192) (b : Fin 4) (s : Fin 2048) (hr : (r : ℕ) = 2048 * b + s)
    (j : Fin 6) (q : Fin 1024) (e : Fin 6144) (he : (e : ℕ) = 1024 * j + q) : catR A (ix2 r e) = A j (ix3 b s q) := by
  have key : ∀ C : FVec Ideal S4x2048x6x1024 .f32, (truncf .bf16 (shapeCast S8192x6144 C shapeCasts_S4x2048x6x1024_S8192x6144)
      bitsLt_bf16_f32 : FVec Ideal S8192x6144 .bf16) (ix2 r e) = C (ix4 b s j q) := by
    intro C
    pointwise
    have h1 : (⟨(r : ℕ) / 2048, by omega⟩ : Fin 4) = b := Fin.ext (by show (r : ℕ) / 2048 = b; omega)
    have h2 : (⟨(r : ℕ) % 2048, by omega⟩ : Fin 2048) = s := Fin.ext (by show (r : ℕ) % 2048 = s; omega)
    have h3 : (⟨(e : ℕ) / 1024, by omega⟩ : Fin 6) = j := Fin.ext (by show (e : ℕ) / 1024 = j; omega)
    have h4 : (⟨(e : ℕ) % 1024, by omega⟩ : Fin 1024) = q := Fin.ext (by show (e : ℕ) % 1024 = q; omega)
    rw [h1, h2, h3, h4]
  unfold catR
  refine (key _).trans ?_
  refine (concatenate_ofFn_apply (t := S4x2048x6x1024) (s₁ := S4x2048x1x1024) 2
    (fun j => broadcastInDim S4x2048x1x1024 ![0, 1, 3] bcast_S4x2048x1024_S4x2048x1x1024_0_1_3 (A j))
    concatenates_S4x2048x1x1024_S4x2048x1x1024_S4x2048x1x1024_S4x2048x1x1024_S4x2048x1x1024_S4x2048x1x1024_S4x2048x6x1024_d2
    rfl 1 rfl (ix4 b s j q) j (by show (j : ℕ) / 1 = j; omega) (ix4 b s 0 q) (by show 0 = (j : ℕ) % 1; omega)
    (fun b hb => by match b with | 0 => rfl | 1 => rfl | 2 => exact absurd rfl hb | 3 => rfl)).trans ?_
  generalize A j = B
  pointwise

/-- The projection of a row onto a column. -/
abbrev pS (r : Fin 8192) (e : Fin 6144) : EReal :=
  mmS (hnS (fun k => x (ix2 r k)) (fun k => g (ix2 0 k))) (fun k => w (ix3 0 k e))

/-- A part of the projection. -/
theorem part_eq (b : Fin 4) (s : Fin 2048) (R : Fin 2048 → Fin 8192) (hR : ∀ s, (R s : ℕ) = 2048 * b + s) (j : Fin 6)
    (hj : S4x2048x6x1024.Slices ![0, 0, (j : ℕ), 0] S4x2048x1x1024) (q : Fin 1024) (E : Fin 1024 → Fin 6144)
    (hE : ∀ q, (E q : ℕ) = 1024 * j + q) :
    partR (prR (hnR x g) w) j hj (ix3 b s q) = pS x g w (R s) (E q) :=
  (partR_at _ j hj b s q).trans (prR_at x g w (R s) b s (hR s) j q (E q) (hE q))

variable (b : Fin 4) (s : Fin 2048) (R : Fin 2048 → Fin 8192) (hR : ∀ s, (R s : ℕ) = 2048 * b + s) (q : Fin 1024)
  (E : Fin 1024 → Fin 6144)

include hR

/-- The queries' columns of the result. -/
theorem inR_q (hE : ∀ q, (E q : ℕ) = 1024 * 0 + q) : inR x g w cw cb (ix2 (R s) (E q))
    = turnS (fun q => pS x g w (R s) (E q)) (fun d => Host.cos angR (ix2 s d)) (fun d => Host.sin angR (ix2 s d)) q := by
  unfold inR
  refine (catR_at _ (R s) b s (hR s) 0 q (E q) (hE q)).trans ((turnR_at _ _ _ b s q).trans ?_)
  exact congrArg (fun f => turnS f _ _ q) (funext fun q => part_eq x g w b s R hR 0 _ q E hE)

/-- The keys' columns. -/
theorem inR_k (hE : ∀ q, (E q : ℕ) = 1024 * 1 + q) : inR x g w cw cb (ix2 (R s) (E q))
    = turnS (fun q => pS x g w (R s) (E q)) (fun d => Host.cos angR (ix2 s d)) (fun d => Host.sin angR (ix2 s d)) q
      * Ideal.ofBits FTy.f32 0x3D800000#32 := by
  unfold inR
  refine (catR_at _ (R s) b s (hR s) 1 q (E q) (hE q)).trans ((scaleR_at _ b s q).trans (congrArg (· * _) ((turnR_at _ _ _ b s q).trans ?_)))
  exact congrArg (fun f => turnS f _ _ q) (funext fun q => part_eq x g w b s R hR 1 _ q E hE)

/-- The values' columns. -/
theorem inR_v (hE : ∀ q, (E q : ℕ) = 1024 * 2 + q) : inR x g w cw cb (ix2 (R s) (E q)) = pS x g w (R s) (E q) := by
  unfold inR
  exact (catR_at _ (R s) b s (hR s) 2 q (E q) (hE q)).trans (part_eq x g w b s R hR 2 _ q E hE)

/-- The gate's columns. -/
theorem inR_g (hE : ∀ q, (E q : ℕ) = 1024 * 3 + q) : inR x g w cw cb (ix2 (R s) (E q)) = siluS (pS x g w (R s) (E q)) := by
  unfold inR
  exact (catR_at _ (R s) b s (hR s) 3 q (E q) (hE q)).trans ((siluR_at _ b s q).trans
    (congrArg siluS (part_eq x g w b s R hR 3 _ q E hE)))

/-- The convolved columns. -/
theorem inR_c (hE : ∀ q, (E q : ℕ) = 1024 * 4 + q) : inR x g w cw cb (ix2 (R s) (E q))
    = convS (fun s => pS x g w (R s) (E q)) (fun j => cw (ix3 0 j q)) (cb (ix2 0 q)) s := by
  unfold inR
  exact (catR_at _ (R s) b s (hR s) 4 q (E q) (hE q)).trans ((convR_at cw cb _ b s q).trans
    (congrArg (fun f => convS f _ _ s) (funext fun s => part_eq x g w b s R hR 4 _ q E hE)))

/-- The other gate's columns. -/
theorem inR_y (hE : ∀ q, (E q : ℕ) = 1024 * 5 + q) : inR x g w cw cb (ix2 (R s) (E q)) = geluS (pS x g w (R s) (E q)) := by
  unfold inR
  exact (catR_at _ (R s) b s (hR s) 5 q (E q) (hE q)).trans ((geluR_at _ b s q).trans
    (congrArg geluS (part_eq x g w b s R hR 5 _ q E hE)))

end Cert.InEvenRefIdeal.Value

end
-- ==== Proof.InEven.Final.lean ====
/- The result array of the even sublayer's input projection is the reference's. -/
module

public import proofs.«01_k».proof.Proof.InEven.Kern
public import proofs.«01_k».proof.Proof.InEven.Ref
public import Idealize.ShloMosaic.Lib.Claim

@[expose] public section

set_option maxRecDepth 16384

noncomputable section

open Idealize.ShloMosaic Idealize.ShloMosaic.TcCoe Idealize.SL.Sem

namespace Cert.InEvenIdeal.Value

open Cert.InEvenIdeal Cert.InEvenIdeal.Gen Cert.InEvenIdeal.Hand Cert.InSpec Cert.InEvenSpec
open Cert.InEvenRefIdeal.Value (inR inR_q inR_k inR_v inR_g inR_c inR_y pS angR)

variable (m : (ℓ : Loc nD τ sig) → Buf (Elt Ideal) ℓ)

/-- Where each window's block lies at a grid point. -/
theorem idx : ∀ t : Fin cfg0.N, win0_0.index t = ![t.val / 6, 0] ∧ win0_1.index t = ![0, 0]
    ∧ win0_2.index t = ![0, 0, t.val % 6] ∧ win0_3.index t = ![t.val / 6 % 2, 0] ∧ win0_4.index t = ![t.val / 6 % 2, 0]
    ∧ win0_5.index t = ![0, 0] ∧ win0_6.index t = ![0, 0] ∧ win0_7.index t = ![t.val / 6, t.val % 6] :=
  (by decide +kernel : ∀ t : Fin grid0.N, _)

/-- Which row blocks start a sequence. -/
theorem fresh_eq : ∀ t : Fin cfg0.N, freshI (grid0.coords t) = if t.val / 6 % 2 = 0 then 1#1 else 0#1 :=
  (by decide +kernel : ∀ t : Fin grid0.N, _)

/-- The gain of the norm as the kernel stages it. -/
theorem V20_at (c : Dev nD) (k : Fin 2048) :
    V m c main_v20 (ix2 0 k) = m ((c : Thread nD τ).loc main_arg1) (ix2 0 k) := by
  unfold V
  simp only [List.flatten_cons, List.flatten_nil, List.append_nil, List.cons_append, List.nil_append, hostOps0]
  entry_read
  try simp -implicitDefEqProofs only [StableHlo.TRef.toBuf, StableHlo.TRef.ofBuf, cast_cast, cast_eq]
  pointwise

/-- The taps as the kernel stages them. -/
theorem V17_at (c : Dev nD) (j : Fin 4) (q : Fin 1024) :
    V m c main_v17 (ix2 j q) = m ((c : Thread nD τ).loc main_arg3) (ix3 0 j q) := by
  unfold V
  simp only [List.flatten_cons, List.flatten_nil, List.append_nil, List.cons_append, List.nil_append, hostOps0]
  entry_read
  try simp -implicitDefEqProofs only [StableHlo.TRef.toBuf, StableHlo.TRef.ofBuf, cast_cast, cast_eq]
  pointwise

/-- The bias as the kernel stages it. -/
theorem V19_at (c : Dev nD) (q : Fin 1024) :
    V m c main_v19 (ix2 0 q) = m ((c : Thread nD τ).loc main_arg4) (ix2 0 q) := by
  unfold V
  simp only [List.flatten_cons, List.flatten_nil, List.append_nil, List.cons_append, List.nil_append, hostOps0]
  entry_read
  try simp -implicitDefEqProofs only [StableHlo.TRef.toBuf, StableHlo.TRef.ofBuf, cast_cast, cast_eq]
  pointwise

/-- The cosines the host prepares are the reference's. -/
theorem V13_eq (c : Dev nD) : (V m c main_v13 : Vec Ideal S2048x128 .f32) = Host.cos angR := by
  unfold V
  simp only [List.flatten_cons, List.flatten_nil, List.append_nil, List.cons_append, List.nil_append, hostOps0]
  entry_read
  try simp -implicitDefEqProofs only [StableHlo.TRef.toBuf, StableHlo.TRef.ofBuf, cast_cast, cast_eq]
  rfl

/-- And the sines. -/
theorem V14_eq (c : Dev nD) : (V m c main_v14 : Vec Ideal S2048x128 .f32) = Host.sin angR := by
  unfold V
  simp only [List.flatten_cons, List.flatten_nil, List.append_nil, List.cons_append, List.nil_append, hostOps0]
  entry_read
  try simp -implicitDefEqProofs only [StableHlo.TRef.toBuf, StableHlo.TRef.ofBuf, cast_cast, cast_eq]
  rfl

/-- A row group of the cosines. -/
theorem cos_at (c : Dev nD) (t : Fin cfg0.N) (n : ℕ) (hn : n < 4) (i : Fin 256) (s : Fin 2048)
    (hs : (s : ℕ) = 1024 * (t.val / 6 % 2) + (256 * n + i)) (d : Fin 128) :
    (rowsT (iblk m c 3 t) n : Vec Ideal S256x128 .f32) (ix2 i d) = Host.cos angR (ix2 s d) := by
  have hi : (i : ℕ) < 256 := i.isLt
  have e : (rowsT (iblk m c 3 t) n : Vec Ideal S256x128 .f32) (ix2 i d)
      = (iblk m c 3 t : Vec Ideal S1024x128 .f32) (ix2 ⟨256 * (n % 4) + i, by omega⟩ d) := by
    generalize (iblk m c 3 t : Vec Ideal S1024x128 .f32) = X
    pointwise [rowsT]
  refine e.trans (Eq.trans ?_ (congrFun (V13_eq m c) (ix2 s d)))
  blk_ext [iblk, idx t]

/-- A row group of the sines. -/
theorem sin_at (c : Dev nD) (t : Fin cfg0.N) (n : ℕ) (hn : n < 4) (i : Fin 256) (s : Fin 2048)
    (hs : (s : ℕ) = 1024 * (t.val / 6 % 2) + (256 * n + i)) (d : Fin 128) :
    (rowsT (iblk m c 4 t) n : Vec Ideal S256x128 .f32) (ix2 i d) = Host.sin angR (ix2 s d) := by
  have hi : (i : ℕ) < 256 := i.isLt
  have e : (rowsT (iblk m c 4 t) n : Vec Ideal S256x128 .f32) (ix2 i d)
      = (iblk m c 4 t : Vec Ideal S1024x128 .f32) (ix2 ⟨256 * (n % 4) + i, by omega⟩ d) := by
    generalize (iblk m c 4 t : Vec Ideal S1024x128 .f32) = X
    pointwise [rowsT]
  refine e.trans (Eq.trans ?_ (congrFun (V14_eq m c) (ix2 s d)))
  blk_ext [iblk, idx t]

/-- The normed row of the arguments. -/
abbrev rowA (c : Dev nD) (r : Fin 8192) : Fin 2048 → EReal :=
  hnS (fun k => m ((c : Thread nD τ).loc main_arg0) (ix2 r k)) (fun k => m ((c : Thread nD τ).loc main_arg1) (ix2 0 k))

/-- The product of the arguments at an index. -/
abbrev pA (c : Dev nD) (r : Fin 8192) (e : Fin 6144) : EReal :=
  pS (m ((c : Thread nD τ).loc main_arg0)) (m ((c : Thread nD τ).loc main_arg1)) (m ((c : Thread nD τ).loc main_arg2)) r e

/-- The reference of the arguments. -/
abbrev resA (c : Dev nD) : Vec Ideal S8192x6144 .bf16 :=
  inR (m ((c : Thread nD τ).loc main_arg0)) (m ((c : Thread nD τ).loc main_arg1)) (m ((c : Thread nD τ).loc main_arg2))
    (m ((c : Thread nD τ).loc main_arg3)) (m ((c : Thread nD τ).loc main_arg4))

/-- The normed rows of a block. -/
theorem norm_at (c : Dev nD) (t : Fin cfg0.N) (n : ℕ) (hn : n < 4) (i : Fin 256) (r : Fin 8192)
    (hr : (r : ℕ) = 1024 * (t.val / 6) + (256 * n + i)) (k : Fin 2048) :
    hnI (iblk m c 0 t) (iblk m c 1 t) n (ix2 i k) = rowA m c r k := by
  have hi : (i : ℕ) < 256 := i.isLt
  refine (hnI_at _ _ n hn i ⟨256 * n + i, by omega⟩ rfl k).trans ?_
  have hx : (fun k => (iblk m c 0 t : Vec Ideal S1024x2048 .f32) (ix2 ⟨256 * n + i, by omega⟩ k))
      = fun k => m ((c : Thread nD τ).loc main_arg0) (ix2 r k) := by
    funext k
    blk_point [iblk, V_main_arg0, idx t]
  have hg : (fun k => (iblk m c 1 t : Vec Ideal S1x2048 .f32) (ix2 0 k))
      = fun k => m ((c : Thread nD τ).loc main_arg1) (ix2 0 k) := by
    funext k
    refine Eq.trans ?_ (V20_at m c k)
    blk_ext [iblk, idx t]
  exact congrArg₂ (fun x g => hnS x g k) hx hg

/-- The rows kept after the first column. -/
theorem keptA (c : Dev nD) (t : Fin cfg0.N) (h0 : t.val % 6 = 0) (p : Fin 1024) (r : Fin 8192)
    (hr : (r : ℕ) = 1024 * (t.val / 6) + p) (k : Fin 2048) :
    (outsAt0 m c t.val t.isLt).2.1 (ix2 p k) = rowA m c r k := by
  have hp : (p : ℕ) < 1024 := p.isLt
  refine (hnA_eq m c t h0 (by omega) (by omega) (by omega) (by omega) (by omega) (ix2 p k) ⟨p / 256, by omega⟩ (ix2 ⟨p % 256, by omega⟩ k)
    (by show (p : ℕ) = 256 * (p / 256) + p % 256; omega) rfl).trans ?_
  exact norm_at m c t (p / 256) (by omega) ⟨p % 256, by omega⟩ r
    (by show (r : ℕ) = 1024 * (t.val / 6) + (256 * (p / 256) + p % 256); omega) k

/-- And after a later one. -/
theorem keptB (c : Dev nD) (t : Fin cfg0.N) (h1 : t.val % 6 = 1) (p : Fin 1024) (r : Fin 8192)
    (hr : (r : ℕ) = 1024 * (t.val / 6) + p) (k : Fin 2048) :
    (outsAt0 m c t.val t.isLt).2.1 (ix2 p k) = rowA m c r k := by
  rw [hnB_eq m c t (by omega) h1 (by omega) (by omega) (by omega) (by omega)]
  exact keptA m c ⟨t.val - 1, lt_of_le_of_lt (Nat.sub_le _ _) t.isLt⟩ (by show (t.val - 1) % 6 = 0; omega) p r
    (by show (r : ℕ) = 1024 * ((t.val - 1) / 6) + p; omega) k

/-- And after a later one. -/
theorem keptC (c : Dev nD) (t : Fin cfg0.N) (h2 : t.val % 6 = 2) (p : Fin 1024) (r : Fin 8192)
    (hr : (r : ℕ) = 1024 * (t.val / 6) + p) (k : Fin 2048) :
    (outsAt0 m c t.val t.isLt).2.1 (ix2 p k) = rowA m c r k := by
  rw [hnC_eq m c t (by omega) (by omega) h2 (by omega) (by omega) (by omega)]
  exact keptB m c ⟨t.val - 1, lt_of_le_of_lt (Nat.sub_le _ _) t.isLt⟩ (by show (t.val - 1) % 6 = 1; omega) p r
    (by show (r : ℕ) = 1024 * ((t.val - 1) / 6) + p; omega) k

/-- And after a later one. -/
theorem keptD (c : Dev nD) (t : Fin cfg0.N) (h3 : t.val % 6 = 3) (p : Fin 1024) (r : Fin 8192)
    (hr : (r : ℕ) = 1024 * (t.val / 6) + p) (k : Fin 2048) :
    (outsAt0 m c t.val t.isLt).2.1 (ix2 p k) = rowA m c r k := by
  rw [hnD_eq m c t (by omega) (by omega) (by omega) h3 (by omega) (by omega)]
  exact keptC m c ⟨t.val - 1, lt_of_le_of_lt (Nat.sub_le _ _) t.isLt⟩ (by show (t.val - 1) % 6 = 2; omega) p r
    (by show (r : ℕ) = 1024 * ((t.val - 1) / 6) + p; omega) k

/-- And after a later one. -/
theorem keptE (c : Dev nD) (t : Fin cfg0.N) (h4 : t.val % 6 = 4) (p : Fin 1024) (r : Fin 8192)
    (hr : (r : ℕ) = 1024 * (t.val / 6) + p) (k : Fin 2048) :
    (outsAt0 m c t.val t.isLt).2.1 (ix2 p k) = rowA m c r k := by
  rw [hnE_eq m c t (by omega) (by omega) (by omega) (by omega) h4 (by omega)]
  exact keptD m c ⟨t.val - 1, lt_of_le_of_lt (Nat.sub_le _ _) t.isLt⟩ (by show (t.val - 1) % 6 = 3; omega) p r
    (by show (r : ℕ) = 1024 * ((t.val - 1) / 6) + p; omega) k

/-- The rows kept before any later column. -/
theorem kept_prev (c : Dev nD) (t : Fin cfg0.N) (h0 : ¬t.val % 6 = 0) (p : Fin 1024) (r : Fin 8192)
    (hr : (r : ℕ) = 1024 * (t.val / 6) + p) (k : Fin 2048) :
    (outsAt0 m c (t.val - 1) (Nat.lt_of_le_of_lt (Nat.sub_le _ _) t.isLt)).2.1 (ix2 p k) = rowA m c r k := by
  have hr' : (r : ℕ) = 1024 * ((t.val - 1) / 6) + p := by omega
  by_cases h1 : t.val % 6 = 1
  · exact keptA m c ⟨t.val - 1, lt_of_le_of_lt (Nat.sub_le _ _) t.isLt⟩ (by show (t.val - 1) % 6 = 0; omega) p r hr' k
  by_cases h2 : t.val % 6 = 2
  · exact keptB m c ⟨t.val - 1, lt_of_le_of_lt (Nat.sub_le _ _) t.isLt⟩ (by show (t.val - 1) % 6 = 1; omega) p r hr' k
  by_cases h3 : t.val % 6 = 3
  · exact keptC m c ⟨t.val - 1, lt_of_le_of_lt (Nat.sub_le _ _) t.isLt⟩ (by show (t.val - 1) % 6 = 2; omega) p r hr' k
  by_cases h4 : t.val % 6 = 4
  · exact keptD m c ⟨t.val - 1, lt_of_le_of_lt (Nat.sub_le _ _) t.isLt⟩ (by show (t.val - 1) % 6 = 3; omega) p r hr' k
  · exact keptE m c ⟨t.val - 1, lt_of_le_of_lt (Nat.sub_le _ _) t.isLt⟩ (by show (t.val - 1) % 6 = 4; omega) p r hr' k

/-- The weight's columns in a block. -/
theorem w_at (c : Dev nD) (t : Fin cfg0.N) (k : Fin 2048) (e : Fin 1024) (E : Fin 6144) (hE : (E : ℕ) = 1024 * (t.val % 6) + e) :
    (iblk m c 2 t : Vec Ideal S1x2048x1024 .f32) (ix3 0 k e) = m ((c : Thread nD τ).loc main_arg2) (ix3 0 k E) := by
  blk_point [iblk, V_main_arg2, idx t]

/-- A row group's product from its normed rows. -/
theorem prod_of (c : Dev nD) (t : Fin cfg0.N) (h : Vec Ideal S256x2048 .bf16) (i : Fin 256) (r : Fin 8192)
    (hh : ∀ k, h (ix2 i k) = rowA m c r k) (q : Fin 1024) (E : Fin 6144) (hE : (E : ℕ) = 1024 * (t.val % 6) + q) :
    mmI h (iblk m c 2 t) (ix3 0 i q) = pA m c r E := by
  refine (mmI_at _ _ i q).trans ?_
  unfold mmS
  exact Finset.sum_congr rfl fun k _ => congrArg₂ (· * ·) (hh k) (w_at m c t k q E hE)

/-- A row group's product from the kept rows. -/
theorem prodK (c : Dev nD) (t : Fin cfg0.N) (h0 : ¬t.val % 6 = 0) (n : ℕ) (hn : n < 4) (i : Fin 256) (r : Fin 8192)
    (hr : (r : ℕ) = 1024 * (t.val / 6) + (256 * n + i)) (q : Fin 1024) (E : Fin 6144) (hE : (E : ℕ) = 1024 * (t.val % 6) + q) :
    mmI (rowsI (outsAt0 m c (t.val - 1) (Nat.lt_of_le_of_lt (Nat.sub_le _ _) t.isLt)).2.1 n) (iblk m c 2 t) (ix3 0 i q) = pA m c r E := by
  have hi : (i : ℕ) < 256 := i.isLt
  refine prod_of m c t _ i r (fun k => ?_) q E hE
  refine Eq.trans ?_ (kept_prev m c t h0 ⟨256 * (n % 4) + i, by omega⟩ r
    (by show (r : ℕ) = 1024 * (t.val / 6) + (256 * (n % 4) + i); omega) k)
  generalize (outsAt0 m c (t.val - 1) (Nat.lt_of_le_of_lt (Nat.sub_le _ _) t.isLt)).2.1 = H
  pointwise [rowsI]

/-- The state after a point depends on the point only. -/
theorem outs_congr (c : Dev nD) (n k : ℕ) (h : n = k) (hn : n < cfg0.N) (hk : k < cfg0.N) : outsAt0 m c n hn = outsAt0 m c k hk := by
  subst h
  rfl

/-- The rows carried into a convolved column are those the last one left. -/
theorem chain (c : Dev nD) (u v : Fin cfg0.N) (hu : u.val % 6 = 4) (hv : v.val = u.val + 6) :
    (outsAt0 m c (v.val - 1) (Nat.lt_of_le_of_lt (Nat.sub_le _ _) v.isLt)).2.2 = (outsAt0 m c u.val u.isLt).2.2 := by
  have l := v.isLt
  have l1 : v.val - 1 < cfg0.N := lt_of_le_of_lt (Nat.sub_le _ _) l
  have l2 : v.val - 1 - 1 < cfg0.N := lt_of_le_of_lt (Nat.sub_le _ _) l1
  have l3 : v.val - 1 - 1 - 1 < cfg0.N := lt_of_le_of_lt (Nat.sub_le _ _) l2
  have l4 : v.val - 1 - 1 - 1 - 1 < cfg0.N := lt_of_le_of_lt (Nat.sub_le _ _) l3
  have l5 : v.val - 1 - 1 - 1 - 1 - 1 < cfg0.N := lt_of_le_of_lt (Nat.sub_le _ _) l4
  have l6 : v.val - 1 - 1 - 1 - 1 - 1 - 1 < cfg0.N := lt_of_le_of_lt (Nat.sub_le _ _) l5
  have g1 : (v.val - 1) % 6 = 3 := by omega
  have g2 : (v.val - 1 - 1) % 6 = 2 := by omega
  have g3 : (v.val - 1 - 1 - 1) % 6 = 1 := by omega
  have g4 : (v.val - 1 - 1 - 1 - 1) % 6 = 0 := by omega
  have g5 : (v.val - 1 - 1 - 1 - 1 - 1) % 6 = 5 := by omega
  have e1 := haloD_eq m c ⟨v.val - 1, l1⟩ (by rw [g1]; decide) (by rw [g1]; decide) (by rw [g1]; decide) g1 (by rw [g1]; decide) (by rw [g1]; decide)
  have e2 := haloC_eq m c ⟨v.val - 1 - 1, l2⟩ (by rw [g2]; decide) (by rw [g2]; decide) g2 (by rw [g2]; decide) (by rw [g2]; decide) (by rw [g2]; decide)
  have e3 := haloB_eq m c ⟨v.val - 1 - 1 - 1, l3⟩ (by rw [g3]; decide) g3 (by rw [g3]; decide) (by rw [g3]; decide) (by rw [g3]; decide) (by rw [g3]; decide)
  have e4 := haloA_eq m c ⟨v.val - 1 - 1 - 1 - 1, l4⟩ g4 (by rw [g4]; decide) (by rw [g4]; decide) (by rw [g4]; decide) (by rw [g4]; decide) (by rw [g4]; decide)
    (by show ¬(v.val - 1 - 1 - 1 - 1 = 0); omega)
  have e5 := haloF_eq m c ⟨v.val - 1 - 1 - 1 - 1 - 1, l5⟩ (by rw [g5]; decide) (by rw [g5]; decide) (by rw [g5]; decide) (by rw [g5]; decide) (by rw [g5]; decide) g5
  exact e1.trans (e2.trans (e3.trans (e4.trans (e5.trans
    (congrArg (fun o => o.2.2) (outs_congr m c (v.val - 1 - 1 - 1 - 1 - 1 - 1) u.val (by omega) l6 u.isLt))))))

/-- What a convolved column finds above a row group: the sequence's rows before it, zeros before the sequence. -/
theorem above_at (c : Dev nD) (t : Fin cfg0.N) (h4 : t.val % 6 = 4) (n : ℕ) (hn : n < 4) (a : Fin 8) (q : Fin 1024) (E : Fin 6144)
    (hE : (E : ℕ) = 1024 * 4 + q) :
    (∀ r : Fin 8192, 8 ≤ 1024 * (t.val / 6 % 2) + 256 * n + a → (r : ℕ) + 8 = 1024 * (t.val / 6) + 256 * n + a →
      aboveI (grid0.coords t) (outsAt0 m c (t.val - 1) (Nat.lt_of_le_of_lt (Nat.sub_le _ _) t.isLt)).2.2
        (fun k => mmI (rowsI (outsAt0 m c (t.val - 1) (Nat.lt_of_le_of_lt (Nat.sub_le _ _) t.isLt)).2.1 k) (iblk m c 2 t)) n (ix2 a q)
        = pA m c r E)
    ∧ (1024 * (t.val / 6 % 2) + 256 * n + a < 8 →
      aboveI (grid0.coords t) (outsAt0 m c (t.val - 1) (Nat.lt_of_le_of_lt (Nat.sub_le _ _) t.isLt)).2.2
        (fun k => mmI (rowsI (outsAt0 m c (t.val - 1) (Nat.lt_of_le_of_lt (Nat.sub_le _ _) t.isLt)).2.1 k) (iblk m c 2 t)) n (ix2 a q)
        = (0 : EReal)) := by
  have ha := a.isLt
  match n, hn with
  | n + 1, hn =>
    refine ⟨fun r _ hr => ?_, fun h => absurd h (by omega)⟩
    exact (last_at _ a q).trans (prodK m c t (by omega) n (by omega) ⟨248 + a, by omega⟩ r
      (by show (r : ℕ) = 1024 * (t.val / 6) + (256 * n + (248 + a)); omega) q E (by omega))
  | 0, _ =>
    unfold aboveI
    rw [fresh_eq t]
    by_cases hz : t.val / 6 % 2 = 0
    · rw [if_pos hz]
      refine ⟨fun r h _ => absurd h (by omega), fun _ => ?_⟩
      exact Ideal.ofBits_zero_f32
    · rw [if_neg hz]
      refine ⟨fun r _ hr => ?_, fun h => absurd h (by omega)⟩
      have lu : t.val - 6 < cfg0.N := lt_of_le_of_lt (Nat.sub_le _ _) t.isLt
      have gu : (t.val - 6) % 6 = 4 := by omega
      have e := congrFun ((chain m c ⟨t.val - 6, lu⟩ t gu (by show t.val = t.val - 6 + 6; omega)).trans
        (haloE_eq m c ⟨t.val - 6, lu⟩ (by rw [gu]; decide) (by rw [gu]; decide) (by rw [gu]; decide) (by rw [gu]; decide) gu (by rw [gu]; decide))) (ix2 a q)
      refine Eq.trans ?_ (e.trans ((last_at _ a q).trans (prodK m c ⟨t.val - 6, lu⟩ (by rw [gu]; decide) 3 (by omega) ⟨248 + a, by omega⟩ r
        (by show (r : ℕ) = 1024 * ((t.val - 6) / 6) + (256 * 3 + (248 + a)); omega) q E (by show (E : ℕ) = 1024 * ((t.val - 6) % 6) + q; omega))))
      rfl

/-- A row some steps back in its group is the sequence's. -/
theorem back_eq (v : FVec Ideal S256x1024 .f32) (H : FVec Ideal S8x1024 .f32) (q : Fin 1024) (f : Fin 2048 → EReal) (s0 : ℕ)
    (hv : ∀ (i : Fin 256) (s : Fin 2048), (s : ℕ) = s0 + i → v (ix2 i q) = f s)
    (hH : ∀ (a : Fin 8) (s : Fin 2048), (s : ℕ) + 8 = s0 + a → H (ix2 a q) = f s)
    (hz : ∀ a : Fin 8, s0 + a < 8 → H (ix2 a q) = (0 : EReal))
    (i : Fin 256) (s : Fin 2048) (hs : (s : ℕ) = s0 + i) (j : ℕ) (hj : j ≤ 8) : backC v H i q j = backS f s j := by
  have hi := i.isLt
  have hsl := s.isLt
  unfold backC backS
  by_cases h : j ≤ (i : ℕ)
  · rw [if_pos h, if_pos (by omega)]
    exact hv _ _ (by show (s : ℕ) - j = s0 + ((i : ℕ) - j); omega)
  · rw [if_neg h]
    by_cases h' : j ≤ (s : ℕ)
    · rw [if_pos h']
      exact hH _ _ (by show (s : ℕ) - j + 8 = s0 + (8 + (i : ℕ) - j) % 8; omega)
    · rw [if_neg h']
      exact hz _ (by show s0 + (8 + (i : ℕ) - j) % 8 < 8; omega)

end Cert.InEvenIdeal.Value

end
-- ==== Proof.InEven.Result.lean ====
/- The result array of the even sublayer's input projection, column by column. -/
module

public import proofs.«01_k».proof.Proof.InEven.Final

@[expose] public section

set_option maxRecDepth 16384

noncomputable section

open Idealize.ShloMosaic Idealize.ShloMosaic.TcCoe Idealize.SL.Sem

namespace Cert.InEvenIdeal.Value

open Cert.InEvenIdeal Cert.InEvenIdeal.Gen Cert.InEvenIdeal.Hand Cert.InSpec Cert.InEvenSpec
open Cert.InEvenRefIdeal.Value (inR inR_q inR_k inR_v inR_g inR_c inR_y pS angR)

variable (m : (ℓ : Loc nD τ sig) → Buf (Elt Ideal) ℓ)

/-- The taps in a block. -/
theorem taps_at (c : Dev nD) (t : Fin cfg0.N) (j : Fin 4) (q : Fin 1024) :
    (iblk m c 5 t : Vec Ideal S4x1024 .f32) (ix2 j q) = m ((c : Thread nD τ).loc main_arg3) (ix3 0 j q) := by
  refine Eq.trans ?_ (V17_at m c j q)
  blk_ext [iblk, idx t]

/-- The bias in a block. -/
theorem bias_at (c : Dev nD) (t : Fin cfg0.N) (q : Fin 1024) :
    (iblk m c 6 t : Vec Ideal S1x1024 .f32) (ix2 0 q) = m ((c : Thread nD τ).loc main_arg4) (ix2 0 q) := by
  refine Eq.trans ?_ (V19_at m c q)
  blk_ext [iblk, idx t]

/-- Four taps and a bias in the other order. -/
theorem sum_order (a b c d e : EReal) : a + e + b + c + d = d + c + b + a + e := by ac_rfl

variable (c : Dev nD) (t : Fin cfg0.N) (n : ℕ) (hn : n < 4) (i : Fin 256) (q : Fin 1024)
  (b : Fin 4) (s : Fin 2048) (R : Fin 2048 → Fin 8192) (hR : ∀ s, (R s : ℕ) = 2048 * b + s)
  (E : Fin 1024 → Fin 6144) (hE : ∀ q, (E q : ℕ) = 1024 * (t.val % 6) + q)
  (hb : (b : ℕ) = t.val / 6 / 2) (hs : (s : ℕ) = 1024 * (t.val / 6 % 2) + (256 * n + i))

include hn hR hE hb hs

/-- The queries' columns. -/
theorem colA (h : t.val % 6 = 0) :
    tileQ (mmI (hnI (iblk m c 0 t) (iblk m c 1 t) n) (iblk m c 2 t)) (rowsT (iblk m c 3 t) n) (rowsT (iblk m c 4 t) n) (ix2 i q)
      = resA m c (ix2 (R s) (E q)) := by
  have hr : (R s : ℕ) = 1024 * (t.val / 6) + (256 * n + i) := by rw [hR]; omega
  refine (tileQ_at _ _ _ i q).trans (Eq.trans ?_ (inR_q _ _ _ _ _ b s R hR q E (fun q => by rw [hE, h])).symm)
  have e1 : (fun q => mmI (hnI (iblk m c 0 t) (iblk m c 1 t) n) (iblk m c 2 t) (ix3 0 i q)) = fun q => pA m c (R s) (E q) :=
    funext fun q => prod_of m c t _ i (R s) (fun k => norm_at m c t n hn i (R s) hr k) q (E q) (hE q)
  have e2 : (fun d => (rowsT (iblk m c 3 t) n : Vec Ideal S256x128 .f32) (ix2 i d)) = fun d => Host.cos angR (ix2 s d) :=
    funext fun d => cos_at m c t n hn i s hs d
  have e3 : (fun d => (rowsT (iblk m c 4 t) n : Vec Ideal S256x128 .f32) (ix2 i d)) = fun d => Host.sin angR (ix2 s d) :=
    funext fun d => sin_at m c t n hn i s hs d
  rw [e1, e2, e3]

/-- The keys' columns. -/
theorem colB (h : t.val % 6 = 1) :
    tileK (mmI (rowsI (outsAt0 m c (t.val - 1) (Nat.lt_of_le_of_lt (Nat.sub_le _ _) t.isLt)).2.1 n) (iblk m c 2 t))
      (rowsT (iblk m c 3 t) n) (rowsT (iblk m c 4 t) n) (ix2 i q) = resA m c (ix2 (R s) (E q)) := by
  have hr : (R s : ℕ) = 1024 * (t.val / 6) + (256 * n + i) := by rw [hR]; omega
  refine (tileK_at _ _ _ i q).trans (Eq.trans ?_ (inR_k _ _ _ _ _ b s R hR q E (fun q => by rw [hE, h])).symm)
  have e1 : (fun q => mmI (rowsI (outsAt0 m c (t.val - 1) (Nat.lt_of_le_of_lt (Nat.sub_le _ _) t.isLt)).2.1 n) (iblk m c 2 t) (ix3 0 i q))
      = fun q => pA m c (R s) (E q) :=
    funext fun q => prodK m c t (by omega) n hn i (R s) hr q (E q) (hE q)
  have e2 : (fun d => (rowsT (iblk m c 3 t) n : Vec Ideal S256x128 .f32) (ix2 i d)) = fun d => Host.cos angR (ix2 s d) :=
    funext fun d => cos_at m c t n hn i s hs d
  have e3 : (fun d => (rowsT (iblk m c 4 t) n : Vec Ideal S256x128 .f32) (ix2 i d)) = fun d => Host.sin angR (ix2 s d) :=
    funext fun d => sin_at m c t n hn i s hs d
  rw [e1, e2, e3]

/-- The values' columns. -/
theorem colC (h : t.val % 6 = 2) (p : Fin 1024) (hp : (p : ℕ) = 256 * n + i) :
    k0_pay2 (outsAt0 m c (t.val - 1) (Nat.lt_of_le_of_lt (Nat.sub_le _ _) t.isLt)).2.1 (iblk m c 2 t) (ix2 p q)
      = resA m c (ix2 (R s) (E q)) := by
  have hr : (R s : ℕ) = 1024 * (t.val / 6) + p := by rw [hR]; omega
  refine (mmV_at _ _ p q).trans (Eq.trans ?_ (inR_v _ _ _ _ _ b s R hR q E (fun q => by rw [hE, h])).symm)
  unfold mmS
  exact Finset.sum_congr rfl fun k _ => congrArg₂ (· * ·) (kept_prev m c t (by omega) p (R s) hr k) (w_at m c t k q (E q) (hE q))

/-- The gate's columns. -/
theorem colD (h : t.val % 6 = 3) :
    k0_pay49 (mmI (rowsI (outsAt0 m c (t.val - 1) (Nat.lt_of_le_of_lt (Nat.sub_le _ _) t.isLt)).2.1 n) (iblk m c 2 t)) (ix2 i q)
      = resA m c (ix2 (R s) (E q)) := by
  have hr : (R s : ℕ) = 1024 * (t.val / 6) + (256 * n + i) := by rw [hR]; omega
  refine (tileG_at _ i q).trans (Eq.trans ?_ (inR_g _ _ _ _ _ b s R hR q E (fun q => by rw [hE, h])).symm)
  exact congrArg siluS (prodK m c t (by omega) n hn i (R s) hr q (E q) (hE q))

/-- The convolved columns. -/
theorem colE (h : t.val % 6 = 4) :
    tileC (mmI (rowsI (outsAt0 m c (t.val - 1) (Nat.lt_of_le_of_lt (Nat.sub_le _ _) t.isLt)).2.1 n) (iblk m c 2 t))
      (aboveI (grid0.coords t) (outsAt0 m c (t.val - 1) (Nat.lt_of_le_of_lt (Nat.sub_le _ _) t.isLt)).2.2
        (fun k => mmI (rowsI (outsAt0 m c (t.val - 1) (Nat.lt_of_le_of_lt (Nat.sub_le _ _) t.isLt)).2.1 k) (iblk m c 2 t)) n)
      (iblk m c 5 t) (iblk m c 6 t) (ix2 i q) = resA m c (ix2 (R s) (E q)) := by
  have hEq : (E q : ℕ) = 1024 * 4 + q := by rw [hE, h]
  refine (tileC_at _ _ _ _ i q).trans (Eq.trans ?_ (inR_c _ _ _ _ _ b s R hR q E (fun q => by rw [hE, h])).symm)
  have hB : ∀ j, j ≤ 8 → backC (k0_pay58 (mmI (rowsI (outsAt0 m c (t.val - 1) (Nat.lt_of_le_of_lt (Nat.sub_le _ _) t.isLt)).2.1 n) (iblk m c 2 t)))
      (aboveI (grid0.coords t) (outsAt0 m c (t.val - 1) (Nat.lt_of_le_of_lt (Nat.sub_le _ _) t.isLt)).2.2
        (fun k => mmI (rowsI (outsAt0 m c (t.val - 1) (Nat.lt_of_le_of_lt (Nat.sub_le _ _) t.isLt)).2.1 k) (iblk m c 2 t)) n) i q j
      = backS (fun s => pA m c (R s) (E q)) s j := fun j hj =>
    back_eq _ _ q (fun s => pA m c (R s) (E q)) (1024 * (t.val / 6 % 2) + 256 * n)
      (fun i s hs => (drop_at _ i q).trans (prodK m c t (by omega) n hn i (R s) (by rw [hR]; omega) q (E q) (hE q)))
      (fun a s hs => (above_at m c t h n hn a q (E q) hEq).1 (R s) (by omega) (by rw [hR]; omega))
      (fun a hz => (above_at m c t h n hn a q (E q) hEq).2 hz) i s (by omega) j hj
  rw [hB 0 (by omega), hB 1 (by omega), hB 2 (by omega), hB 3 (by omega)]
  rw [taps_at m c t 3 q, taps_at m c t 2 q, taps_at m c t 1 q, taps_at m c t 0 q, bias_at m c t q]
  unfold convS
  exact sum_order (backS (fun s => pA m c (R s) (E q)) s 0 * m ((c : Thread nD τ).loc main_arg3) (ix3 0 3 q))
    (backS (fun s => pA m c (R s) (E q)) s 1 * m ((c : Thread nD τ).loc main_arg3) (ix3 0 2 q))
    (backS (fun s => pA m c (R s) (E q)) s 2 * m ((c : Thread nD τ).loc main_arg3) (ix3 0 1 q))
    (backS (fun s => pA m c (R s) (E q)) s 3 * m ((c : Thread nD τ).loc main_arg3) (ix3 0 0 q))
    (m ((c : Thread nD τ).loc main_arg4) (ix2 0 q))

/-- The other gate's columns. -/
theorem colF (h : t.val % 6 = 5) :
    k0_pay89 (mmI (rowsI (outsAt0 m c (t.val - 1) (Nat.lt_of_le_of_lt (Nat.sub_le _ _) t.isLt)).2.1 n) (iblk m c 2 t)) (ix2 i q)
      = resA m c (ix2 (R s) (E q)) := by
  have hr : (R s : ℕ) = 1024 * (t.val / 6) + (256 * n + i) := by rw [hR]; omega
  refine (tileY_at _ i q).trans (Eq.trans ?_ (inR_y _ _ _ _ _ b s R hR q E (fun q => by rw [hE, h])).symm)
  exact congrArg geluS (prodK m c t (by omega) n hn i (R s) hr q (E q) (hE q))

end Cert.InEvenIdeal.Value

end
-- ==== Proof.InEven.Whole.lean ====
/- The result array of the even sublayer's input projection, put together. -/
module

public import proofs.«01_k».proof.Proof.InEven.Result

@[expose] public section

set_option maxRecDepth 16384

noncomputable section

open Idealize.ShloMosaic Idealize.ShloMosaic.TcCoe Idealize.SL.Sem

namespace Cert.InEvenIdeal.Value

open Cert.InEvenIdeal Cert.InEvenIdeal.Gen Cert.InEvenIdeal.Hand Cert.InSpec Cert.InEvenSpec
open Cert.InEvenRefIdeal.Value (inR inR_q inR_k inR_v inR_g inR_c inR_y pS angR)

variable (m : (ℓ : Loc nD τ sig) → Buf (Elt Ideal) ℓ)

set_option maxHeartbeats 1600000 in
/-- The result is the reference's. -/
theorem result7 (c : Dev nD) : (dats m 0 c).arrAt 7 (cfgs 0).N
    = inR (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  blk_simp
  rw [after0_7]
  have ht : t.val < 48 := lt_of_lt_of_eq t.isLt N_0
  have hy0 : (y 0 : ℕ) < 1024 := (y 0).isLt
  have hy1 : (y 1 : ℕ) < 1024 := (y 1).isLt
  obtain ⟨p, hp⟩ : ∃ p : Fin 1024, (p : ℕ) = y 0 := ⟨⟨y 0, hy0⟩, rfl⟩
  obtain ⟨n, hn⟩ : ∃ r : Fin 4, (r : ℕ) = y 0 / 256 := ⟨⟨y 0 / 256, by omega⟩, rfl⟩
  obtain ⟨i, hi⟩ : ∃ i : Fin 256, (i : ℕ) = y 0 % 256 := ⟨⟨y 0 % 256, by omega⟩, rfl⟩
  obtain ⟨q, hq⟩ : ∃ e : Fin 1024, (e : ℕ) = y 1 := ⟨⟨y 1, hy1⟩, rfl⟩
  obtain ⟨b, hb⟩ : ∃ b : Fin 4, (b : ℕ) = t.val / 6 / 2 := ⟨⟨t.val / 6 / 2, by omega⟩, rfl⟩
  obtain ⟨s, hs⟩ : ∃ s : Fin 2048, (s : ℕ) = 1024 * (t.val / 6 % 2) + (256 * n + i) :=
    ⟨⟨1024 * (t.val / 6 % 2) + (256 * n + i), by omega⟩, rfl⟩
  obtain ⟨R, hR⟩ : ∃ R : Fin 2048 → Fin 8192, ∀ s, (R s : ℕ) = 2048 * b + s := ⟨fun s => ⟨2048 * b + s, by omega⟩, fun _ => rfl⟩
  obtain ⟨E, hE⟩ : ∃ E : Fin 1024 → Fin 6144, ∀ q, (E q : ℕ) = 1024 * (t.val % 6) + q :=
    ⟨fun q => ⟨1024 * (t.val % 6) + q, by omega⟩, fun _ => rfl⟩
  have hx0 : (y 0 : ℕ) = 256 * n + i := by omega
  have hRs : (R s : ℕ) = 1024 * (t.val / 6) + y 0 := by rw [hR]; omega
  have hEq : (E q : ℕ) = 1024 * (t.val % 6) + y 1 := by rw [hE]; omega
  have key : (outsAt0 m c t.val t.isLt).1 y
      = inR (m ((c : Thread nD τ).loc main_arg0)) (m ((c : Thread nD τ).loc main_arg1)) (m ((c : Thread nD τ).loc main_arg2))
        (m ((c : Thread nD τ).loc main_arg3)) (m ((c : Thread nD τ).loc main_arg4)) (ix2 (R s) (E q)) := by
    by_cases h0 : t.val % 6 = 0
    · exact (outA_eq m c t h0 (by omega) (by omega) (by omega) (by omega) (by omega) y n (ix2 i q) hx0 hq.symm).trans
        (colA m c t n n.isLt i q b s R hR E hE hb hs h0)
    by_cases h1 : t.val % 6 = 1
    · exact (outB_eq m c t h0 h1 (by omega) (by omega) (by omega) (by omega) y n (ix2 i q) hx0 hq.symm).trans
        (colB m c t n n.isLt i q b s R hR E hE hb hs h1)
    by_cases h2 : t.val % 6 = 2
    · refine (outC_eq m c t h0 h1 h2 (by omega) (by omega) (by omega) y).trans ?_
      obtain rfl : y = ix2 p q := by funext a; match a with | 0 => exact Fin.ext hp.symm | 1 => exact Fin.ext hq.symm
      exact colC m c t n n.isLt i q b s R hR E hE hb hs h2 p (by omega)
    by_cases h3 : t.val % 6 = 3
    · exact (outD_eq m c t h0 h1 h2 h3 (by omega) (by omega) y n (ix2 i q) hx0 hq.symm).trans
        (colD m c t n n.isLt i q b s R hR E hE hb hs h3)
    by_cases h4 : t.val % 6 = 4
    · exact (outE_eq m c t h0 h1 h2 h3 h4 (by omega) y n (ix2 i q) hx0 hq.symm).trans
        (colE m c t n n.isLt i q b s R hR E hE hb hs h4)
    · exact (outF_eq m c t h0 h1 h2 h3 h4 (by omega) y n (ix2 i q) hx0 hq.symm).trans
        (colF m c t n n.isLt i q b s R hR E hE hb hs (by omega))
  refine key.trans ?_
  clear key
  generalize R s = r at hRs ⊢
  generalize E q = e at hEq ⊢
  clear hR hE hs hb hn hi hp hq hx0 s b n i p q R E
  blk_ext [idx t]

end Cert.InEvenIdeal.Value

end
-- ==== Proof.InEven.Same.lean ====
/- The program as written is the program of the run, taken at the bits. -/
module

public import proofs.«01_k».proof.Defs
public import proofs.«01_k».proof.Proof.Gen.InEven.Skeleton
public import proofs.«01_k».proof.Proof.Gen.InEvenIdeal.Skeleton

@[expose] public section

set_option maxRecDepth 65536

noncomputable section

open Idealize.ShloMosaic Idealize.SL.Sem

namespace Cert.Proof.InEvenClaims

attribute [local instance] Cert.InEven.Gen.facts Cert.InEvenIdeal.Gen.facts

/-- The kernel body is the same term in both prints. -/
theorem body_eq : Cert.InEven.cc0_norm_matmul (F := Bits) = Cert.InEvenIdeal.cc0_norm_matmul (F := Bits) := rfl

/-- So the table of the kernel bodies is the same: it has one label. -/
theorem bodies_eq : Cert.InEven.defs₀ (F := Bits) = Cert.InEvenIdeal.defs₀ (F := Bits) := by
  unfold Cert.InEven.defs₀ Cert.InEvenIdeal.defs₀
  refine congrArg (Defs.onTc (nD := Cert.InEvenIdeal.nD) (τ := Cert.InEvenIdeal.τ) (sig := Cert.InEvenIdeal.sig)) ?_
  funext l x
  match l, x with
  | ⟨0, _⟩, (t, s) => rfl

/-- And the table with the pipelines over it. -/
theorem defs_eq : Cert.InEven.defs (F := Bits) = Cert.InEvenIdeal.defs (F := Bits) :=
  congrArg (Pipeline.defs (Cert.InEvenIdeal.pcfgs (F := Bits))) bodies_eq

end Cert.Proof.InEvenClaims

end
-- ==== Proof.InEven.Claims.lean ====
/- The claims of the even sublayer's input projection. -/
module

public import proofs.«01_k».proof.Defs
public import proofs.«01_k».proof.Proof.Gen.InEven
public import proofs.«01_k».proof.Proof.InEven.Whole
public import proofs.«01_k».proof.Proof.InEven.Same
public import Idealize.ShloMosaic.Lib.Quiescent

@[expose] public section

set_option maxRecDepth 65536

noncomputable section

open Idealize.ShloMosaic Idealize.SL.Sem

namespace Cert.Proof.InEvenClaims

/-- The kernel's program as written: it ends, with its arguments kept and every counter at zero. It is the program of
    the run over any floats, taken at the bits. -/
theorem frame_p : Cert.quiescent_InEven (hInEven := Cert.InEven.Gen.facts) := fun m ρ _ => by
  rw [defs_eq]
  exact Cert.InEvenIdeal.Hand.frame (F := Bits) m ρ

/-- The same of the kernel over the extended reals. -/
theorem frame_pi : Cert.quiescent_InEvenIdeal (hInEvenIdeal := Cert.InEvenIdeal.Gen.facts) := fun m ρ _ =>
  Cert.InEvenIdeal.Hand.frame m ρ

/-- The same of the reference: it declares no semaphore. -/
theorem frame_ri : Cert.quiescent_InEvenRefIdeal (hInEvenRefIdeal := Cert.InEvenRefIdeal.Gen.facts) := fun m ρ _ =>
  (θ_run Cert.InEvenRefIdeal.defs _ _).mono (fun r h => ⟨fun c => (h c).2,
      Idealize.ShloMosaic.sem_eq_zero_of_no_sems (by decide) r.2⟩)
    (Cert.InEvenRefIdeal.Value.run (F := Ideal) m ρ)

/-- Kernel and reference end with equal results over the extended reals. -/
theorem algebraic : Cert.algebraic_InEvenIdeal_InEvenRefIdeal (hInEvenIdeal := Cert.InEvenIdeal.Gen.facts)
    (hInEvenRefIdeal := Cert.InEvenRefIdeal.Gen.facts) := by
  intro m ρ m' ρ' _ hag
  refine ⟨fun c => (Cert.InEvenIdeal.Hand.dats m 0 c).arrAt 7 Cert.InEvenIdeal.cfg0.N,
    Cert.InEvenIdeal.Value.run_blocks (F := Ideal) m ρ, ?_⟩
  refine (θ_run Cert.InEvenRefIdeal.defs _ _).mono (fun _ h c => ⟨(h c).1.trans ?_, (h c).2⟩)
    (Cert.InEvenRefIdeal.Value.run (F := Ideal) m' ρ')
  rw [Cert.InEvenRefIdeal.Value.res_eq, (hag c).1, (hag c).2.1, (hag c).2.2.1, (hag c).2.2.2.1, (hag c).2.2.2.2]
  exact (Cert.InEvenIdeal.Value.result7 m c).symm

end Cert.Proof.InEvenClaims

end
-- ==== Proof.lean ====
module

public import proofs.«01_k».proof.Proof.Gen.RetIdeal.Value
public import proofs.«01_k».proof.Proof.Gen.RetRefIdeal.Run
public import proofs.«01_k».proof.Proof.Gen.DownIdeal.Value
public import proofs.«01_k».proof.Proof.Gen.DownRefIdeal.Run
public import proofs.«01_k».proof.Proof.Gen.OutIdeal.Value
public import proofs.«01_k».proof.Proof.Gen.OutRefIdeal.Run
public import proofs.«01_k».proof.Proof.Gen.UpRefIdeal.Run
public import proofs.«01_k».proof.Proof.Ret.Claims
public import proofs.«01_k».proof.Proof.Down.Claims
public import proofs.«01_k».proof.Proof.Up.Claims
public import proofs.«01_k».proof.Proof.Out.Claims
public import proofs.«01_k».proof.Defs
public import proofs.«01_k».proof.Proof.Gen.OutEvenIdeal.Value
public import proofs.«01_k».proof.Proof.Gen.OutEvenRefIdeal.Run
public import proofs.«01_k».proof.Proof.OutEven.Claims
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenRefIdeal
public import proofs.«01_k».proof.Proof.Gen.DownEvenIdeal.Value
public import proofs.«01_k».proof.Proof.Gen.DownEvenRefIdeal.Run
public import proofs.«01_k».proof.Proof.DownEven.Claims
public import proofs.«01_k».proof.Proof.Gen.DownEven
public import proofs.«01_k».proof.Proof.Gen.DownEven.Skeleton
public import proofs.«01_k».proof.Proof.Gen.DownEven.Launch
public import proofs.«01_k».proof.Proof.Gen.DownEven.Points
public import proofs.«01_k».proof.Proof.Gen.DownEven.Frame
public import proofs.«01_k».proof.Proof.Gen.DownEvenIdeal
public import proofs.«01_k».proof.Proof.Gen.DownEvenIdeal.Skeleton
public import proofs.«01_k».proof.Proof.Gen.DownEvenIdeal.Launch
public import proofs.«01_k».proof.Proof.Gen.DownEvenIdeal.Points
public import proofs.«01_k».proof.Proof.Gen.DownEvenIdeal.Frame
public import proofs.«01_k».proof.Proof.Gen.DownEvenRefIdeal
public import proofs.«01_k».proof.Proof.Gen.InIdeal.Value
public import proofs.«01_k».proof.Proof.Gen.InRefIdeal.Run
public import proofs.«01_k».proof.Proof.In.Claims
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InEvenRefIdeal.Run
public import proofs.«01_k».proof.Proof.InEven.Claims
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenRefIdeal
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpRefIdeal
public import Idealize.ShloMosaic.Adequacy
public import Idealize.ShloMosaic.Init

@[expose] public section

noncomputable section

namespace Cert.Proof

open Idealize.ShloMosaic Idealize.SL.Sem Cert.Ret

/-- Everything claimed: for each program the three frames, then what idealizing keeps and the value claim. -/
theorem claim : Cert.Claim := ⟨Cert.Ret.Gen.facts, Cert.RetIdeal.Gen.facts, Cert.RetRefIdeal.Gen.facts,
  Cert.Down.Gen.facts, Cert.DownIdeal.Gen.facts, Cert.DownRefIdeal.Gen.facts,
  Cert.Up.Gen.facts, Cert.UpIdeal.Gen.facts, Cert.UpRefIdeal.Gen.facts,
  Cert.Out.Gen.facts, Cert.OutIdeal.Gen.facts, Cert.OutRefIdeal.Gen.facts,
  Cert.OutEven.Gen.facts, Cert.OutEvenIdeal.Gen.facts, Cert.OutEvenRefIdeal.Gen.facts,
  Cert.DownEven.Gen.facts, Cert.DownEvenIdeal.Gen.facts, Cert.DownEvenRefIdeal.Gen.facts,
  Cert.In.Gen.facts, Cert.InIdeal.Gen.facts, Cert.InRefIdeal.Gen.facts,
  Cert.InEven.Gen.facts, Cert.InEvenIdeal.Gen.facts, Cert.InEvenRefIdeal.Gen.facts,
  Cert.Proof.RetClaims.frame_p, Cert.Proof.RetClaims.frame_pi, Cert.Proof.RetClaims.frame_ri,
  Cert.Proof.DownClaims.frame_p, Cert.Proof.DownClaims.frame_pi, Cert.Proof.DownClaims.frame_ri,
  Cert.Proof.UpClaims.frame_p, Cert.Proof.UpClaims.frame_pi, Cert.Proof.UpClaims.frame_ri,
  Cert.Proof.OutClaims.frame_p, Cert.Proof.OutClaims.frame_pi, Cert.Proof.OutClaims.frame_ri,
  Cert.Proof.OutEvenClaims.frame_p, Cert.Proof.OutEvenClaims.frame_pi, Cert.Proof.OutEvenClaims.frame_ri,
  Cert.Proof.DownEvenClaims.frame_p, Cert.Proof.DownEvenClaims.frame_pi, Cert.Proof.DownEvenClaims.frame_ri,
  Cert.Proof.InClaims.frame_p, Cert.Proof.InClaims.frame_pi, Cert.Proof.InClaims.frame_ri,
  Cert.Proof.InEvenClaims.frame_p, Cert.Proof.InEvenClaims.frame_pi, Cert.Proof.InEvenClaims.frame_ri,
  trivial, Cert.Proof.RetClaims.algebraic,
  trivial, Cert.Proof.DownClaims.algebraic,
  trivial, Cert.Proof.UpClaims.algebraic,
  trivial, Cert.Proof.OutClaims.algebraic,
  trivial, Cert.Proof.OutEvenClaims.algebraic,
  trivial, Cert.Proof.DownEvenClaims.algebraic,
  trivial, Cert.Proof.InClaims.algebraic,
  trivial, Cert.Proof.InEvenClaims.algebraic⟩

end Cert.Proof

end
